-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite1 [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite1 [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite1 [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite1 [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def preserves_Kernel_KernelIdeal : Prop :=
  True

def algebraic_KernelIdeal_ReferenceIdeal_pre_finite1 [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v7) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v5_0)) (v1 : (c : Dev Cert.Kernel24Ideal.nD) → Buf (Elt Ideal) ((c.tc : Thread Cert.Kernel24Ideal.nD Cert.Kernel24Ideal.τ).loc Cert.Kernel24Ideal.main_v5_1)) (v2 : (c : Dev Cert.Kernel24Ideal.nD) → Buf (Elt Ideal) ((c.tc : Thread Cert.Kernel24Ideal.nD Cert.Kernel24Ideal.τ).loc Cert.Kernel24Ideal.main_v5_2)) (v3 : (c : Dev Cert.Kernel24Ideal.nD) → Buf (Elt Ideal) ((c.tc : Thread Cert.Kernel24Ideal.nD Cert.Kernel24Ideal.τ).loc Cert.Kernel24Ideal.main_v5_3)) (v4 : (c : Dev Cert.Kernel24Ideal.nD) → Buf (Elt Ideal) ((c.tc : Thread Cert.Kernel24Ideal.nD Cert.Kernel24Ideal.τ).loc Cert.Kernel24Ideal.main_v5_4)) (v5 : (c : Dev Cert.Kernel24Ideal.nD) → Buf (Elt Ideal) ((c.tc : Thread Cert.Kernel24Ideal.nD Cert.Kernel24Ideal.τ).loc Cert.Kernel24Ideal.main_v5_5)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5_0) = v0 c
          ∧ r.2.mem ((c.tc : Thread Cert.Kernel24Ideal.nD Cert.Kernel24Ideal.τ).loc Cert.Kernel24Ideal.main_v5_1) = v1 c
          ∧ r.2.mem ((c.tc : Thread Cert.Kernel24Ideal.nD Cert.Kernel24Ideal.τ).loc Cert.Kernel24Ideal.main_v5_2) = v2 c
          ∧ r.2.mem ((c.tc : Thread Cert.Kernel24Ideal.nD Cert.Kernel24Ideal.τ).loc Cert.Kernel24Ideal.main_v5_3) = v3 c
          ∧ r.2.mem ((c.tc : Thread Cert.Kernel24Ideal.nD Cert.Kernel24Ideal.τ).loc Cert.Kernel24Ideal.main_v5_4) = v4 c
          ∧ r.2.mem ((c.tc : Thread Cert.Kernel24Ideal.nD Cert.Kernel24Ideal.τ).loc Cert.Kernel24Ideal.main_v5_5) = v5 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v47) = v0 c
          ∧ r.2.mem ((c.tc : Thread Cert.Reference24Ideal.nD Cert.Reference24Ideal.τ).loc Cert.Reference24Ideal.main_v48) = v1 c
          ∧ r.2.mem ((c.tc : Thread Cert.Reference24Ideal.nD Cert.Reference24Ideal.τ).loc Cert.Reference24Ideal.main_v49) = v2 c
          ∧ r.2.mem ((c.tc : Thread Cert.Reference24Ideal.nD Cert.Reference24Ideal.τ).loc Cert.Reference24Ideal.main_v50) = v3 c
          ∧ r.2.mem ((c.tc : Thread Cert.Reference24Ideal.nD Cert.Reference24Ideal.τ).loc Cert.Reference24Ideal.main_v51) = v4 c
          ∧ r.2.mem ((c.tc : Thread Cert.Reference24Ideal.nD Cert.Reference24Ideal.τ).loc Cert.Reference24Ideal.main_v52) = v5 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite1 : Cert.Pre_finite1.Facts) (hPre_finite2 : Cert.Pre_finite2.Facts),
    quiescent_Kernel (hKernel := hKernel)
    ∧ quiescent_KernelIdeal (hKernelIdeal := hKernelIdeal)
    ∧ quiescent_KernelIdeal_pre_finite1 (hKernelIdeal := hKernelIdeal) (hPre_finite1 := hPre_finite1)
    ∧ quiescent_ReferenceIdeal (hReferenceIdeal := hReferenceIdeal)
    ∧ quiescent_ReferenceIdeal_pre_finite1 (hReferenceIdeal := hReferenceIdeal) (hPre_finite1 := hPre_finite1)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite1 (hKernelIdeal := hKernelIdeal) (hReferenceIdeal := hReferenceIdeal) (hPre_finite1 := hPre_finite1)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite1.lean ====
abbrev S4096x1536 : Shape := ⟨2, ![4096, 1536]⟩
abbrev S4096x2048 : Shape := ⟨2, ![4096, 2048]⟩
abbrev S4096x64 : Shape := ⟨2, ![4096, 64]⟩
abbrev S4096x32 : Shape := ⟨2, ![4096, 32]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  bcast_S_S4096x2048 : S_.BroadcastsInDim S4096x2048 (![] : Fin 0 → Fin S4096x2048.rank)
  bcast_S_S4096x64 : S_.BroadcastsInDim S4096x64 (![] : Fin 0 → Fin S4096x64.rank)
  bcast_S_S4096x32 : S_.BroadcastsInDim S4096x32 (![] : Fin 0 → Fin S4096x32.rank)
  bcast_S_S4096x1024 : S_.BroadcastsInDim S4096x1024 (![] : Fin 0 → Fin S4096x1024.rank)

variable [Facts]

def fn {F : FTy → Type} [FloatOps F] (main_arg0 : FVec F S4096x1536 .f32) (main_arg1 : FVec F S4096x2048 .f32) (main_arg2 : FVec F S4096x64 .f32) (main_arg3 : FVec F S4096x32 .f32) (main_arg4 : FVec F S4096x32 .f32) (main_arg5 : FVec F S4096x1024 .f32) : IVec S4096x1536 1 × IVec S4096x2048 1 × IVec S4096x64 1 × IVec S4096x32 1 × IVec S4096x32 1 × IVec S4096x1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_v12 : FVec F S4096x32 .f32 := Host.absf main_arg4
  let main_cst_3 : FVec F S_ .f32 := constant S_ .f32 0x7F800000#32
  let main_v13 : FVec F S4096x32 .f32 := broadcastInDim S4096x32 ![] bcast_S_S4096x32 main_cst_3
  let main_v14 : IVec S4096x32 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite2.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .f32) (main_arg2 : FVec F S4096x2816 .f32) (main_arg3 : FVec F S4096x2816 .f32) : IVec S4096x1024 1 × IVec S2816x1024 1 × IVec S4096x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x2816 .f32 := Host.absf main_arg2
  let main_cst_1 : FVec F S_ .f32 := constant S_ .f32 0x7F800000#32
  let main_v7 : FVec F S4096x2816 .f32 := broadcastInDim S4096x2816 ![] bcast_S_S4096x2816 main_cst_1
  let main_v8 : IVec S4096x2816 1 := cmpf .olt main_v6 main_v7
  let main_v9 : FVec F S4096x2816 .f32 := Host.absf main_arg3
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  (main_v2, main_v5, main_v8, main_v11)
-- ==== Kernel.lean ====
abbrev S4096x1536 : Shape := ⟨2, ![4096, 1536]⟩
abbrev S4096x2048 : Shape := ⟨2, ![4096, 2048]⟩
abbrev S4096x64 : Shape := ⟨2, ![4096, 64]⟩
abbrev S4096x32 : Shape := ⟨2, ![4096, 32]⟩
abbrev S4096x1024 : Shape := ⟨2, ![4096, 1024]⟩
abbrev S4096x8x192 : Shape := ⟨3, ![4096, 8, 192]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x8x256 : Shape := ⟨3, ![4096, 8, 256]⟩
abbrev S4096x1x64 : Shape := ⟨3, ![4096, 1, 64]⟩
abbrev S8x4096x4096 : Shape := ⟨3, ![8, 4096, 4096]⟩
abbrev S_ : Shape := ⟨0, ![]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x128 : Shape := ⟨2, ![4096, 128]⟩
abbrev S512x256 : Shape := ⟨2, ![512, 256]⟩
abbrev S4096x256 : Shape := ⟨2, ![4096, 256]⟩
abbrev S512x128 : Shape := ⟨2, ![512, 128]⟩
abbrev S1x512x1 : Shape := ⟨3, ![1, 512, 1]⟩
abbrev S8x256x512 : Shape := ⟨3, ![8, 256, 512]⟩
abbrev S8x128x512 : Shape := ⟨3, ![8, 128, 512]⟩
abbrev S256x512 : Shape := ⟨2, ![256, 512]⟩
abbrev S128x512 : Shape := ⟨2, ![128, 512]⟩
abbrev S512 : Shape := ⟨1, ![512]⟩
abbrev S512x1 : Shape := ⟨2, ![512, 1]⟩
abbrev S512x512 : Shape := ⟨2, ![512, 512]⟩
abbrev S1x256x512 : Shape := ⟨3, ![1, 256, 512]⟩
abbrev S1x128x512 : Shape := ⟨3, ![1, 128, 512]⟩

abbrev nBuf : Space → Nat
  | .hbm => 113
  | .vmem => 25
  | .smem => 0
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x64, .f32⟩
  | .hbm, ⟨3, _⟩ => ⟨S4096x32, .f32⟩
  | .hbm, ⟨4, _⟩ => ⟨S4096x32, .f32⟩
  | .hbm, ⟨5, _⟩ => ⟨S4096x1024, .f32⟩
  | .hbm, ⟨6, _⟩ => ⟨S4096x8x192, .f32⟩
  | .hbm, ⟨7, _⟩ => ⟨S4096x8x128, .f32⟩
  | .hbm, ⟨8, _⟩ => ⟨S4096x8x64, .f32⟩
  | .hbm, ⟨9, _⟩ => ⟨S4096x1x32, .f32⟩
  | .hbm, ⟨10, _⟩ => ⟨S4096x1x32, .f32⟩
  | .hbm, ⟨11, _⟩ => ⟨S4096x8x32, .f32⟩
  | .hbm, ⟨12, _⟩ => ⟨S4096x8x32, .f32⟩
  | .hbm, ⟨13, _⟩ => ⟨S4096x8x32, .f32⟩
  | .hbm, ⟨14, _⟩ => ⟨S4096x8x32, .f32⟩
  | .hbm, ⟨15, _⟩ => ⟨S4096x8x32, .f32⟩
  | .hbm, ⟨16, _⟩ => ⟨S4096x8x32, .f32⟩
  | .hbm, ⟨17, _⟩ => ⟨S4096x8x32, .f32⟩
  | .hbm, ⟨18, _⟩ => ⟨S4096x8x32, .f32⟩
  | .hbm, ⟨19, _⟩ => ⟨S4096x8x32, .f32⟩
  | .hbm, ⟨20, _⟩ => ⟨S4096x8x32, .f32⟩
  | .hbm, ⟨21, _⟩ => ⟨S4096x8x32, .f32⟩
  | .hbm, ⟨22, _⟩ => ⟨S4096x8x32, .f32⟩
  | .hbm, ⟨23, _⟩ => ⟨S4096x8x64, .f32⟩
  | .hbm, ⟨24, _⟩ => ⟨S4096x8x256, .f32⟩
  | .hbm, ⟨25, _⟩ => ⟨S4096x8x128, .f32⟩
  | .hbm, ⟨26, _⟩ => ⟨S4096x8x128, .f32⟩
  | .hbm, ⟨27, _⟩ => ⟨S4096x1x64, .f32⟩
  | .hbm, ⟨28, _⟩ => ⟨S4096x8x64, .f32⟩
  | .hbm, ⟨29, _⟩ => ⟨S4096x8x192, .f32⟩
  | .hbm, ⟨30, _⟩ => ⟨S4096x8x192, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S4096x4096, .i32⟩
  | .hbm, ⟨36, _⟩ => ⟨S_, .i32⟩
  | .hbm, ⟨37, _⟩ => ⟨S_, .i32⟩
  | .hbm, ⟨38, _⟩ => ⟨S4096x4096, .i32⟩
  | .hbm, ⟨39, _⟩ => ⟨S4096x4096, .i32⟩
  | .hbm, ⟨40, _⟩ => ⟨S4096x4096, .i32⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i1⟩
  | .hbm, ⟨49, _⟩ => ⟨S4096x4096, .i1⟩
  | .hbm, ⟨50, _⟩ => ⟨S_, .i32⟩
  | .hbm, ⟨51, _⟩ => ⟨S4096x4096, .i32⟩
  | .hbm, ⟨52, _⟩ => ⟨S4096x4096, .i32⟩
  | .hbm, ⟨53, _⟩ => ⟨S4096x4096, .i32⟩
  | .hbm, ⟨54, _⟩ => ⟨S4096x4096, .i32⟩
  | .hbm, ⟨55, _⟩ => ⟨S_, .i32⟩
  | .hbm, ⟨56, _⟩ => ⟨S_, .i32⟩
  | .hbm, ⟨57, _⟩ => ⟨S4096x4096, .i32⟩
  | .hbm, ⟨58, _⟩ => ⟨S4096x4096, .i32⟩
  | .hbm, ⟨59, _⟩ => ⟨S4096x4096, .i32⟩
  | .hbm, ⟨60, _⟩ => ⟨S_, .i32⟩
  | .hbm, ⟨61, _⟩ => ⟨S4096x4096, .i32⟩
  | .hbm, ⟨62, _⟩ => ⟨S4096x4096, .i1⟩
  | .hbm, ⟨63, _⟩ => ⟨S4096x4096, .i32⟩
  | .hbm, ⟨64, _⟩ => ⟨S4096x4096, .i32⟩
  | .hbm, ⟨65, _⟩ => ⟨S_, .i32⟩
  | .hbm, ⟨66, _⟩ => ⟨S4096x4096, .i32⟩
  | .hbm, ⟨67, _⟩ => ⟨S4096x4096, .i1⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i32⟩
  | .hbm, ⟨72, _⟩ => ⟨S4096x4096, .i32⟩
  | .hbm, ⟨73, _⟩ => ⟨S4096x4096, .i1⟩
  | .hbm, ⟨74, _⟩ => ⟨S1x4096x4096, .i1⟩
  | .hbm, ⟨75, _⟩ => ⟨S_, .f32⟩
  | .hbm, ⟨76, _⟩ => ⟨S_, .f32⟩
  | .hbm, ⟨77, _⟩ => ⟨S8x4096x4096, .i1⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S8x4096x4096, .f32⟩
  | .hbm, ⟨90, _⟩ => ⟨S8x4096x4096, .f32⟩
  | .hbm, ⟨91, _⟩ => ⟨S8x128x4096, .f32⟩
  | .hbm, ⟨92, _⟩ => ⟨S4096x8x128, .f32⟩
  | .hbm, ⟨93, _⟩ => ⟨S4096x1024, .f32⟩
  | .hbm, ⟨94, _⟩ => ⟨S8x4096x1, .f32⟩
  | .hbm, ⟨95, _⟩ => ⟨S8x4096x1, .f32⟩
  | .hbm, ⟨96, _⟩ => ⟨S_, .f32⟩
  | .hbm, ⟨97, _⟩ => ⟨S4096x64, .f32⟩
  | .hbm, ⟨98, _⟩ => ⟨S_, .f32⟩
  | .hbm, ⟨99, _⟩ => ⟨S4096x8x64, .f32⟩
  | .hbm, ⟨100, _⟩ => ⟨S4096x8x256, .f32⟩
  | .hbm, ⟨101, _⟩ => ⟨S4096x2048, .f32⟩
  | .hbm, ⟨102, _⟩ => ⟨S4096x128, .f32⟩
  | .hbm, ⟨103, _⟩ => ⟨S4096x128, .f32⟩
  | .hbm, ⟨104, _⟩ => ⟨S4096x128, .f32⟩
  | .hbm, ⟨105, _⟩ => ⟨S4096x2048, .bf16⟩
  | .hbm, ⟨106, _⟩ => ⟨S4096x2048, .bf16⟩
  | .hbm, ⟨107, _⟩ => ⟨S4096x128, .bf16⟩
  | .hbm, ⟨108, _⟩ => ⟨S4096x1024, .bf16⟩
  | .hbm, ⟨109, _⟩ => ⟨S4096x1024, .bf16⟩
  | .hbm, ⟨110, _⟩ => ⟨S4096x2048, .bf16⟩
  | .hbm, ⟨111, _⟩ => ⟨S4096x2048, .f32⟩
  | .hbm, ⟨112, _⟩ => ⟨S4096x128, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S512x128, .bf16⟩
  | .local _ .vmem, ⟨6, _⟩ => ⟨S512x128, .bf16⟩
  | .local _ .vmem, ⟨7, _⟩ => ⟨S1x512x1, .f32⟩
  | .local _ .vmem, ⟨8, _⟩ => ⟨S1x512x1, .f32⟩
  | .local _ .vmem, ⟨9, _⟩ => ⟨S512x128, .bf16⟩
  | .local _ .vmem, ⟨10, _⟩ => ⟨S512x128, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x256, .bf16⟩
  | .local _ .vmem, ⟨16, _⟩ => ⟨S512x256, .bf16⟩
  | .local _ .vmem, ⟨17, _⟩ => ⟨S4096x256, .f32⟩
  | .local _ .vmem, ⟨18, _⟩ => ⟨S4096x256, .f32⟩
  | .local _ .vmem, ⟨19, _⟩ => ⟨S4096x128, .f32⟩
  | .local _ .vmem, ⟨20, _⟩ => ⟨S4096x256, .bf16⟩
  | .local _ .vmem, ⟨21, _⟩ => ⟨S512x256, .f32⟩
  | .local _ .vmem, ⟨22, _⟩ => ⟨S8x256x512, .f32⟩
  | .local _ .vmem, ⟨23, _⟩ => ⟨S8x128x512, .f32⟩
  | .local _ .vmem, ⟨24, _⟩ => ⟨S8x128x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v29 : Ref sig .tc := ⟨.hbm, 53, rfl⟩
abbrev main_v30 : Ref sig .tc := ⟨.hbm, 54, rfl⟩
abbrev main_c_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_1 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v34 : Ref sig .tc := ⟨.hbm, 79, rfl⟩
abbrev main_cst_2 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_3 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_4 : Ref sig .tc := ⟨.hbm, 96, rfl⟩
abbrev main_v49 : Ref sig .tc := ⟨.hbm, 97, rfl⟩
abbrev main_cst_5 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61_0 : Ref sig .tc := ⟨.hbm, 110, rfl⟩
abbrev main_v61_1 : Ref sig .tc := ⟨.hbm, 111, rfl⟩
abbrev main_v61_2 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_17 : BitVec 32 := 1#32
  ⟨c0_i32_16, v32, c1_i32_17⟩
def k0_mult1 (i : grid0.Coords) (k0_t1 : Fin (k0_t1_loop i).trips) : BitVec 32 :=
  let c0_i32_16 : BitVec 32 := 0#32
  let c1_i32_17 : BitVec 32 := 1#32
  let arg18 : BitVec 32 := Scf.iv c0_i32_16 c1_i32_17 k0_t1
  let c512_i32_71 : BitVec 32 := 512#32
  let v161 : BitVec 32 := Scalar.muli arg18 c512_i32_71
  v161
def k0_off1 (i : grid0.Coords) (k0_t1 : Fin (k0_t1_loop i).trips) : Fin 2 → Nat :=
  let c0_i32_16 : BitVec 32 := 0#32
  let c1_i32_17 : BitVec 32 := 1#32
  let arg18 : BitVec 32 := Scf.iv c0_i32_16 c1_i32_17 k0_t1
  let c512_i32_71 : BitVec 32 := 512#32
  let v161 : BitVec 32 := Scalar.muli arg18 c512_i32_71
  let v162 : BitVec 32 := v161
  let v163 : Index := Scalar.indexCast v162
  let c0_72 : Index := 0#32
  ![v163.toNat, 0]
def k0_off2 (i : grid0.Coords) (k0_t1 : Fin (k0_t1_loop i).trips) : Fin 2 → Nat :=
  let c0_i32_16 : BitVec 32 := 0#32
  let c1_i32_17 : BitVec 32 := 1#32
  let arg18 : BitVec 32 := Scf.iv c0_i32_16 c1_i32_17 k0_t1
  let c512_i32_71 : BitVec 32 := 512#32
  let v161 : BitVec 32 := Scalar.muli arg18 c512_i32_71
  let v162 : BitVec 32 := v161
  let v171 : Index := Scalar.indexCast v162
  let c128_75 : Index := 128#32
  ![v171.toNat, 128]
def k0_off3 (i : grid0.Coords) (k0_t1 : Fin (k0_t1_loop i).trips) : Fin 3 → Nat :=
  let c0_i32_16 : BitVec 32 := 0#32
  let c1_i32_17 : BitVec 32 := 1#32
  let arg18 : BitVec 32 := Scf.iv c0_i32_16 c1_i32_17 k0_t1
  let v181 : Index := Scalar.indexCast arg18
  let c0_78 : Index := 0#32
  let c0_79 : Index := 0#32
  ![v181.toNat, 0, 0]
def k0_off4 (i : grid0.Coords) (k0_t1 : Fin (k0_t1_loop i).trips) : Fin 3 → Nat :=
  let c0_i32_16 : BitVec 32 := 0#32
  let c1_i32_17 : BitVec 32 := 1#32
  let arg18 : BitVec 32 := Scf.iv c0_i32_16 c1_i32_17 k0_t1
  let v190 : Index := Scalar.indexCast arg18
  let c0_83 : Index := 0#32
  let c0_84 : Index := 0#32
  ![v190.toNat, 0, 0]
@[reducible] def k0_t2_loop (i : grid0.Coords) : Scf.Loop 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let v29 : BitVec 32 := Scalar.addi c0_i32_16 v28
  let c1_i32_18 : BitVec 32 := 1#32
  ⟨v32, v29, c1_i32_18⟩
def k0_mult2 (i : grid0.Coords) (k0_t2 : Fin (k0_t2_loop i).trips) : BitVec 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg18 : BitVec 32 := Scf.iv v32 c1_i32_18 k0_t2
  let c512_i32_71 : BitVec 32 := 512#32
  let v161 : BitVec 32 := Scalar.muli arg18 c512_i32_71
  v161
def k0_off5 (i : grid0.Coords) (k0_t2 : Fin (k0_t2_loop i).trips) : Fin 2 → Nat :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg18 : BitVec 32 := Scf.iv v32 c1_i32_18 k0_t2
  let c512_i32_71 : BitVec 32 := 512#32
  let v161 : BitVec 32 := Scalar.muli arg18 c512_i32_71
  let v162 : BitVec 32 := v161
  let v163 : Index := Scalar.indexCast v162
  let c0_72 : Index := 0#32
  ![v163.toNat, 0]
def k0_off6 (i : grid0.Coords) (k0_t2 : Fin (k0_t2_loop i).trips) : Fin 2 → Nat :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg18 : BitVec 32 := Scf.iv v32 c1_i32_18 k0_t2
  let c512_i32_71 : BitVec 32 := 512#32
  let v161 : BitVec 32 := Scalar.muli arg18 c512_i32_71
  let v162 : BitVec 32 := v161
  let v171 : Index := Scalar.indexCast v162
  let c128_75 : Index := 128#32
  ![v171.toNat, 128]
def k0_off7 (i : grid0.Coords) (k0_t2 : Fin (k0_t2_loop i).trips) : Fin 3 → Nat :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg18 : BitVec 32 := Scf.iv v32 c1_i32_18 k0_t2
  let v181 : Index := Scalar.indexCast arg18
  let c0_78 : Index := 0#32
  let c0_79 : Index := 0#32
  ![v181.toNat, 0, 0]
def k0_off8 (i : grid0.Coords) (k0_t2 : Fin (k0_t2_loop i).trips) : Fin 3 → Nat :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg18 : BitVec 32 := Scf.iv v32 c1_i32_18 k0_t2
  let v190 : Index := Scalar.indexCast arg18
  let c0_83 : Index := 0#32
  let c0_84 : Index := 0#32
  ![v190.toNat, 0, 0]
def k0_mult3 (i : grid0.Coords) : BitVec 32 :=
  let arg1 : BitVec 32 := BitVec.ofNat 32 (i 1).val
  let c512_i32 : BitVec 32 := 512#32
  let v33 : BitVec 32 := Scalar.muli arg1 c512_i32
  v33
def k0_off9 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v35 : Index := Scalar.indexCast v34
  let c0_19 : Index := 0#32
  ![v35.toNat, 0]
def k0_off10 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v96 : Index := Scalar.indexCast v34
  let c128 : Index := 128#32
  ![v96.toNat, 128]
def k0_off11 (i : grid0.Coords) : Fin 3 → Nat :=
  let arg1 : BitVec 32 := BitVec.ofNat 32 (i 1).val
  let v106 : Index := Scalar.indexCast arg1
  let c0_38 : Index := 0#32
  let c0_39 : Index := 0#32
  ![v106.toNat, 0, 0]
def k0_off12 (i : grid0.Coords) : Fin 3 → Nat :=
  let arg1 : BitVec 32 := BitVec.ofNat 32 (i 1).val
  let v115 : Index := Scalar.indexCast arg1
  let c0_43 : Index := 0#32
  let c0_44 : Index := 0#32
  ![v115.toNat, 0, 0]
def k0_cond3 (i : grid0.Coords) : BitVec 1 :=
  let arg1 : BitVec 32 := BitVec.ofNat 32 (i 1).val
  let c7_i32 : BitVec 32 := 7#32
  let v154 : BitVec 1 := Scalar.cmpi .eq arg1 c7_i32
  let v155 : BitVec 32 := Scalar.extui v154
  let c0_i32_68 : BitVec 32 := 0#32
  let v156 : BitVec 1 := Scalar.cmpi .ne v155 c0_i32_68
  v156

@[reducible] def k0_t3_loop : Scf.Loop 32 :=
  let c0_i32_71 : BitVec 32 := 0#32
  let c8_i32 : BitVec 32 := 8#32
  let v161 : BitVec 32 := Scalar.addi c0_i32_71 c8_i32
  let c1_i32_72 : BitVec 32 := 1#32
  ⟨c0_i32_71, v161, c1_i32_72⟩
def k0_mult4 (k0_t3 : Fin k0_t3_loop.trips) : BitVec 32 :=
  let c0_i32_71 : BitVec 32 := 0#32
  let c1_i32_72 : BitVec 32 := 1#32
  let arg18 : BitVec 32 := Scf.iv c0_i32_71 c1_i32_72 k0_t3
  let c512_i32_74 : BitVec 32 := 512#32
  let v162 : BitVec 32 := Scalar.muli arg18 c512_i32_74
  v162
def k0_off13 (k0_t3 : Fin k0_t3_loop.trips) : Fin 3 → Nat :=
  let c0_i32_71 : BitVec 32 := 0#32
  let c1_i32_72 : BitVec 32 := 1#32
  let arg18 : BitVec 32 := Scf.iv c0_i32_71 c1_i32_72 k0_t3
  let v164 : Index := Scalar.indexCast arg18
  let c0_75 : Index := 0#32
  let c0_76 : Index := 0#32
  ![v164.toNat, 0, 0]
def k0_off14 (k0_t3 : Fin k0_t3_loop.trips) : Fin 2 → Nat :=
  let c0_i32_71 : BitVec 32 := 0#32
  let c1_i32_72 : BitVec 32 := 1#32
  let arg18 : BitVec 32 := Scf.iv c0_i32_71 c1_i32_72 k0_t3
  let c512_i32_74 : BitVec 32 := 512#32
  let v162 : BitVec 32 := Scalar.muli arg18 c512_i32_74
  let v163 : BitVec 32 := v162
  let v168 : Index := Scalar.indexCast v163
  let c0_77 : Index := 0#32
  ![v168.toNat, 0]
def k0_off15 (k0_t3 : Fin k0_t3_loop.trips) : Fin 3 → Nat :=
  let c0_i32_71 : BitVec 32 := 0#32
  let c1_i32_72 : BitVec 32 := 1#32
  let arg18 : BitVec 32 := Scf.iv c0_i32_71 c1_i32_72 k0_t3
  let v170 : Index := Scalar.indexCast arg18
  let c0_78 : Index := 0#32
  let c0_79 : Index := 0#32
  ![v170.toNat, 0, 0]
def k0_off16 (k0_t3 : Fin k0_t3_loop.trips) : Fin 2 → Nat :=
  let c0_i32_71 : BitVec 32 := 0#32
  let c1_i32_72 : BitVec 32 := 1#32
  let arg18 : BitVec 32 := Scf.iv c0_i32_71 c1_i32_72 k0_t3
  let c512_i32_74 : BitVec 32 := 512#32
  let v162 : BitVec 32 := Scalar.muli arg18 c512_i32_74
  let v163 : BitVec 32 := v162
  let v174 : Index := Scalar.indexCast v163
  let c128_80 : Index := 128#32
  ![v174.toNat, 128]
def k0_off17 (k0_t3 : Fin k0_t3_loop.trips) : Fin 3 → Nat :=
  let c0_i32_71 : BitVec 32 := 0#32
  let c1_i32_72 : BitVec 32 := 1#32
  let arg18 : BitVec 32 := Scf.iv c0_i32_71 c1_i32_72 k0_t3
  let v179 : Index := Scalar.indexCast arg18
  let c128_83 : Index := 128#32
  let c0_84 : Index := 0#32
  ![v179.toNat, 128, 0]
def k0_cond4 (i : grid0.Coords) : BitVec 1 :=
  let arg1 : BitVec 32 := BitVec.ofNat 32 (i 1).val
  let c7_i32 : BitVec 32 := 7#32
  let v154 : BitVec 1 := Scalar.cmpi .eq arg1 c7_i32
  let arg0 : BitVec 32 := BitVec.ofNat 32 (i 0).val
  let c7_i32_69 : BitVec 32 := 7#32
  let v157 : BitVec 1 := Scalar.cmpi .eq arg0 c7_i32_69
  let v158 : BitVec 1 := Scalar.andi v154 v157
  let v159 : BitVec 32 := Scalar.extui v158
  let c0_i32_70 : BitVec 32 := 0#32
  let v160 : BitVec 1 := Scalar.cmpi .ne v159 c0_i32_70
  v160

@[reducible] def k0_t4_loop : Scf.Loop 32 :=
  let c0_i32_71 : BitVec 32 := 0#32
  let c8_i32 : BitVec 32 := 8#32
  let v161 : BitVec 32 := Scalar.addi c0_i32_71 c8_i32
  let c1_i32_72 : BitVec 32 := 1#32
  ⟨c0_i32_71, v161, c1_i32_72⟩
def k0_mult5 (k0_t4 : Fin k0_t4_loop.trips) : BitVec 32 :=
  let c0_i32_71 : BitVec 32 := 0#32
  let c1_i32_72 : BitVec 32 := 1#32
  let arg18 : BitVec 32 := Scf.iv c0_i32_71 c1_i32_72 k0_t4
  let c512_i32_74 : BitVec 32 := 512#32
  let v162 : BitVec 32 := Scalar.muli arg18 c512_i32_74
  v162
def k0_off18 (k0_t4 : Fin k0_t4_loop.trips) : Fin 3 → Nat :=
  let c0_i32_71 : BitVec 32 := 0#32
  let c1_i32_72 : BitVec 32 := 1#32
  let arg18 : BitVec 32 := Scf.iv c0_i32_71 c1_i32_72 k0_t4
  let v164 : Index := Scalar.indexCast arg18
  let c0_75 : Index := 0#32
  let c0_76 : Index := 0#32
  ![v164.toNat, 0, 0]
def k0_off19 (k0_t4 : Fin k0_t4_loop.trips) : Fin 2 → Nat :=
  let c0_i32_71 : BitVec 32 := 0#32
  let c1_i32_72 : BitVec 32 := 1#32
  let arg18 : BitVec 32 := Scf.iv c0_i32_71 c1_i32_72 k0_t4
  let c512_i32_74 : BitVec 32 := 512#32
  let v162 : BitVec 32 := Scalar.muli arg18 c512_i32_74
  let v163 : BitVec 32 := v162
  let v168 : Index := Scalar.indexCast v163
  let c0_77 : Index := 0#32
  ![v168.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S4096x1536 : Shape := ⟨2, ![4096, 1536]⟩
abbrev S4096x2048 : Shape := ⟨2, ![4096, 2048]⟩
abbrev S4096x64 : Shape := ⟨2, ![4096, 64]⟩
abbrev S4096x32 : Shape := ⟨2, ![4096, 32]⟩
abbrev S4096x1024 : Shape := ⟨2, ![4096, 1024]⟩
abbrev S4096x8x192 : Shape := ⟨3, ![4096, 8, 192]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x8x256 : Shape := ⟨3, ![4096, 8, 256]⟩
abbrev S4096x1x64 : Shape := ⟨3, ![4096, 1, 64]⟩
abbrev S8x4096x4096 : Shape := ⟨3, ![8, 4096, 4096]⟩
abbrev S_ : Shape := ⟨0, ![]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S4096x128 : Shape := ⟨2, ![4096, 128]⟩

abbrev nBuf : Space → Nat
  | .hbm => 188
  | .vmem => 0
  | .smem => 0
  | _ => 0

abbrev hbmTy0_0 (i : Nat) : BufTy := match i % 128 with
  | 0 => ⟨S4096x1536, .f32⟩
  | 1 => ⟨S4096x2048, .f32⟩
  | 2 => ⟨S4096x64, .f32⟩
  | 3 => ⟨S4096x32, .f32⟩
  | 4 => ⟨S4096x32, .f32⟩
  | 5 => ⟨S4096x1024, .f32⟩
  | 6 => ⟨S4096x8x192, .f32⟩
  | 7 => ⟨S4096x8x128, .f32⟩
  | 8 => ⟨S4096x8x64, .f32⟩
  | 9 => ⟨S4096x1x32, .f32⟩
  | 10 => ⟨S4096x1x32, .f32⟩
  | 11 => ⟨S4096x8x32, .f32⟩
  | 12 => ⟨S4096x8x32, .f32⟩
  | 13 => ⟨S4096x8x32, .f32⟩
  | 14 => ⟨S4096x8x32, .f32⟩
  | 15 => ⟨S4096x8x32, .f32⟩
  | 16 => ⟨S4096x8x32, .f32⟩
  | 17 => ⟨S4096x8x32, .f32⟩
  | 18 => ⟨S4096x8x32, .f32⟩
  | 19 => ⟨S4096x8x32, .f32⟩
  | 20 => ⟨S4096x8x32, .f32⟩
  | 21 => ⟨S4096x8x32, .f32⟩
  | 22 => ⟨S4096x8x32, .f32⟩
  | 23 => ⟨S4096x8x64, .f32⟩
  | 24 => ⟨S4096x8x256, .f32⟩
  | 25 => ⟨S4096x8x128, .f32⟩
  | 26 => ⟨S4096x8x128, .f32⟩
  | 27 => ⟨S4096x1x64, .f32⟩
  | 28 => ⟨S4096x8x64, .f32⟩
  | 29 => ⟨S4096x8x192, .f32⟩
  | 30 => ⟨S4096x8x192, .f32⟩
  | 31 => ⟨S8x4096x4096, .f32⟩
  | 32 => ⟨S_, .f32⟩
  | 33 => ⟨S8x4096x4096, .f32⟩
  | 34 => ⟨S8x4096x4096, .f32⟩
  | 35 => ⟨S4096x4096, .i32⟩
  | 36 => ⟨S_, .i32⟩
  | 37 => ⟨S_, .i32⟩
  | 38 => ⟨S4096x4096, .i32⟩
  | 39 => ⟨S4096x4096, .i32⟩
  | 40 => ⟨S4096x4096, .i32⟩
  | 41 => ⟨S_, .i32⟩
  | 42 => ⟨S4096x4096, .i32⟩
  | 43 => ⟨S4096x4096, .i1⟩
  | 44 => ⟨S4096x4096, .i32⟩
  | 45 => ⟨S4096x4096, .i32⟩
  | 46 => ⟨S_, .i32⟩
  | 47 => ⟨S4096x4096, .i32⟩
  | 48 => ⟨S4096x4096, .i1⟩
  | 49 => ⟨S4096x4096, .i1⟩
  | 50 => ⟨S_, .i32⟩
  | 51 => ⟨S4096x4096, .i32⟩
  | 52 => ⟨S4096x4096, .i32⟩
  | 53 => ⟨S4096x4096, .i32⟩
  | 54 => ⟨S4096x4096, .i32⟩
  | 55 => ⟨S_, .i32⟩
  | 56 => ⟨S_, .i32⟩
  | 57 => ⟨S4096x4096, .i32⟩
  | 58 => ⟨S4096x4096, .i32⟩
  | 59 => ⟨S4096x4096, .i32⟩
  | 60 => ⟨S_, .i32⟩
  | 61 => ⟨S4096x4096, .i32⟩
  | 62 => ⟨S4096x4096, .i1⟩
  | 63 => ⟨S4096x4096, .i32⟩
  | 64 => ⟨S4096x4096, .i32⟩
  | 65 => ⟨S_, .i32⟩
  | 66 => ⟨S4096x4096, .i32⟩
  | 67 => ⟨S4096x4096, .i1⟩
  | 68 => ⟨S4096x4096, .i1⟩
  | 69 => ⟨S_, .i32⟩
  | 70 => ⟨S4096x4096, .i32⟩
  | 71 => ⟨S4096x4096, .i32⟩
  | 72 => ⟨S4096x4096, .i32⟩
  | 73 => ⟨S4096x4096, .i1⟩
  | 74 => ⟨S1x4096x4096, .i1⟩
  | 75 => ⟨S_, .f32⟩
  | 76 => ⟨S_, .f32⟩
  | 77 => ⟨S8x4096x4096, .i1⟩
  | 78 => ⟨S8x4096x4096, .f32⟩
  | 79 => ⟨S8x4096x4096, .f32⟩
  | 80 => ⟨S_, .f32⟩
  | 81 => ⟨S8x4096x4096, .f32⟩
  | 82 => ⟨S_, .f32⟩
  | 83 => ⟨S8x4096, .f32⟩
  | 84 => ⟨S8x4096x1, .f32⟩
  | 85 => ⟨S8x4096x4096, .f32⟩
  | 86 => ⟨S8x4096x4096, .i1⟩
  | 87 => ⟨S8x4096x4096, .f32⟩
  | 88 => ⟨S_, .f32⟩
  | 89 => ⟨S8x4096, .f32⟩
  | 90 => ⟨S_, .f32⟩
  | 91 => ⟨S8x4096, .f32⟩
  | 92 => ⟨S8x4096, .f32⟩
  | 93 => ⟨S_, .f32⟩
  | 94 => ⟨S8x4096, .f32⟩
  | 95 => ⟨S8x4096, .i1⟩
  | 96 => ⟨S_, .f32⟩
  | 97 => ⟨S8x4096, .f32⟩
  | 98 => ⟨S8x4096, .i1⟩
  | 99 => ⟨S_, .f32⟩
  | 100 => ⟨S8x4096, .f32⟩
  | 101 => ⟨S_, .f32⟩
  | 102 => ⟨S8x4096, .f32⟩
  | 103 => ⟨S_, .f32⟩
  | 104 => ⟨S8x4096, .f32⟩
  | 105 => ⟨S8x4096, .f32⟩
  | 106 => ⟨S8x4096, .f32⟩
  | 107 => ⟨S8x4096x1, .f32⟩
  | 108 => ⟨S8x4096x4096, .f32⟩
  | 109 => ⟨S8x4096x4096, .f32⟩
  | 110 => ⟨S8x4096x4096, .f32⟩
  | 111 => ⟨S_, .f32⟩
  | 112 => ⟨S8x4096, .f32⟩
  | 113 => ⟨S8x4096x1, .f32⟩
  | 114 => ⟨S8x4096x4096, .f32⟩
  | 115 => ⟨S8x4096x4096, .f32⟩
  | 116 => ⟨S8x4096x1, .f32⟩
  | 117 => ⟨S_, .f32⟩
  | 118 => ⟨S8x4096x1, .f32⟩
  | 119 => ⟨S8x4096x1, .f32⟩
  | 120 => ⟨S8x128x4096, .f32⟩
  | 121 => ⟨S4096x8x128, .f32⟩
  | 122 => ⟨S4096x1024, .f32⟩
  | 123 => ⟨S4096x8x128, .f32⟩
  | 124 => ⟨S8x128x4096, .f32⟩
  | 125 => ⟨S8x4096x4096, .f32⟩
  | 126 => ⟨S8x128x4096, .f32⟩
  | 127 => ⟨S4096x8x128, .f32⟩
  | _ => ⟨S4096x1536, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S_, .f32⟩
  | 4 => ⟨S8x4096, .f32⟩
  | 5 => ⟨S8x4096x1, .f32⟩
  | 6 => ⟨S8x4096x1, .f32⟩
  | 7 => ⟨S8x4096x4096, .f32⟩
  | 8 => ⟨S8x4096x4096, .f32⟩
  | 9 => ⟨S_, .f32⟩
  | 10 => ⟨S8x4096, .f32⟩
  | 11 => ⟨S8x4096x4096, .f32⟩
  | 12 => ⟨S8x4096x4096, .f32⟩
  | 13 => ⟨S8x4096x4096, .f32⟩
  | 14 => ⟨S_, .f32⟩
  | 15 => ⟨S8x4096x4096, .f32⟩
  | 16 => ⟨S8x4096x4096, .f32⟩
  | 17 => ⟨S_, .f32⟩
  | 18 => ⟨S8x4096x4096, .f32⟩
  | 19 => ⟨S8x4096x4096, .f32⟩
  | 20 => ⟨S8x4096x192, .f32⟩
  | 21 => ⟨S4096x8x192, .f32⟩
  | 22 => ⟨S8x4096x192, .f32⟩
  | 23 => ⟨S4096x8x192, .f32⟩
  | 24 => ⟨S4096x8x128, .f32⟩
  | 25 => ⟨S4096x8x64, .f32⟩
  | 26 => ⟨S4096x8x128, .f32⟩
  | 27 => ⟨S4096x8x64, .f32⟩
  | 28 => ⟨S_, .f32⟩
  | 29 => ⟨S4096x64, .f32⟩
  | 30 => ⟨S4096x1x64, .f32⟩
  | 31 => ⟨S_, .f32⟩
  | 32 => ⟨S4096x64, .f32⟩
  | 33 => ⟨S4096x8x256, .f32⟩
  | 34 => ⟨S4096x2048, .f32⟩
  | 35 => ⟨S4096x8x32, .f32⟩
  | 36 => ⟨S4096x8x32, .f32⟩
  | 37 => ⟨S4096x8x32, .f32⟩
  | 38 => ⟨S4096x8x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x64, .f32⟩
  | 49 => ⟨S4096x8x192, .f32⟩
  | 50 => ⟨S4096x1536, .f32⟩
  | 51 => ⟨S4096x8x192, .f32⟩
  | 52 => ⟨S_, .f32⟩
  | 53 => ⟨S4096x8x64, .f32⟩
  | 54 => ⟨S4096x8x256, .f32⟩
  | 55 => ⟨S_, .f32⟩
  | 56 => ⟨S4096x64, .f32⟩
  | 57 => ⟨S4096x128, .f32⟩
  | 58 => ⟨S4096x2048, .f32⟩
  | 59 => ⟨S4096x2048, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v29 : Ref sig .tc := ⟨.hbm, 53, rfl⟩
abbrev main_v30 : Ref sig .tc := ⟨.hbm, 54, rfl⟩
abbrev main_c_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_1 : Ref sig .tc := ⟨.hbm, 75, rfl⟩
abbrev main_call2_v0 : Ref sig .tc := ⟨.hbm, 76, rfl⟩
abbrev main_v34_1 : Ref sig .tc := ⟨.hbm, 77, rfl⟩
abbrev main_call2_v2 : Ref sig .tc := ⟨.hbm, 78, rfl⟩
abbrev main_v34_0 : Ref sig .tc := ⟨.hbm, 79, rfl⟩
abbrev main_call2_cst : Ref sig .tc := ⟨.hbm, 80, rfl⟩
abbrev main_v34_2 : Ref sig .tc := ⟨.hbm, 81, rfl⟩
abbrev main_cst_2 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_3 : Ref sig .tc := ⟨.hbm, 88, rfl⟩
abbrev main_v40 : Ref sig .tc := ⟨.hbm, 89, rfl⟩
abbrev main_cst_4 : Ref sig .tc := ⟨.hbm, 90, rfl⟩
abbrev main_v41 : Ref sig .tc := ⟨.hbm, 91, rfl⟩
abbrev main_v42 : Ref sig .tc := ⟨.hbm, 92, rfl⟩
abbrev main_cst_5 : Ref sig .tc := ⟨.hbm, 93, rfl⟩
abbrev main_v43 : Ref sig .tc := ⟨.hbm, 94, rfl⟩
abbrev main_v44 : Ref sig .tc := ⟨.hbm, 95, rfl⟩
abbrev main_cst_6 : Ref sig .tc := ⟨.hbm, 96, rfl⟩
abbrev main_v45 : Ref sig .tc := ⟨.hbm, 97, rfl⟩
abbrev main_v46 : Ref sig .tc := ⟨.hbm, 98, rfl⟩
abbrev main_cst_7 : Ref sig .tc := ⟨.hbm, 99, rfl⟩
abbrev main_v47 : Ref sig .tc := ⟨.hbm, 100, rfl⟩
abbrev main_cst_8 : Ref sig .tc := ⟨.hbm, 101, rfl⟩
abbrev main_v48 : Ref sig .tc := ⟨.hbm, 102, rfl⟩
abbrev main_cst_9 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_10 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_11 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_12 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_13 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_call3_cst : Ref sig .tc := ⟨.hbm, 142, rfl⟩
abbrev main_call3_v0 : Ref sig .tc := ⟨.hbm, 143, rfl⟩
abbrev main_v83 : Ref sig .tc := ⟨.hbm, 144, rfl⟩
abbrev main_cst_14 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_15 : Ref sig .tc := ⟨.hbm, 156, rfl⟩
abbrev main_v94 : Ref sig .tc := ⟨.hbm, 157, rfl⟩
abbrev main_v95 : Ref sig .tc := ⟨.hbm, 158, rfl⟩
abbrev main_cst_16 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_17 : Ref sig .tc := ⟨.hbm, 180, rfl⟩
abbrev main_v116 : Ref sig .tc := ⟨.hbm, 181, rfl⟩
abbrev main_v117 : Ref sig .tc := ⟨.hbm, 182, rfl⟩
abbrev main_cst_18 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Kernel3.lean ====
abbrev S4096x1024 : Shape := ⟨2, ![4096, 1024]⟩
abbrev S4096x8960 : Shape := ⟨2, ![4096, 8960]⟩
abbrev S1024x8960 : Shape := ⟨2, ![1024, 8960]⟩
abbrev S1024x1024 : Shape := ⟨2, ![1024, 1024]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x8960, .f32⟩
  | .hbm, ⟨2, _⟩ => ⟨S4096x1024, .bf16⟩
  | .hbm, ⟨3, _⟩ => ⟨S4096x8960, .bf16⟩
  | .hbm, ⟨4, _⟩ => ⟨S1024x8960, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x8960 : Shape := ⟨2, ![4096, 8960]⟩
abbrev S_ : Shape := ⟨0, ![]⟩
abbrev S1024x8960 : Shape := ⟨2, ![1024, 8960]⟩
abbrev S8960x1024 : Shape := ⟨2, ![8960, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8960, .f32⟩
  | .hbm, ⟨2, _⟩ => ⟨S_, .f32⟩
  | .hbm, ⟨3, _⟩ => ⟨S1024x8960, .f32⟩
  | .hbm, ⟨4, _⟩ => ⟨S4096x8960, .f32⟩
  | .hbm, ⟨5, _⟩ => ⟨S8960x1024, .f32⟩
  | .hbm, ⟨6, _⟩ => ⟨S1024x8960, .f32⟩
  | .hbm, ⟨7, _⟩ => ⟨S1024x8960, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x8960 : Shape := ⟨2, ![4096, 8960]⟩
abbrev S1024x8960 : Shape := ⟨2, ![1024, 8960]⟩
abbrev S4096x1024 : Shape := ⟨2, ![4096, 1024]⟩
abbrev S1024x1280 : Shape := ⟨2, ![1024, 1280]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8960, .f32⟩
  | .hbm, ⟨1, _⟩ => ⟨S1024x8960, .f32⟩
  | .hbm, ⟨2, _⟩ => ⟨S4096x8960, .bf16⟩
  | .hbm, ⟨3, _⟩ => ⟨S1024x8960, .bf16⟩
  | .hbm, ⟨4, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 7], ![false, false, false]⟩

def k0_cond2 (i : grid0.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8960 : Shape := ⟨2, ![4096, 8960]⟩
abbrev S1024x8960 : Shape := ⟨2, ![1024, 8960]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x8960, .f32⟩
  | .hbm, ⟨1, _⟩ => ⟨S1024x8960, .f32⟩
  | .hbm, ⟨2, _⟩ => ⟨S_, .f32⟩
  | .hbm, ⟨3, _⟩ => ⟨S4096x1024, .f32⟩
  | .hbm, ⟨4, _⟩ => ⟨S4096x8960, .f32⟩
  | .hbm, ⟨5, _⟩ => ⟨S4096x1024, .f32⟩
  | _, _ => ⟨S4096x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x1024, .bf16⟩
  | .hbm, ⟨3, _⟩ => ⟨S4096x2816, .bf16⟩
  | .hbm, ⟨4, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel7.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S1024x5632, .f32⟩
  | .hbm, ⟨2, _⟩ => ⟨S4096x2816, .bf16⟩
  | .hbm, ⟨3, _⟩ => ⟨S1024x5632, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x5632, .f32⟩
  | .hbm, ⟨10, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S1024x5632, .f32⟩
  | .hbm, ⟨2, _⟩ => ⟨S4096x1024, .f32⟩
  | .hbm, ⟨3, _⟩ => ⟨S4096x2816, .bf16⟩
  | .hbm, ⟨4, _⟩ => ⟨S1024x5632, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2816 : Shape := ⟨2, ![4096, 2816]⟩
abbrev S1024x5632 : Shape := ⟨2, ![1024, 5632]⟩
abbrev S4096x1024 : Shape := ⟨2, ![4096, 1024]⟩
abbrev S_ : Shape := ⟨0, ![]⟩
abbrev S4096x5632 : Shape := ⟨2, ![4096, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x5632, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x5632, .f32⟩
  | .hbm, ⟨11, _⟩ => ⟨S4096x1024, .f32⟩
  | .hbm, ⟨12, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel9.lean ====
abbrev S4096x1024 : Shape := ⟨2, ![4096, 1024]⟩
abbrev S1024x8960 : Shape := ⟨2, ![1024, 8960]⟩
abbrev S4096x8960 : Shape := ⟨2, ![4096, 8960]⟩
abbrev S1024x1024 : Shape := ⟨2, ![1024, 1024]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8960, .f32⟩
  | .hbm, ⟨2, _⟩ => ⟨S4096x1024, .bf16⟩
  | .hbm, ⟨3, _⟩ => ⟨S1024x8960, .bf16⟩
  | .hbm, ⟨4, _⟩ => ⟨S4096x8960, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x8960 : Shape := ⟨2, ![1024, 8960]⟩
abbrev S4096x8960 : Shape := ⟨2, ![4096, 8960]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8960, .f32⟩
  | .hbm, ⟨2, _⟩ => ⟨S4096x8960, .f32⟩
  | .hbm, ⟨3, _⟩ => ⟨S4096x8960, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S4096x1024 : Shape := ⟨2, ![4096, 1024]⟩
abbrev S1024x5632 : Shape := ⟨2, ![1024, 5632]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .bf16⟩
  | .hbm, ⟨6, _⟩ => ⟨S4096x2816, .bf16⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel18.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4096x256 : Shape := ⟨2, ![4096, 256]⟩
abbrev S4096x2048 : Shape := ⟨2, ![4096, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x256, .bf16⟩
  | .hbm, ⟨3, _⟩ => ⟨S4096x2048, .bf16⟩
  | .hbm, ⟨4, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S4096x256 : Shape := ⟨2, ![4096, 256]⟩
abbrev S4096x2048 : Shape := ⟨2, ![4096, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x256, .bf16⟩
  | .hbm, ⟨3, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x2048 : Shape := ⟨2, ![4096, 2048]⟩
abbrev S256x2048 : Shape := ⟨2, ![256, 2048]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S4096x2048, .bf16⟩
  | .hbm, ⟨3, _⟩ => ⟨S256x2048, .bf16⟩
  | .hbm, ⟨4, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S_, .f32⟩
  | .hbm, ⟨3, _⟩ => ⟨S4096x256, .f32⟩
  | .hbm, ⟨4, _⟩ => ⟨S4096x2048, .f32⟩
  | .hbm, ⟨5, _⟩ => ⟨S4096x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S4096x2048 : Shape := ⟨2, ![4096, 2048]⟩
abbrev S256x2048 : Shape := ⟨2, ![256, 2048]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S256x2048, .bf16⟩
  | .hbm, ⟨3, _⟩ => ⟨S4096x256, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S_, .f32⟩
  | .hbm, ⟨3, _⟩ => ⟨S4096x256, .f32⟩
  | .hbm, ⟨4, _⟩ => ⟨S4096x2048, .f32⟩
  | .hbm, ⟨5, _⟩ => ⟨S4096x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S4096x8960 : Shape := ⟨2, ![4096, 8960]⟩
abbrev S4096x1024 : Shape := ⟨2, ![4096, 1024]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S4096x8960, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8960, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S4096x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S4096x8960 : Shape := ⟨2, ![4096, 8960]⟩
abbrev S4096x1024 : Shape := ⟨2, ![4096, 1024]⟩
abbrev S4096x3072 : Shape := ⟨2, ![4096, 3072]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x8960, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel24.lean ====
abbrev S4096x8960 : Shape := ⟨2, ![4096, 8960]⟩
abbrev S4096x1024 : Shape := ⟨2, ![4096, 1024]⟩
abbrev S512x512 : Shape := ⟨2, ![512, 512]⟩

abbrev nBuf : Space → Nat
  | .hbm => 16
  | .vmem => 26
  | .smem => 0
  | _ => 0

abbrev bufTy : (tb : Table) → Fin (tcTables nBuf tb) → BufTy
  | .hbm, ⟨0, _⟩ => ⟨S4096x8960, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x8960, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | _, _ => ⟨S4096x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference24Ideal.lean ====
abbrev S4096x8960 : Shape := ⟨2, ![4096, 8960]⟩
abbrev S4096x1024 : Shape := ⟨2, ![4096, 1024]⟩
abbrev S4096x3072 : Shape := ⟨2, ![4096, 3072]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4096x8960, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S4096x1024, .bf16⟩
  | .hbm, ⟨66, _⟩ => ⟨S4096x1024, .bf16⟩
  | _, _ => ⟨S4096x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel25.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Real.lean ====
/- Finite extended reals: the operations of the kernels on them are the real operations. -/
module

public import Idealize.ShloMosaic.PureOps.Ideal
public import Idealize.ShloMosaic.PureOps

@[expose] public section

noncomputable section

namespace Cert.Real

open Idealize.ShloMosaic

/-- A sum of reals, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real. -/
theorem exp_coe (x : ℝ) : Ideal.exp (x : EReal) = (Real.exp x : EReal) := rfl

/-- The logarithm of a positive real. -/
theorem log_coe {x : ℝ} (h : 0 < x) : Ideal.log (x : EReal) = (Real.log x : EReal) := by
  show (if x ≤ 0 then (⊥ : EReal) else (Real.log x : EReal)) = _
  rw [if_neg (not_le.mpr h)]

/-- The quotient of two reals, the divisor not zero. -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- An extended real whose absolute value is below `+∞` is a real. -/
theorem exists_of_abs_lt {x : EReal} (h : max x (-x) < ⊤) : ∃ r : ℝ, x = (r : EReal) := by
  induction x with
  | bot => simp at h
  | top => simp at h
  | coe r => exact ⟨r, rfl⟩

theorem half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem zero : Ideal.ofBits .f32 0x00000000#32 = ((0 : ℝ) : EReal) := by
  simp [Ideal.ofBits, Ideal.ieee]

theorem infinity : Ideal.ofBits .f32 0x7F800000#32 = ⊤ := by
  simp [Ideal.ofBits, Ideal.ieee]

theorem neg_infinity : Ideal.ofBits .f32 0xFF800000#32 = ⊥ := by
  simp [Ideal.ofBits, Ideal.ieee]

/-- A word that answers "below `+∞` in absolute value" with a one says the element is a real. -/
theorem exists_of_finite {x : EReal} (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  refine exists_of_abs_lt ?_
  rw [show FloatOps.ofBits (F := Ideal) .f32 0x7F800000#32 = (⊤ : EReal) from infinity] at h
  by_contra hn
  revert h
  simp [FloatOps.cmpf, FloatOps.hostAbsf, Ideal.cmp, hn]

end Cert.Real

end
-- ==== Proof.Dact.lean ====
/- The gradient of the gated unit: what the kernel writes, as one function of the argument arrays. -/
module

public import proofs.«01_k».proof.Proof.Gen.Kernel2Ideal.Value
public import proofs.«01_k».proof.Proof.Gen.Reference2Ideal.Read
public import proofs.«01_k».proof.Proof.Real
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Dact

open Cert.Kernel2Ideal Cert.Kernel2Ideal.Gen

variable (m : (ℓ : Loc nD τ sig) → Buf (Elt Ideal) ℓ)

/-- The gradient that reaches the gated product, halved. -/
def da (dy : FVec Ideal S4096x1024 .f32) (w : FVec Ideal S2816x1024 .f32) (i : S4096x2816.Idx) : EReal :=
  (∑ k : Fin 1024, dy (ix2 (i 0) k) * w (ix2 (i 1) k)) * Ideal.ofBits .f32 0x3F000000#32

/-- The logistic function, as the kernel spells it. -/
def sg (x : EReal) : EReal := Ideal.div 1 (1 + Ideal.exp (0 - x))

/-- The gradient of the gate, as the kernel spells it. -/
def DG (dy : FVec Ideal S4096x1024 .f32) (w : FVec Ideal S2816x1024 .f32) (g u : FVec Ideal S4096x2816 .f32) : FVec Ideal S4096x2816 .bf16 :=
  fun i => da dy w i * u i * sg (g i) * (1 + g i * (1 - sg (g i)))

/-- The gradient of the gated values, as the kernel spells it. -/
def DU (dy : FVec Ideal S4096x1024 .f32) (w : FVec Ideal S2816x1024 .f32) (g : FVec Ideal S4096x2816 .f32) : FVec Ideal S4096x2816 .bf16 :=
  fun i => da dy w i * g i * sg (g i)

theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] ∧ t.val / 8 < 2 :=
  (by decide +kernel : ∀ t : Fin grid0.N, _)

theorem point4 (c : Dev nD) (t : Fin cfg0.N) (y) : k0_pay4 (iblk m c 0 t) (iblk m c 1 t) (iblk m c 2 t) (iblk m c 3 t) y
    = DG (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay3, k0_pay2, k0_pay1, DG, da, sg]
  blk_point [iblk, V, idx t]

theorem point5 (c : Dev nD) (t : Fin cfg0.N) (y) : k0_pay5 (iblk m c 0 t) (iblk m c 1 t) (iblk m c 2 t) y
    = DU (m ((c : Thread nD τ).loc main_arg0)) (m ((c : Thread nD τ).loc main_arg1)) (m ((c : Thread nD τ).loc main_arg2)) (((cfg0.win 5).blk t).view.emb y) := by
  pointwise [k0_pay5, k0_pay3, k0_pay2, k0_pay1, DU, da, sg]
  blk_point [iblk, V, idx t]

theorem final4 (c : Dev nD) : (dats m 0 c).arrAt 4 (cfgs 0).N
    = DG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]; frame_out; exact point4 m c t y

theorem final5 (c : Dev nD) : (dats m 0 c).arrAt 5 (cfgs 0).N
    = DU (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp; rw [after0_5]; frame_out; exact point5 m c t y

/-! The reference's results are the same functions where every argument is finite. -/

/-- The logistic function of a real is a real. -/
theorem sg_coe (x : ℝ) : sg (x : EReal) = ((1 / (1 + Real.exp (0 - x)) : ℝ) : EReal) := by
  unfold sg
  rw [show (1 : EReal) = ((1 : ℝ) : EReal) from rfl, show (0 : EReal) = ((0 : ℝ) : EReal) from rfl, ← EReal.coe_sub, Cert.Real.exp_coe, ← EReal.coe_add,
    Cert.Real.div_coe (by positivity)]

open Cert.Reference2Ideal.Read in
theorem half_apply (dy : FVec Ideal S4096x1024 .f32) (i : S4096x1024.Idx) : val_main_v6 (F := Ideal) dy i = Ideal.ofBits .f32 0x3F000000#32 * dy i := by
  rw [val_main_v6_apply, val_main_v5_apply, val_main_cst_0_apply]; rfl

open Cert.Reference2Ideal.Read in
/-- The reference's product holds the kernel's halved product. -/
theorem dot_eq (dy : FVec Ideal S4096x1024 .f32) (w : FVec Ideal S2816x1024 .f32) (hdy : ∀ i, ∃ r : ℝ, dy i = (r : EReal)) (hw : ∀ i, ∃ r : ℝ, w i = (r : EReal)) (i) :
    ∃ r : ℝ, val_main_v7 (F := Ideal) dy w i = (r : EReal) ∧ da dy w i = (r : EReal) := by
  choose a ha using hdy
  choose b hb using hw
  have h1 : ∀ k : Fin 1024, lidx_main_v7 i k = ix2 (i 0) k := fun k => by funext d; match d with | ⟨0, _⟩ => rfl | ⟨1, _⟩ => rfl
  have h2 : ∀ k : Fin 1024, ridx_main_v7 i k = ix2 (i 1) k := fun k => by funext d; match d with | ⟨0, _⟩ => rfl | ⟨1, _⟩ => rfl
  refine ⟨∑ k : Fin 1024, (1 / 2 : ℝ) * a (ix2 (i 0) k) * b (ix2 (i 1) k), ?_, ?_⟩
  · rw [val_main_v7_apply, Cert.Real.coe_sum]
    refine Finset.sum_congr rfl fun k _ => ?_
    rw [h1, h2, EReal.coe_mul, EReal.coe_mul, ← Cert.Real.half, ← ha, ← hb]
    exact congrArg (· * w (ix2 (i 1) k)) (half_apply dy (ix2 (i 0) k))
  · unfold da
    simp only [ha, hb, Cert.Real.half, ← EReal.coe_mul, ← Cert.Real.coe_sum]
    rw [Finset.sum_mul]
    congr 1
    exact Finset.sum_congr rfl fun k _ => by ring

open Cert.Reference2Ideal.Read in
theorem sg_eq (g : FVec Ideal S4096x2816 .f32) (i) : val_main_v0_2 (F := Ideal) g i = sg (g i) := by
  rw [val_main_v0_2_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + Ideal.exp (- g i)) = _
  rw [Cert.Real.one, sg, zero_sub]; rfl

open Cert.Reference2Ideal.Read in
theorem ref_dg (dy : FVec Ideal S4096x1024 .f32) (w : FVec Ideal S2816x1024 .f32) (g u : FVec Ideal S4096x2816 .f32)
    (hdy : ∀ i, ∃ r : ℝ, dy i = (r : EReal)) (hw : ∀ i, ∃ r : ℝ, w i = (r : EReal)) (hg : ∀ i, ∃ r : ℝ, g i = (r : EReal)) (hu : ∀ i, ∃ r : ℝ, u i = (r : EReal)) :
    val_main_v11 (F := Ideal) dy w g u = DG dy w g u := by
  funext i
  obtain ⟨d, hd, hd'⟩ := dot_eq dy w hdy hw i
  obtain ⟨x, hx⟩ := hg i
  obtain ⟨y, hy⟩ := hu i
  simp only [val_main_v11_apply, val_main_v10_apply, val_main_call1_v0_apply, val_main_call1_v1_apply, val_main_call1_v2_apply, val_main_v9_apply, val_main_v8_apply,
    val_main_v0_1_apply, val_main_call0_v7_apply, val_main_call0_v6_apply, val_main_call0_cst_1_apply, sg_eq, hd, hx, hy]
  simp only [DG, hd', hx, hy, sg_coe]
  generalize 1 / (1 + Real.exp (0 - x)) = s
  show (d : EReal) * y * s + x * (d * y) * (s * (Ideal.ofBits .f32 0x3F800000#32 - s)) = d * y * s * (1 + x * (1 - s))
  rw [Cert.Real.one, show (1 : EReal) = ((1 : ℝ) : EReal) from rfl]
  simp only [← EReal.coe_mul, ← EReal.coe_add, ← EReal.coe_sub]
  congr 1; ring

open Cert.Reference2Ideal.Read in
theorem ref_du (dy : FVec Ideal S4096x1024 .f32) (w : FVec Ideal S2816x1024 .f32) (g : FVec Ideal S4096x2816 .f32)
    (hdy : ∀ i, ∃ r : ℝ, dy i = (r : EReal)) (hw : ∀ i, ∃ r : ℝ, w i = (r : EReal)) (hg : ∀ i, ∃ r : ℝ, g i = (r : EReal)) :
    val_main_v12 (F := Ideal) dy w g = DU dy w g := by
  funext i
  obtain ⟨d, hd, hd'⟩ := dot_eq dy w hdy hw i
  obtain ⟨x, hx⟩ := hg i
  simp only [val_main_v12_apply, val_main_v8_apply, val_main_v0_0_apply, sg_eq, hd, hx, DU, hd', sg_coe]
  generalize 1 / (1 + Real.exp (0 - x)) = s
  show (x : EReal) * s * d = d * x * s
  simp only [← EReal.coe_mul]
  congr 1; ring

end Cert.Dact

end
-- ==== Proof.DactClaim.lean ====
/- The claims about the gradient of the gated unit. -/
module

public import proofs.«01_k».proof.Defs
public import proofs.«01_k».proof.Proof.Gen.Kernel2.Frame
public import proofs.«01_k».proof.Proof.Gen.Pre_finite2
public import proofs.«01_k».proof.Proof.Dact
public import Idealize.ShloMosaic.Lib.Quiescent

@[expose] public section

noncomputable section

open Idealize.ShloMosaic Idealize.ShloMosaic.TcCoe Idealize.SL.Sem

namespace Cert.DactClaim

local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Pre_finite2.Facts := Cert.Pre_finite2.Gen.facts

/-- What the precondition says: every argument is an array of reals. -/
theorem finite (m : (ℓ : Loc Cert.Kernel2Ideal.nD Cert.Kernel2Ideal.τ Cert.Kernel2Ideal.sig) → Buf (Elt Ideal) ℓ) (h : Cert.Pre_Kernel2Ideal_finite2 m) (c : Dev Cert.Kernel2Ideal.nD) :
    (∀ i, ∃ r : ℝ, m (c.tc.loc Cert.Kernel2Ideal.main_arg0) i = (r : EReal)) ∧ (∀ i, ∃ r : ℝ, m (c.tc.loc Cert.Kernel2Ideal.main_arg1) i = (r : EReal))
    ∧ (∀ i, ∃ r : ℝ, m (c.tc.loc Cert.Kernel2Ideal.main_arg2) i = (r : EReal)) ∧ (∀ i, ∃ r : ℝ, m (c.tc.loc Cert.Kernel2Ideal.main_arg3) i = (r : EReal)) := by
  obtain ⟨h0, h1, h2, h3⟩ := h c
  exact ⟨fun i => Cert.Real.exists_of_finite (congrFun h0 i), fun i => Cert.Real.exists_of_finite (congrFun h1 i),
    fun i => Cert.Real.exists_of_finite (congrFun h2 i), fun i => Cert.Real.exists_of_finite (congrFun h3 i)⟩

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The two runs end with the same two gradients. -/
theorem algebraic : Cert.algebraic_Kernel2Ideal_Reference2Ideal_pre_finite2 := by
  intro m ρ m' ρ' hpre hm
  refine ⟨_, _, Cert.Kernel2Ideal.Value.run_blocks m ρ, (θ_run Cert.Reference2Ideal.defs _ _).mono (fun r h c => ?_) (Cert.Reference2Ideal.Value.run (F := Ideal) m' ρ')⟩
  obtain ⟨h0, h1, h2, h3⟩ := finite m hpre c
  obtain ⟨e0, e1, e2, e3⟩ := hm c
  refine ⟨(h c).1.trans ?_, (h c).2.1.trans ?_, (h c).2.2⟩
  · rw [Cert.Reference2Ideal.Read.val_main_v11_eq, e0, e1, e2, e3]
    exact (Cert.Dact.ref_dg _ _ _ _ h0 h1 h2 h3).trans (Cert.Dact.final4 m c).symm
  · rw [Cert.Reference2Ideal.Read.val_main_v12_eq, e0, e1, e2]
    exact (Cert.Dact.ref_du _ _ _ h0 h1 h2).trans (Cert.Dact.final5 m c).symm

end Cert.DactClaim

end
-- ==== Proof.MlaHost.lean ====
/-
  THE ARRAYS THE KERNEL IS CALLED WITH: what the host operations before the call leave in each of them.
-/
module

public import proofs.«01_k».proof.Proof.Gen.KernelIdeal.Frame
public import proofs.«01_k».proof.Proof.Gen.ReferenceIdeal.Read
public import Idealize.ShloMosaic.Lib.Pipeline.ValueKit
public import Idealize.ShloMosaic.Lib.Claim

@[expose] public section

set_option maxRecDepth 16384
set_option maxHeartbeats 1600000

noncomputable section

namespace Cert.Mla

open Cert.KernelIdeal Cert.KernelIdeal.Gen
open Idealize.ShloMosaic Idealize.ShloMosaic.TcCoe Idealize.ShloMosaic.StableHlo

abbrev Vals := Valuation τ sig (Elt Ideal)

/-- The operations up to the masked scores, and those after. -/
abbrev hostA : List (HloOp τ sig (Elt Ideal)) := List.flatten [hostOps0, hostOps0_1, hostOps0_2, hostOps0_3, hostOps0_4, hostOps0_5]

theorem hostA_v34 (W : Vals) : after hostA W (Proc.devRef .tc main_v34)
    = Cert.ReferenceIdeal.Read.val_main_v34_0 (F := Ideal) (W (Proc.devRef .tc main_arg0)) (W (Proc.devRef .tc main_arg1)) (W (Proc.devRef .tc main_arg2)) (W (Proc.devRef .tc main_arg3))
        (W (Proc.devRef .tc main_arg4)) := by
  simp only [hostA, hostOps0, hostOps0_1, hostOps0_2, hostOps0_3, hostOps0_4, hostOps0_5, List.flatten_cons, List.flatten_nil, List.append_nil, List.cons_append, List.nil_append]
  after_results
  rfl

theorem hostA_v24 (W : Vals) : after hostA W (Proc.devRef .tc main_v24)
    = Cert.ReferenceIdeal.Read.val_main_v24 (F := Ideal) (W (Proc.devRef .tc main_arg0)) (W (Proc.devRef .tc main_arg3)) (W (Proc.devRef .tc main_arg4)) := by
  simp only [hostA, hostOps0, hostOps0_1, hostOps0_2, hostOps0_3, hostOps0_4, hostOps0_5, List.flatten_cons, List.flatten_nil, List.append_nil, List.cons_append, List.nil_append]
  after_results
  rfl

theorem hostA_v20 (W : Vals) : after hostA W (Proc.devRef .tc main_v20) = Cert.ReferenceIdeal.Read.val_main_v20 (F := Ideal) (W (Proc.devRef .tc main_arg1)) := by
  simp only [hostA, hostOps0, hostOps0_1, hostOps0_2, hostOps0_3, hostOps0_4, hostOps0_5, List.flatten_cons, List.flatten_nil, List.append_nil, List.cons_append, List.nil_append]
  after_results
  rfl

theorem hostA_arg1 (W : Vals) : after hostA W (Proc.devRef .tc main_arg1) = W (Proc.devRef .tc main_arg1) := by
  simp only [hostA, hostOps0, hostOps0_1, hostOps0_2, hostOps0_3, hostOps0_4, hostOps0_5, List.flatten_cons, List.flatten_nil, List.append_nil, List.cons_append, List.nil_append]
  after_results

theorem hostA_arg2 (W : Vals) : after hostA W (Proc.devRef .tc main_arg2) = W (Proc.devRef .tc main_arg2) := by
  simp only [hostA, hostOps0, hostOps0_1, hostOps0_2, hostOps0_3, hostOps0_4, hostOps0_5, List.flatten_cons, List.flatten_nil, List.append_nil, List.cons_append, List.nil_append]
  after_results

theorem hostA_arg3 (W : Vals) : after hostA W (Proc.devRef .tc main_arg3) = W (Proc.devRef .tc main_arg3) := by
  simp only [hostA, hostOps0, hostOps0_1, hostOps0_2, hostOps0_3, hostOps0_4, hostOps0_5, List.flatten_cons, List.flatten_nil, List.append_nil, List.cons_append, List.nil_append]
  after_results

theorem hostA_arg4 (W : Vals) : after hostA W (Proc.devRef .tc main_arg4) = W (Proc.devRef .tc main_arg4) := by
  simp only [hostA, hostOps0, hostOps0_1, hostOps0_2, hostOps0_3, hostOps0_4, hostOps0_5, List.flatten_cons, List.flatten_nil, List.append_nil, List.cons_append, List.nil_append]
  after_results

theorem hostA_arg5 (W : Vals) : after hostA W (Proc.devRef .tc main_arg5) = W (Proc.devRef .tc main_arg5) := by
  simp only [hostA, hostOps0, hostOps0_1, hostOps0_2, hostOps0_3, hostOps0_4, hostOps0_5, List.flatten_cons, List.flatten_nil, List.append_nil, List.cons_append, List.nil_append]
  after_results

/-! The softmax of the masked scores `s`, and what is made of it. -/

def maxOf (s : FVec Ideal S8x4096x4096 .f32) : FVec Ideal S8x4096 .f32 :=
  Host.reduce FloatOps.maximumf s (constant S_ .f32 0xFF800000#32) reducesTo_S8x4096x4096_S8x4096_d2 h_S_
def maxColOf (s : FVec Ideal S8x4096x4096 .f32) : FVec Ideal S8x4096x1 .f32 := broadcastInDim S8x4096x1 ![0, 1] bcast_S8x4096_S8x4096x1_0_1 (maxOf s)
def expOf (s : FVec Ideal S8x4096x4096 .f32) : FVec Ideal S8x4096x4096 .f32 :=
  Host.exp (subf s (broadcastInDim S8x4096x4096 ![0, 1, 2] bcast_S8x4096x1_S8x4096x4096_0_1_2 (maxColOf s)))
def totOf (s : FVec Ideal S8x4096x4096 .f32) : FVec Ideal S8x4096x1 .f32 :=
  broadcastInDim S8x4096x1 ![0, 1] bcast_S8x4096_S8x4096x1_0_1 (Host.reduceAdd (expOf s) (constant S_ .f32 0x00000000#32) reducesTo_S8x4096x4096_S8x4096_d2 h_S_)
def probOf (s : FVec Ideal S8x4096x4096 .f32) : FVec Ideal S8x4096x4096 .f32 :=
  Host.divf (expOf s) (broadcastInDim S8x4096x4096 ![0, 1, 2] bcast_S8x4096x1_S8x4096x4096_0_1_2 (totOf s))
def outOf (s : FVec Ideal S8x4096x4096 .f32) (v : FVec Ideal S4096x8x128 .f32) : FVec Ideal S4096x1024 .f32 :=
  shapeCast _ (transpose S4096x8x128 [2, 0, 1] (Host.dotGeneral dot_S4096x8x128_S8x4096x4096_S8x128x4096_0_2_2_1_1_0 none v (probOf s)) transposes_S8x128x4096_S4096x8x128_2_0_1)
    shapeCasts_S4096x8x128_S4096x1024
def lseOf (s : FVec Ideal S8x4096x4096 .f32) : FVec Ideal S8x4096x1 .f32 := addf (maxColOf s) (Host.log (totOf s))

def zeros64 : FVec Ideal S4096x64 .f32 := broadcastInDim S4096x64 ![] bcast_S_S4096x64 (constant S_ .f32 0x00000000#32)
def zeros8x64 : FVec Ideal S4096x8x64 .f32 := broadcastInDim S4096x8x64 ![] bcast_S_S4096x8x64 (constant S_ .f32 0x00000000#32)
def widenQ (q : FVec Ideal S4096x8x192 .f32) : FVec Ideal S4096x2048 .f32 :=
  shapeCast _ (concatenate S4096x8x256 2 [⟨S4096x8x192, q⟩, ⟨S4096x8x64, zeros8x64⟩] concatenates_S4096x8x192_S4096x8x64_S4096x8x256_d2) shapeCasts_S4096x8x256_S4096x2048
def widenR (r : FVec Ideal S4096x64 .f32) : FVec Ideal S4096x128 .f32 :=
  concatenate S4096x128 1 [⟨S4096x64, r⟩, ⟨S4096x64, zeros64⟩] concatenates_S4096x64_S4096x64_S4096x128_d1
def twiceOf (x : FVec Ideal S4096x32 .f32) : FVec Ideal S4096x128 .f32 :=
  concatenate S4096x128 1 [⟨S4096x32, x⟩, ⟨S4096x32, x⟩, ⟨S4096x64, zeros64⟩] concatenates_S4096x32_S4096x32_S4096x64_S4096x128_d1

def narrow {s : Shape} (x : FVec Ideal s .f32) : FVec Ideal s .bf16 := truncf .bf16 x (by decide)

theorem hostB_v56 (W : Vals) : after hostOps0_6 W (Proc.devRef .tc main_v56) = narrow (widenQ (W (Proc.devRef .tc main_v24))) := by
  after_results
  rfl
theorem hostB_v57 (W : Vals) : after hostOps0_6 W (Proc.devRef .tc main_v57) = narrow (s := S4096x2048) (W (Proc.devRef .tc main_arg1)) := by
  after_results
  rfl
theorem hostB_v58 (W : Vals) : after hostOps0_6 W (Proc.devRef .tc main_v58) = narrow (widenR (W (Proc.devRef .tc main_arg2))) := by
  after_results
  rfl
theorem hostB_v59 (W : Vals) : after hostOps0_6 W (Proc.devRef .tc main_v59) = narrow (outOf (W (Proc.devRef .tc main_v34)) (W (Proc.devRef .tc main_v20))) := by
  after_results
  rfl
theorem hostB_v48 (W : Vals) : after hostOps0_6 W (Proc.devRef .tc main_v48) = lseOf (W (Proc.devRef .tc main_v34)) := by
  after_results
  rfl
theorem hostB_v60 (W : Vals) : after hostOps0_6 W (Proc.devRef .tc main_v60) = narrow (s := S4096x1024) (W (Proc.devRef .tc main_arg5)) := by
  after_results
  rfl
theorem hostB_v54 (W : Vals) : after hostOps0_6 W (Proc.devRef .tc main_v54) = twiceOf (W (Proc.devRef .tc main_arg3)) := by
  after_results
  rfl
theorem hostB_v55 (W : Vals) : after hostOps0_6 W (Proc.devRef .tc main_v55) = twiceOf (W (Proc.devRef .tc main_arg4)) := by
  after_results
  rfl

/-! The arrays as the kernel finds them, from the argument arrays. -/

section
variable (m : (ℓ : Loc nD τ sig) → Buf (Elt Ideal) ℓ) (c : Dev nD)

/-- An argument array of core `c`. -/
abbrev arg (b : Ref sig .tc) : Buf (Elt Ideal) ((c : Thread nD τ).loc b) := m ((c : Thread nD τ).loc b)

theorem V_split (b : Ref sig .tc) : V m c b = after hostOps0_6 (after hostA (fun b => m (c, b))) b := by
  have h : (List.flatten [hostOps0, hostOps0_1, hostOps0_2, hostOps0_3, hostOps0_4, hostOps0_5, hostOps0_6] : List (HloOp τ sig (Elt Ideal))) = hostA ++ hostOps0_6 := by
    simp only [hostA, List.flatten_cons, List.flatten_nil, List.append_nil, List.append_assoc]
  show after (List.flatten [hostOps0, hostOps0_1, hostOps0_2, hostOps0_3, hostOps0_4, hostOps0_5, hostOps0_6]) _ _ = _
  rw [h, after_append]

abbrev maskedOf : FVec Ideal S8x4096x4096 .f32 := Cert.ReferenceIdeal.Read.val_main_v34_0 (F := Ideal) (arg m c main_arg0) (arg m c main_arg1) (arg m c main_arg2) (arg m c main_arg3) (arg m c main_arg4)

theorem V_v56 : V m c main_v56 = narrow (widenQ (Cert.ReferenceIdeal.Read.val_main_v24 (F := Ideal) (arg m c main_arg0) (arg m c main_arg3) (arg m c main_arg4))) := by
  rw [V_split, hostB_v56, hostA_v24]
theorem V_v57 : V m c main_v57 = narrow (s := S4096x2048) (arg m c main_arg1) := by
  rw [V_split, hostB_v57, hostA_arg1]
theorem V_v58 : V m c main_v58 = narrow (widenR (arg m c main_arg2)) := by
  rw [V_split, hostB_v58, hostA_arg2]
theorem V_v59 : V m c main_v59 = narrow (outOf (maskedOf m c) (Cert.ReferenceIdeal.Read.val_main_v20 (F := Ideal) (arg m c main_arg1))) := by
  rw [V_split, hostB_v59, hostA_v34, hostA_v20]
theorem V_v48 : V m c main_v48 = lseOf (maskedOf m c) := by
  rw [V_split, hostB_v48, hostA_v34]
theorem V_v60 : V m c main_v60 = narrow (s := S4096x1024) (arg m c main_arg5) := by
  rw [V_split, hostB_v60, hostA_arg5]
theorem V_v54 : V m c main_v54 = twiceOf (arg m c main_arg3) := by
  rw [V_split, hostB_v54, hostA_arg3]
theorem V_v55 : V m c main_v55 = twiceOf (arg m c main_arg4) := by
  rw [V_split, hostB_v55, hostA_arg4]

end

end Cert.Mla
end
-- ==== Proof.MlaMath.lean ====
/-
  THE ATTENTION'S GRADIENT IN REAL NUMBERS. Rows, heads and columns are natural numbers, so that a block's row `i` is row
  `512 * b + i` of the array without any conversion. A query row sees the key rows of its own block of 64 rows and of the blocks before.
-/
module

public import proofs.«01_k».proof.Proof.Real

@[expose] public section

noncomputable section

namespace Cert.Mla

open Finset

/-- What the gradient is computed from, in real numbers: the queries and keys (256 columns, the last 64 zero), the values and the output's
    cotangent (128 columns), the two rotary tables (32 columns) and the scale of the scores. -/
structure Nums where
  q : ℕ → ℕ → ℕ → ℝ
  k : ℕ → ℕ → ℕ → ℝ
  v : ℕ → ℕ → ℕ → ℝ
  ct : ℕ → ℕ → ℕ → ℝ
  cs : ℕ → ℕ → ℝ
  sn : ℕ → ℕ → ℝ
  sc : ℝ
  q_zero : ∀ h t d, 192 ≤ d → q h t d = 0
  k_zero : ∀ h t d, 192 ≤ d → k h t d = 0

variable (N : Nums)

/-- The score of a query row and a key row. -/
def score (h t k : ℕ) : ℝ := (∑ d ∈ range 256, N.q h t d * N.k h k d) * N.sc
/-- The weight before normalising: zero where the key row is hidden. -/
def wt (h t k : ℕ) : ℝ := if k / 64 ≤ t / 64 then Real.exp (score N h t k) else 0
/-- The sum of a row's weights. -/
def tot (h t : ℕ) : ℝ := ∑ k ∈ range 4096, wt N h t k
/-- The softmax of a row. -/
def prob (h t k : ℕ) : ℝ := wt N h t k / tot N h t
/-- The attention's output. -/
def out (h t j : ℕ) : ℝ := ∑ k ∈ range 4096, N.v h k j * prob N h t k
/-- The cotangent of a weight. -/
def dp (h t k : ℕ) : ℝ := ∑ j ∈ range 128, N.ct h t j * N.v h k j
/-- The cotangent times the output, summed over a row. -/
def delta (h t : ℕ) : ℝ := ∑ j ∈ range 128, N.ct h t j * out N h t j
/-- The gradient of a score before the scale, times the scale. -/
def ds (h t k : ℕ) : ℝ := prob N h t k * (dp N h t k - delta N h t) * N.sc
/-- The gradient of the queries. -/
def dq (h t d : ℕ) : ℝ := ∑ k ∈ range 4096, ds N h t k * N.k h k d
/-- The gradient of the keys. -/
def dk (h k d : ℕ) : ℝ := ∑ t ∈ range 4096, N.q h t d * ds N h t k
/-- The gradient of the values. -/
def dv (h k j : ℕ) : ℝ := ∑ t ∈ range 4096, N.ct h t j * prob N h t k

/-- The queries' gradient as it leaves: own columns as they are, rotary columns turned back, the rest zero. -/
def dqTurned (h t d : ℕ) : ℝ :=
  if d < 128 then dq N h t d
  else if d < 160 then dq N h t d * N.cs t (d - 128) + dq N h t (d + 32) * N.sn t (d - 128)
  else if d < 192 then dq N h t d * N.cs t (d - 160) - dq N h t (d - 32) * N.sn t (d - 160)
  else 0

/-- The gradient of the shared rotary key. -/
def dkr (k d : ℕ) : ℝ := ∑ h ∈ range 8, dk N h k (128 + d)

theorem wt_nonneg (h t k : ℕ) : 0 ≤ wt N h t k := by
  unfold wt; split
  · exact (Real.exp_pos _).le
  · exact le_rfl

theorem tot_pos (h t : ℕ) (ht : t < 4096) : 0 < tot N h t := by
  refine Finset.sum_pos' (fun k _ => wt_nonneg N h t k) ⟨0, by simp, ?_⟩
  unfold wt; rw [if_pos (by simp)]; exact Real.exp_pos _

/-- A hidden pair has weight zero. -/
theorem prob_hidden {h t k : ℕ} (hk : t / 64 < k / 64) : prob N h t k = 0 := by
  unfold prob wt; rw [if_neg (by omega), zero_div]

theorem ds_hidden {h t k : ℕ} (hk : t / 64 < k / 64) : ds N h t k = 0 := by
  unfold ds; rw [prob_hidden N hk, zero_mul, zero_mul]

/-- A visible pair's softmax from the logarithm of the row's sum. -/
theorem prob_exp {h t k : ℕ} (ht : t < 4096) (hk : k / 64 ≤ t / 64) : Real.exp (score N h t k - Real.log (tot N h t)) = prob N h t k := by
  unfold prob wt; rw [if_pos hk, Real.exp_sub, Real.exp_log (tot_pos N h t ht)]

/-- The row's sum does not depend on what is subtracted from the scores. -/
theorem tot_shift (h t : ℕ) (m : ℝ) : (∑ k ∈ range 4096, if k / 64 ≤ t / 64 then Real.exp (score N h t k - m) else 0) = tot N h t / Real.exp m := by
  unfold tot
  rw [Finset.sum_div]
  refine Finset.sum_congr rfl fun k _ => ?_
  unfold wt; split
  · exact Real.exp_sub _ _
  · rw [zero_div]

theorem log_shift (h t : ℕ) (ht : t < 4096) (m : ℝ) : m + Real.log (tot N h t / Real.exp m) = Real.log (tot N h t) := by
  rw [Real.log_div (tot_pos N h t ht).ne' (Real.exp_pos m).ne', Real.log_exp]; ring

theorem prob_shift (h t k : ℕ) (m : ℝ) : (if k / 64 ≤ t / 64 then Real.exp (score N h t k - m) else 0) / (tot N h t / Real.exp m) = prob N h t k := by
  unfold prob wt; split
  · rw [Real.exp_sub, div_div_div_cancel_right₀ (Real.exp_pos m).ne']
  · rw [zero_div, zero_div]

/-- The cotangent times the output is the weighted sum of the weights' cotangents. -/
theorem delta_eq (h t : ℕ) : delta N h t = ∑ k ∈ range 4096, prob N h t k * dp N h t k := by
  unfold delta out dp
  simp only [Finset.mul_sum]
  rw [Finset.sum_comm]
  refine Finset.sum_congr rfl fun k _ => Finset.sum_congr rfl fun j _ => by ring

theorem dq_zero (h t d : ℕ) (hd : 192 ≤ d) : dq N h t d = 0 := by
  unfold dq; exact Finset.sum_eq_zero fun k _ => by rw [N.k_zero h k d hd, mul_zero]

theorem dk_zero (h k d : ℕ) (hd : 192 ≤ d) : dk N h k d = 0 := by
  unfold dk; exact Finset.sum_eq_zero fun t _ => by rw [N.q_zero h t d hd, zero_mul]

theorem dkr_zero (k d : ℕ) (hd : 64 ≤ d) : dkr N k d = 0 := by
  unfold dkr; exact Finset.sum_eq_zero fun h _ => dk_zero N h k _ (by omega)

/-- The parts of a sum. -/
theorem range_block (f : ℕ → ℝ) (b : ℕ) : ∑ t ∈ range (512 * (b + 1)), f t = (∑ t ∈ range (512 * b), f t) + ∑ i : Fin 512, f (512 * b + i.val) := by
  rw [show 512 * (b + 1) = 512 * b + 512 by ring, Finset.sum_range_add, Finset.sum_range (fun i => f (512 * b + i))]

/-- A sum whose terms vanish from some point on. -/
theorem range_stop (f : ℕ → ℝ) {a b : ℕ} (hab : a ≤ b) (h : ∀ i, a ≤ i → i < b → f i = 0) : ∑ t ∈ range b, f t = ∑ t ∈ range a, f t := by
  refine (Finset.sum_subset (by intro x hx; simp only [Finset.mem_range] at hx ⊢; omega) fun x hx hx' => ?_).symm
  simp only [Finset.mem_range] at hx hx'
  exact h x (by omega) hx

end Cert.Mla

end
-- ==== Proof.MlaScale.lean ====
/- The literals of the attention's gradient as real numbers, and sums of products of reals. -/
module

public import proofs.«01_k».proof.Proof.Real

@[expose] public section

noncomputable section

namespace Cert.Mla

open Idealize.ShloMosaic
open Finset (range)

/-- The scale of the scores: the number the program's literal stands for. -/
def scl : ℝ := 9686330 / 134217728

theorem scale_eq : Ideal.ofBits .f32 0x3D93CD3A#32 = (scl : EReal) := by
  unfold scl
  simp [Ideal.ofBits, Ideal.ieee, -EReal.coe_mul]; norm_num

theorem minus_one : Ideal.ofBits .f32 0xBF800000#32 = ((-1 : ℝ) : EReal) := by
  simp [Ideal.ofBits, Ideal.ieee, -EReal.coe_mul]; norm_num

/-- A sum over `Fin n` of products of reals. -/
theorem sum_mul_coe (n : ℕ) (f g : ℕ → ℝ) : (∑ d : Fin n, ((f d.val : ℝ) : EReal) * ((g d.val : ℝ) : EReal)) = ((∑ d ∈ range n, f d * g d : ℝ) : EReal) := by
  rw [Finset.sum_range, Cert.Real.coe_sum]
  exact Finset.sum_congr rfl fun d _ => (EReal.coe_mul _ _).symm

end Cert.Mla

end
-- ==== Proof.MlaRead.lean ====
/-
  THE ARGUMENTS AS REAL NUMBERS, AND THE FORWARD PASS: where every argument is finite, the queries, the keys, the scores, the mask, the row
  maximum and the softmax, as the programs' host operations spell them, hold the real numbers of `Nums`.
-/
module

public import proofs.«01_k».proof.Proof.Gen.ReferenceIdeal.Read
public import proofs.«01_k».proof.Proof.MlaMath
public import proofs.«01_k».proof.Proof.MlaScale
public import Idealize.ShloMosaic.Lib.Pointwise
public import Idealize.ShloMosaic.Lib.WordCmp

@[expose] public section

set_option maxRecDepth 16384
set_option maxHeartbeats 1600000

noncomputable section

namespace Cert.Mla

open Cert.ReferenceIdeal Cert.ReferenceIdeal.Gen Cert.ReferenceIdeal.Read
open Idealize.ShloMosaic Idealize.ShloMosaic.TcCoe
open Finset (range)

/-- An element of a matrix as a real number, zero outside. -/
def at2 {R C : ℕ} (x : (⟨2, ![R, C]⟩ : Shape).Idx → EReal) (i j : ℕ) : ℝ :=
  if h : i < R ∧ j < C then (x (ix2 ⟨i, h.1⟩ ⟨j, h.2⟩)).toReal else 0

/-- Every element is a real number. -/
def Reals {s : Shape} (x : s.Idx → EReal) : Prop := ∀ i, ∃ r : ℝ, x i = (r : EReal)

theorem at2_eq {R C : ℕ} {x : (⟨2, ![R, C]⟩ : Shape).Idx → EReal} (hx : Reals x) (i : Fin R) (j : Fin C) : x (ix2 i j) = (at2 x i.val j.val : EReal) := by
  unfold at2
  rw [dif_pos ⟨i.isLt, j.isLt⟩]
  obtain ⟨r, hr⟩ := hx (ix2 i j)
  show x (ix2 i j) = ((x (ix2 i j)).toReal : EReal)
  rw [hr, EReal.toReal_coe]

/-- The quotient by 64 rounded down, as the programs spell it: a truncated quotient, corrected where the signs differ. -/
theorem floor_at : ∀ k : Fin 4096, Scalar.select
        (IntOp.andi
          (IntOp.cmpi CmpIPredicate.ne
            (if BitVec.ofNat 32 k.val = 0 then (0 : BitVec 32) else if (BitVec.ofNat 32 k.val).msb = true then -1 else 1)
            (if (64#32 : BitVec 32) = 0 then (0 : BitVec 32)
            else if BitVec.msb (64#32 : BitVec 32) = true then -1 else 1))
          (IntOp.cmpi CmpIPredicate.ne
            (IntOp.remsi ArithUnit.host (BitVec.ofNat 32 k.val) 64#32) 0#32))
        (IntOp.subi (IntOp.divsi ArithUnit.host (BitVec.ofNat 32 k.val) 64#32) 1#32)
        (IntOp.divsi ArithUnit.host (BitVec.ofNat 32 k.val) 64#32) =
      BitVec.ofNat 32 (k.val / 64) := by decide +kernel

section
variable (a0 : FVec Ideal S4096x1536 .f32) (a1 : FVec Ideal S4096x2048 .f32) (a2 : FVec Ideal S4096x64 .f32) (a3 a4 : FVec Ideal S4096x32 .f32) (a5 : FVec Ideal S4096x1024 .f32)

/-- The numbers the arguments stand for: the queries with their last 64 columns turned, the keys with the shared rotary key appended. -/
def numsOf : Nums where
  q h t d := if d < 128 then at2 a0 t (h * 192 + d)
    else if d - 128 < 32 then at2 a0 t (h * 192 + (128 + (d - 128))) * at2 a3 t (d - 128) - at2 a0 t (h * 192 + (128 + (32 + (d - 128)))) * at2 a4 t (d - 128)
    else if d < 192 then at2 a0 t (h * 192 + (128 + (32 + (d - 128 - 32)))) * at2 a3 t (d - 128 - 32) + at2 a0 t (h * 192 + (128 + (d - 128 - 32))) * at2 a4 t (d - 128 - 32)
    else 0
  k h t d := if d < 128 then at2 a1 t (h * 256 + d) else if d < 192 then at2 a2 t (d - 128) else 0
  v h t j := at2 a1 t (h * 256 + (128 + j))
  ct h t j := at2 a5 t (h * 128 + j)
  cs := at2 a3
  sn := at2 a4
  sc := scl
  q_zero h t d hd := by rw [if_neg (by omega), if_neg (by omega), if_neg (by omega)]
  k_zero h t d hd := by rw [if_neg (by omega), if_neg (by omega)]

variable (h0 : Reals a0) (h1 : Reals a1) (h2 : Reals a2) (h3 : Reals a3) (h4 : Reals a4) (h5 : Reals a5)

include h0 h3 h4 in
theorem v24_at (t : Fin 4096) (h : Fin 8) (d : Fin 192) : val_main_v24 (F := Ideal) a0 a3 a4 (ix3 t h d) = ((numsOf a0 a1 a2 a3 a4 a5).q h.val t.val d.val : EReal) := by
  have hd := d.isLt
  pointwise [val_main_v24, val_main_v17, val_main_v11, val_main_v16, val_main_v8, val_main_v10, val_main_v13, val_main_v15, val_main_v7, val_main_v9,
    val_main_v12, val_main_v14, val_main_v5, val_main_v6, val_main_v3, val_main_v4, val_main_v1, val_main_v2, val_main_v0]
  unfold numsOf
  dsimp only
  by_cases c1 : d.val < 128
  · rw [dif_pos c1, if_pos c1]; exact at2_eq h0 _ _
  · rw [dif_neg c1, if_neg c1]
    by_cases c2 : d.val - 128 < 32
    · rw [dif_pos c2, if_pos c2, at2_eq h0, at2_eq h0, at2_eq h3, at2_eq h4, ← EReal.coe_mul, ← EReal.coe_mul, ← EReal.coe_sub]
    · rw [dif_neg c2, if_neg c2, if_pos hd, at2_eq h0, at2_eq h0, at2_eq h3, at2_eq h4, ← EReal.coe_mul, ← EReal.coe_mul, ← EReal.coe_add]

include h1 h2 in
theorem v23_at (t : Fin 4096) (h : Fin 8) (d : Fin 192) : val_main_v23 (F := Ideal) a1 a2 (ix3 t h d) = ((numsOf a0 a1 a2 a3 a4 a5).k h.val t.val d.val : EReal) := by
  have hd := d.isLt
  pointwise [val_main_v23, val_main_v18, val_main_v19, val_main_v21, val_main_v22]
  unfold numsOf
  dsimp only
  by_cases c1 : d.val < 128
  · rw [dif_pos c1, if_pos c1]; exact at2_eq h1 _ _
  · rw [dif_neg c1, if_neg c1, if_pos hd]; exact at2_eq h2 _ _

include h1 in
theorem v20_at (t : Fin 4096) (h : Fin 8) (j : Fin 128) : val_main_v20 (F := Ideal) a1 (ix3 t h j) = ((numsOf a0 a1 a2 a3 a4 a5).v h.val t.val j.val : EReal) := by
  pointwise [val_main_v20, val_main_v18]
  exact at2_eq h1 _ _

include h0 h1 h2 h3 h4 in
theorem v27_at (h : Fin 8) (t k : Fin 4096) : val_main_v27 (F := Ideal) a0 a1 a2 a3 a4 (ix3 h t k) = (score (numsOf a0 a1 a2 a3 a4 a5) h.val t.val k.val : EReal) := by
  pointwise [val_main_v27, val_main_v26, val_main_v25, val_main_cst]
  rw [show Ideal.ofBits FTy.f32 1033096506#32 = (scl : EReal) from scale_eq]
  unfold score
  rw [EReal.coe_mul, range_stop _ (by norm_num : 192 ≤ 256) (fun i hi _ => by rw [Nums.q_zero _ _ _ _ hi, zero_mul]), ← sum_mul_coe]
  refine congrArg (fun y : EReal => y * (scl : EReal)) (Finset.sum_congr rfl fun x _ => ?_)
  exact congrArg₂ (fun x y : EReal => x * y) (v24_at a0 a1 a2 a3 a4 a5 h0 h3 h4 t h x) (v23_at a0 a1 a2 a3 a4 a5 h1 h2 k h x)

theorem v31_at (t k : Fin 4096) : val_main_v31 (F := Ideal) (ix2 t k) = BitVec.ofNat 32 (k.val / 64) := by
  pointwise [val_main_v31, val_main_v30, val_main_call1_v0, val_main_call1_v1, val_main_call1_v2, val_main_call1_v3, val_main_call1_v4, val_main_call1_v5, val_main_call1_v6, val_main_call1_v7,
    val_main_call1_v8, val_main_call1_v9, val_main_call1_v10, val_main_call1_v11, val_main_call1_v12, val_main_call1_v13, val_main_call1_c, val_main_call1_c_0, val_main_c_0]
  exact floor_at k

theorem v29_at (t k : Fin 4096) : val_main_v29 (F := Ideal) (ix2 t k) = BitVec.ofNat 32 (t.val / 64) := by
  pointwise [val_main_v29, val_main_v28, val_main_call0_v0, val_main_call0_v1, val_main_call0_v2, val_main_call0_v3, val_main_call0_v4, val_main_call0_v5, val_main_call0_v6, val_main_call0_v7,
    val_main_call0_v8, val_main_call0_v9, val_main_call0_v10, val_main_call0_v11, val_main_call0_v12, val_main_call0_v13, val_main_call0_c, val_main_call0_c_0, val_main_c]
  exact floor_at t

theorem mask_at (h : Fin 8) (t k : Fin 4096) : val_main_v34_1 (F := Ideal) (ix3 h t k) = if k.val / 64 ≤ t.val / 64 then 1#1 else 0#1 := by
  pointwise [val_main_v34_1, val_main_v33, val_main_v32]
  refine (congrArg₂ _ (v31_at t k) (v29_at t k)).trans ?_
  have ht := t.isLt
  have hk := k.isLt
  by_cases hle : k.val / 64 ≤ t.val / 64
  · rw [if_pos hle]
    exact (WordCmp.cmpi_sle_ofNat_eq_one_iff (by omega) (by omega)).2 hle
  · rw [if_neg hle]
    exact (WordCmp.cmpi_sle_ofNat_eq_zero_iff (by omega) (by omega)).2 hle

include h0 h1 h2 h3 h4 in
/-- The masked scores: `-∞` where the key row is hidden. -/
theorem v34_at (h : Fin 8) (t k : Fin 4096) : val_main_v34_0 (F := Ideal) a0 a1 a2 a3 a4 (ix3 h t k)
    = if k.val / 64 ≤ t.val / 64 then (score (numsOf a0 a1 a2 a3 a4 a5) h.val t.val k.val : EReal) else ⊥ := by
  rw [val_main_v34_0_apply, mask_at, v27_at a0 a1 a2 a3 a4 a5 h0 h1 h2 h3 h4]
  by_cases hle : k.val / 64 ≤ t.val / 64
  · rw [if_pos hle, if_pos hle]; rfl
  · rw [if_neg hle, if_neg hle]; exact Cert.Real.neg_infinity

/-- The maximum of a row some of whose entries are reals and whose other entries are `-∞` is a real. -/
theorem fold_max_real (f : Fin 4096 → EReal) (g : Fin 4096 → ℝ) (p : Fin 4096 → Prop) [DecidablePred p] (hf : ∀ k, f k = if p k then (g k : EReal) else ⊥) (k0 : Fin 4096) (hp : p k0) :
    ∃ r : ℝ, Finset.fold max (⊥ : EReal) f Finset.univ = (r : EReal) := by
  have htop : Finset.fold max (⊥ : EReal) f Finset.univ < ⊤ := by
    rw [Finset.fold_max_lt]
    refine ⟨bot_lt_top, fun k _ => ?_⟩
    rw [hf]; split
    · exact EReal.coe_lt_top _
    · exact bot_lt_top
  have hbot : ((g k0 : ℝ) : EReal) ≤ Finset.fold max (⊥ : EReal) f Finset.univ := by
    rw [Finset.le_fold_max]
    exact Or.inr ⟨k0, Finset.mem_univ _, le_of_eq (by rw [hf, if_pos hp])⟩
  exact ⟨_, (EReal.coe_toReal htop.ne (fun h => by rw [h] at hbot; exact absurd (le_bot_iff.mp hbot) (EReal.coe_ne_bot _))).symm⟩

include h0 h1 h2 h3 h4 in
theorem v35_real (h : Fin 8) (t : Fin 4096) : ∃ r : ℝ, val_main_v35 (F := Ideal) a0 a1 a2 a3 a4 (ix2 h t) = (r : EReal) := by
  pointwise [val_main_v35, val_main_cst_2]
  rw [show Ideal.ofBits FTy.f32 4286578688#32 = (⊥ : EReal) from Cert.Real.neg_infinity]
  exact fold_max_real _ (fun k => score (numsOf a0 a1 a2 a3 a4 (fun _ => 0)) h.val t.val k.val) (fun k => k.val / 64 ≤ t.val / 64)
    (fun k => v34_at a0 a1 a2 a3 a4 (fun _ => 0) h0 h1 h2 h3 h4 h t k) ⟨0, by norm_num⟩ (by simp)

/-- The exponential of a masked score less a real. -/
theorem exp_masked (p : Prop) [Decidable p] (x m : ℝ) : Ideal.exp ((if p then (x : EReal) else ⊥) - (m : EReal)) = ((if p then Real.exp (x - m) else 0 : ℝ) : EReal) := by
  by_cases hp : p
  · rw [if_pos hp, if_pos hp, ← EReal.coe_sub]; rfl
  · rw [if_neg hp, if_neg hp, EReal.bot_sub]; rfl

end

end Cert.Mla

end
-- ==== Proof.MlaStep.lean ====
/-
  THE ATTENTION'S GRADIENT, POINT BY POINT: what one grid point of `mla_bwd` makes of the buffers it finds, written as functions of
  vectors over any float values. The grid walks the heads and, inside a head, the blocks of 512 query rows. For one block the kernel
  goes through the blocks of key rows before it (`trip`), then through the block on the diagonal (`diag`), and adds to three
  accumulators: the query rows' gradient, the keys' gradient and the values' gradient, the last two kept transposed, one
  plane per key block. At the head's last query block the key and value gradients are laid out in the output block (`layKv`) and the part
  that belongs to the shared rotary key is added up over the heads (`addRope`).
-/
module

public import proofs.«01_k».proof.Proof.Gen.KernelIdeal.Skeleton
public import Idealize.ShloMosaic.Lib.VecWindow

@[expose] public section

set_option maxRecDepth 16384

noncomputable section

namespace Cert.Mla

open Cert.KernelIdeal Cert.KernelIdeal.Gen Idealize.ShloMosaic

variable {F : FTy → Type} [FloatOps F]

/-- The three accumulators a query block adds to: the keys' gradient and the values' gradient (transposed, a plane for each block of 512
    key rows), and the query rows' gradient. -/
structure Acc (F : FTy → Type) where
  dk : Vec F S8x256x512 .f32
  dv : Vec F S8x128x512 .f32
  dq : Vec F S512x256 .f32

/-- What the kernel has made of a query block before it meets the keys: the queries, the output's cotangent, both transposed, and per row
    the sum of cotangent times output and the row's log-sum. -/
structure Rows (F : FTy → Type) where
  q : FVec F S512x256 .bf16
  ct : FVec F S512x128 .bf16
  qT : FVec F S256x512 .bf16
  ctT : FVec F S128x512 .bf16
  delta : FVec F S512x1 .f32
  lse : FVec F S512x1 .f32

/-- Run a step for 0, 1, …, `n - 1`, at most eight times. -/
def upTo {S : Type} (f : Fin 8 → S → S) : ℕ → S → S
  | 0, s => s
  | n + 1, s => if h : n < 8 then f ⟨n, h⟩ (upTo f n s) else upTo f n s

theorem upTo_succ {S : Type} (f : Fin 8 → S → S) (n : ℕ) (h : n < 8) (s : S) : upTo f (n + 1) s = f ⟨n, h⟩ (upTo f n s) := dif_pos h

theorem inb_keys (k : Fin 8) : ∀ a, (![512 * k.val, 0] : Fin 2 → ℕ) a + S512x256.size a ≤ S4096x256.size a := by
  revert k; decide
theorem inb_left (k : Fin 8) : ∀ a, (![512 * k.val, 0] : Fin 2 → ℕ) a + S512x128.size a ≤ S4096x256.size a := by
  revert k; decide
theorem inb_right (k : Fin 8) : ∀ a, (![512 * k.val, 128] : Fin 2 → ℕ) a + S512x128.size a ≤ S4096x256.size a := by
  revert k; decide
theorem inb_plane (k : Fin 8) : ∀ a, (![k.val, 0, 0] : Fin 3 → ℕ) a + S1x256x512.size a ≤ S8x256x512.size a := by
  revert k; decide
theorem inb_low (k : Fin 8) : ∀ a, (![k.val, 0, 0] : Fin 3 → ℕ) a + S1x128x512.size a ≤ S8x256x512.size a := by
  revert k; decide
theorem inb_high (k : Fin 8) : ∀ a, (![k.val, 128, 0] : Fin 3 → ℕ) a + S1x128x512.size a ≤ S8x256x512.size a := by
  revert k; decide
theorem inb_half (k : Fin 8) : ∀ a, (![k.val, 0, 0] : Fin 3 → ℕ) a + S1x128x512.size a ≤ S8x128x512.size a := by
  revert k; decide

/-- The key rows of block `k`. -/
def keysAt (x : Vec F S4096x256 .bf16) (k : Fin 8) : Vec F S512x256 .bf16 := VecWindow.window x ![512 * k.val, 0] S512x256.size (inb_keys k)
/-- The value rows of block `k`. -/
def valsAt (x : Vec F S4096x256 .bf16) (k : Fin 8) : Vec F S512x128 .bf16 := VecWindow.window x ![512 * k.val, 128] S512x128.size (inb_right k)
/-- Plane `k` of the keys' gradient. -/
def dkAt (x : Vec F S8x256x512 .f32) (k : Fin 8) : Vec F S1x256x512 .f32 := VecWindow.window x ![k.val, 0, 0] S1x256x512.size (inb_plane k)
/-- Plane `k` of the values' gradient. -/
def dvAt (x : Vec F S8x128x512 .f32) (k : Fin 8) : Vec F S1x128x512 .f32 := VecWindow.window x ![k.val, 0, 0] S1x128x512.size (inb_half k)
/-- The first half of plane `k` of the keys' gradient. -/
def lowAt (x : Vec F S8x256x512 .f32) (k : Fin 8) : Vec F S1x128x512 .f32 := VecWindow.window x ![k.val, 0, 0] S1x128x512.size (inb_low k)
/-- The second half of plane `k` of the keys' gradient. -/
def highAt (x : Vec F S8x256x512 .f32) (k : Fin 8) : Vec F S1x128x512 .f32 := VecWindow.window x ![k.val, 128, 0] S1x128x512.size (inb_high k)

/-- The query block's rows, from the blocks of the queries, the output, the row log-sums and the cotangent. -/
def rowsOf (x2 : Vec F S512x256 .bf16) (x5 : Vec F S512x128 .bf16) (x6 : Vec F S1x512x1 .f32) (x7 : Vec F S512x128 .bf16) : Rows F :=
  ⟨k0_pay18 x2, k0_pay20 x7, k0_pay21 x2, k0_pay22 x7, k0_pay23 x7 x5, k0_pay24 x6⟩

/-- One key block before the diagonal. -/
def trip (r : Rows F) (kv kc : Vec F S4096x256 .bf16) (k : Fin 8) (a : Acc F) : Acc F :=
  ⟨VecWindow.put a.dk ![k.val, 0, 0] S1x256x512.size (k0_pay7 r.q r.ct r.qT r.delta r.lse (keysAt kc k) (valsAt kv k) (dkAt a.dk k)),
    VecWindow.put a.dv ![k.val, 0, 0] S1x128x512.size (k0_pay8 r.q r.ctT r.lse (keysAt kc k) (dvAt a.dv k)),
    k0_pay26 (keysAt kc k) (k0_pay6 r.q r.ct r.delta r.lse (keysAt kc k) (valsAt kv k)) a.dq⟩

/-- The head's keys: the block's own key columns on the left and the shared rotary key on the right. -/
def keysOf (x3 : Vec F S4096x256 .bf16) (x4 : Vec F S4096x128 .bf16) (x : Vec F S4096x256 .bf16) : Vec F S4096x256 .bf16 :=
  VecWindow.put (VecWindow.put x ![0, 0] S4096x128.size (k0_pay13 (VecWindow.window x3 ![0, 0] S4096x128.size inb_S4096x256_S4096x128_0_0)))
    ![0, 128] S4096x128.size (k0_pay14 x4)

/-- The column numbers of a diagonal block's pairs. -/
abbrev colOf : IVec S512x512 32 := iota .tc S512x512 32 [1] iota_S512x512_d1_w32

/-- The key block on the diagonal: as a block before it, with the pairs cut off by the block-causal mask at weight zero. -/
def diag (r : Rows F) (kv kc : Vec F S4096x256 .bf16) (k : Fin 8) (a : Acc F) : Acc F :=
  let e : FVec F S512x512 .f32 := k0_pay28 r.q r.lse (keysAt kc k)
  ⟨VecWindow.put a.dk ![k.val, 0, 0] S1x256x512.size
      (k0_pay35 r.ct r.qT r.delta e k0_pay29 colOf 64#32 k0_pay30 k0_pay31 k0_pay32 (valsAt kv k) (dkAt a.dk k)),
    VecWindow.put a.dv ![k.val, 0, 0] S1x128x512.size
      (k0_pay38 r.ctT (k0_pay36 (dvAt a.dv k)) (k0_pay37 e k0_pay29 colOf 64#32 k0_pay30 k0_pay31 k0_pay32) (constant S128x512 .f32 0x00000000#32)),
    k0_pay39 (keysAt kc k) (k0_pay34 r.ct r.delta e k0_pay29 colOf 64#32 k0_pay30 k0_pay31 k0_pay32 (valsAt kv k)) a.dq⟩

/-- The query rows' gradient as it leaves: the own columns as they are, the rotary columns turned back. -/
def dqOut (x8 x9 : Vec F S512x128 .f32) (dq : Vec F S512x256 .f32) (x : Vec F S512x256 .bf16) : Vec F S512x256 .bf16 :=
  VecWindow.put (VecWindow.put x ![0, 0] S512x128.size (k0_pay40 (VecWindow.window dq ![0, 0] S512x128.size inb_S512x256_S512x128_0_0)))
    ![0, 128] S512x128.size (k0_pay41 (VecWindow.window dq ![0, 128] S512x128.size inb_S512x256_S512x128_0_128) x8 x9)

/-- One key block of a head's key and value gradients, laid out in the output block. -/
def layKv (dk : Vec F S8x256x512 .f32) (dv : Vec F S8x128x512 .f32) (k : Fin 8) (x : Vec F S4096x256 .f32) : Vec F S4096x256 .f32 :=
  VecWindow.put (VecWindow.put x ![512 * k.val, 0] S512x128.size (k0_pay1 (lowAt dk k))) ![512 * k.val, 128] S512x128.size (k0_pay2 (dvAt dv k))

/-- One key block of the shared rotary key's gradient: the head's part added. -/
def addRope (dk : Vec F S8x256x512 .f32) (k : Fin 8) (x : Vec F S8x128x512 .f32) : Vec F S8x128x512 .f32 :=
  VecWindow.put x ![k.val, 0, 0] S1x128x512.size (k0_pay3 (dvAt x k) (highAt dk k))

/-- One key block of the shared rotary key's gradient, laid out in the output. -/
def layRope (dr : Vec F S8x128x512 .f32) (k : Fin 8) (x : Vec F S4096x128 .f32) : Vec F S4096x128 .f32 :=
  VecWindow.put x ![512 * k.val, 0] S512x128.size (k0_pay4 (dvAt dr k))

/-- Everything the kernel keeps between grid points: the head's keys, the query rows' gradient, the two transposed gradients of the head and
    the shared rotary key's gradient. -/
structure Kept (F : FTy → Type) where
  kc : Vec F S4096x256 .bf16
  dq : Vec F S512x256 .f32
  dk : Vec F S8x256x512 .f32
  dv : Vec F S8x128x512 .f32
  dr : Vec F S8x128x512 .f32

/-- The start of a point: at a head's first query block the keys are laid out and the head's gradients set to zero, at the very first point
    the shared rotary key's gradient too; the query rows' gradient is zero at every point. -/
def opened (h q : ℕ) (x3 : Vec F S4096x256 .bf16) (x4 : Vec F S4096x128 .bf16) (s : Kept F) : Kept F :=
  ⟨if q = 0 then keysOf x3 x4 s.kc else s.kc, k0_pay25, if q = 0 then k0_pay15 else s.dk, if q = 0 then k0_pay16 else s.dv,
    if q = 0 ∧ h = 0 then k0_pay17 else s.dr⟩

/-- The accumulators after the key blocks of query block `q`. -/
def summed (r : Rows F) (kv : Vec F S4096x256 .bf16) (q : Fin 8) (s : Kept F) : Acc F :=
  diag r kv s.kc q (upTo (trip r kv s.kc) q.val ⟨s.dk, s.dv, s.dq⟩)

end Cert.Mla

end
-- ==== Proof.MlaPay.lean ====
/-
  WHAT ONE BLOCK COMPUTES, IN REAL NUMBERS: each value the kernel makes of a query block and a key block, read at an index, where the
  blocks hold real numbers.
-/
module

public import proofs.«01_k».proof.Proof.MlaStep
public import proofs.«01_k».proof.Proof.MlaMath
public import proofs.«01_k».proof.Proof.MlaScale
public import Idealize.ShloMosaic.Lib.Pointwise
public import Idealize.ShloMosaic.Lib.WordCmp

@[expose] public section

set_option maxRecDepth 16384

noncomputable section

namespace Cert.Mla

open Cert.KernelIdeal Cert.KernelIdeal.Gen Idealize.ShloMosaic Idealize.ShloMosaic.TcCoe
open Finset (range)

theorem pay29_at (i j : Fin 512) : k0_pay29 (ix2 i j) = BitVec.ofNat 32 (i.val / 64) := by
  pointwise [k0_pay29]
  revert i; decide +kernel

theorem pay33_at (e : FVec Ideal S512x512 .f32) (i j : Fin 512) :
    k0_pay33 (F := Ideal) e k0_pay29 colOf 64#32 k0_pay30 k0_pay31 k0_pay32 (ix2 i j) = if j.val / 64 ≤ i.val / 64 then e (ix2 i j) else 0 := by
  have hcol : ∀ j : Fin 512, Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 j.val) 64#32) 0#32))
          (IntOp.subi (IntOp.divsi ArithUnit.vector (BitVec.ofNat 32 j.val) 64#32) 1#32)
          (IntOp.divsi ArithUnit.vector (BitVec.ofNat 32 j.val) 64#32) = BitVec.ofNat 32 (j.val / 64) := by decide +kernel
  pointwise [k0_pay33, pay29_at, colOf, k0_pay30, k0_pay31, k0_pay32]
  rw [hcol j]
  have hi := i.isLt
  have hj := j.isLt
  by_cases hle : j.val / 64 ≤ i.val / 64
  · rw [if_pos hle]
    exact WordCmp.select_of_eq_one ((WordCmp.cmpi_sle_ofNat_eq_one_iff (by omega) (by omega)).2 hle) _ _
  · rw [if_neg hle]
    exact WordCmp.select_of_eq_zero ((WordCmp.cmpi_sle_ofNat_eq_zero_iff (by omega) (by omega)).2 hle) _ _

/-- What a query block's rows hold. -/
structure RowsAre (N : Nums) (h b : ℕ) (r : Rows Ideal) : Prop where
  q : ∀ (i : Fin 512) (e : Fin 256), r.q (ix2 i e) = (N.q h (512 * b + i.val) e.val : EReal)
  ct : ∀ (i : Fin 512) (e : Fin 128), r.ct (ix2 i e) = (N.ct h (512 * b + i.val) e.val : EReal)
  qT : ∀ (e : Fin 256) (i : Fin 512), r.qT (ix2 e i) = (N.q h (512 * b + i.val) e.val : EReal)
  ctT : ∀ (e : Fin 128) (i : Fin 512), r.ctT (ix2 e i) = (N.ct h (512 * b + i.val) e.val : EReal)
  delta : ∀ i : Fin 512, r.delta (ix2 i 0) = (delta N h (512 * b + i.val) : EReal)
  lse : ∀ i : Fin 512, r.lse (ix2 i 0) = (Real.log (tot N h (512 * b + i.val)) : EReal)

section
variable {N : Nums} (hs : N.sc = scl) {h b c : ℕ} {r : Rows Ideal} (hr : RowsAre N h b r)
variable {k : FVec Ideal S512x256 .bf16} {v : FVec Ideal S512x128 .bf16}
variable (hk : ∀ (i : Fin 512) (e : Fin 256), k (ix2 i e) = (N.k h (512 * c + i.val) e.val : EReal))
variable (hv : ∀ (i : Fin 512) (e : Fin 128), v (ix2 i e) = (N.v h (512 * c + i.val) e.val : EReal))
include hs hr hk

theorem pay5_at (i j : Fin 512) :
    k0_pay5 (F := Ideal) r.q r.lse k (ix2 i j)
      = (Real.exp (score N h (512 * b + i.val) (512 * c + j.val) - Real.log (tot N h (512 * b + i.val))) : EReal) := by
  have e1 := hr.q
  have e2 := hr.lse
  pointwise [k0_pay5, e1, e2, hk, scale_eq]
  rw [sum_mul_coe 256 (N.q h (512 * b + i.val)) (N.k h (512 * c + j.val)), ← EReal.coe_mul, ← EReal.coe_sub, Cert.Real.exp_coe, ← hs]
  rfl

theorem p_trip (hb : b < 8) (hc : c < b) (i j : Fin 512) :
    k0_pay5 (F := Ideal) r.q r.lse k (ix2 i j) = (prob N h (512 * b + i.val) (512 * c + j.val) : EReal) := by
  rw [pay5_at hs hr hk, prob_exp N (by omega) (by omega)]

theorem p_diag (hb : b < 8) (hc : c = b) (i j : Fin 512) :
    k0_pay33 (F := Ideal) (k0_pay28 r.q r.lse k) k0_pay29 colOf 64#32 k0_pay30 k0_pay31 k0_pay32 (ix2 i j)
      = (prob N h (512 * b + i.val) (512 * c + j.val) : EReal) := by
  rw [pay33_at]
  split
  · rw [show k0_pay28 (F := Ideal) r.q r.lse k = k0_pay5 r.q r.lse k from rfl, pay5_at hs hr hk, prob_exp N (by omega) (by omega)]
  · rw [prob_hidden N (by omega)]; rfl

include hv

theorem ds_trip (hb : b < 8) (hc : c < b) (i j : Fin 512) :
    k0_pay6 (F := Ideal) r.q r.ct r.delta r.lse k v (ix2 i j) = (ds N h (512 * b + i.val) (512 * c + j.val) : EReal) := by
  have e1 := hr.ct
  have e2 := hr.delta
  pointwise [k0_pay6, e1, e2, hv, scale_eq]
  rw [sum_mul_coe 128 (N.ct h (512 * b + i.val)) (N.v h (512 * c + j.val)), p_trip hs hr hk hb hc, ← EReal.coe_sub, ← EReal.coe_mul, ← EReal.coe_mul, ← hs]
  rfl

theorem ds_diag (hb : b < 8) (hc : c = b) (i j : Fin 512) :
    k0_pay34 (F := Ideal) r.ct r.delta (k0_pay28 r.q r.lse k) k0_pay29 colOf 64#32 k0_pay30 k0_pay31 k0_pay32 v (ix2 i j)
      = (ds N h (512 * b + i.val) (512 * c + j.val) : EReal) := by
  have e1 := hr.ct
  have e2 := hr.delta
  pointwise [k0_pay34, e1, e2, hv, scale_eq]
  rw [sum_mul_coe 128 (N.ct h (512 * b + i.val)) (N.v h (512 * c + j.val)), p_diag hs hr hk hb hc, ← EReal.coe_sub, ← EReal.coe_mul, ← EReal.coe_mul, ← hs]
  rfl

end

/-- A block's product added to a partial sum over rows is the partial sum over one more block. -/
theorem add_block (f g : ℕ → ℝ) (b : ℕ) {a : EReal} {x y : Fin 512 → EReal} (ha : a = ((∑ t ∈ range (512 * b), f t * g t : ℝ) : EReal))
    (hx : ∀ i, x i = (f (512 * b + i.val) : EReal)) (hy : ∀ i, y i = (g (512 * b + i.val) : EReal)) :
    a + ∑ i, x i * y i = ((∑ t ∈ range (512 * (b + 1)), f t * g t : ℝ) : EReal) := by
  rw [range_block, EReal.coe_add, ha, Cert.Real.coe_sum (Finset.univ : Finset (Fin 512))]
  refine congrArg _ (Finset.sum_congr rfl fun i _ => ?_)
  rw [hx, hy, EReal.coe_mul]

/-! Reading windows at an index. -/

section
variable {α : Type}

theorem put_plane_at (n : ℕ) (k : Fin 8) (x : (⟨3, ![8, n, 512]⟩ : Shape).Idx → α) (w : (⟨3, ![1, n, 512]⟩ : Shape).Idx → α) (b : Fin 8) (d : Fin n) (j : Fin 512) :
    VecWindow.put (s := ⟨3, ![8, n, 512]⟩) x ![k.val, 0, 0] ![1, n, 512] w (ix3 b d j) = if b = k then w (ix3 0 d j) else x (ix3 b d j) := by
  unfold VecWindow.put
  by_cases h : b = k
  · subst h
    rw [if_pos rfl, dif_pos (fun a => by match a with | ⟨0, _⟩ => exact ⟨le_rfl, Nat.lt_succ_self _⟩ | ⟨1, _⟩ => exact ⟨Nat.zero_le _, by simpa using d.isLt⟩ | ⟨2, _⟩ => exact ⟨Nat.zero_le _, by simpa using j.isLt⟩)]
    refine congrArg w (funext fun a => Fin.ext ?_)
    match a with
    | ⟨0, _⟩ => exact Nat.sub_self _
    | ⟨1, _⟩ => exact Nat.sub_zero _
    | ⟨2, _⟩ => exact Nat.sub_zero _
  · rw [if_neg h, dif_neg]
    intro hn
    have := hn 0
    apply h
    apply Fin.ext
    have h1 : k.val ≤ b.val := this.1
    have h2 : b.val < k.val + 1 := this.2
    omega

theorem put_cols_at (R C W R0 C0 H : ℕ) (x : (⟨2, ![R, C]⟩ : Shape).Idx → α) (w : (⟨2, ![H, W]⟩ : Shape).Idx → α) (i : Fin R) (j : Fin C) :
    VecWindow.put (s := ⟨2, ![R, C]⟩) x ![R0, C0] ![H, W] w (ix2 i j)
      = if hh : (R0 ≤ i.val ∧ i.val < R0 + H) ∧ (C0 ≤ j.val ∧ j.val < C0 + W) then w (ix2 ⟨i.val - R0, by omega⟩ ⟨j.val - C0, by omega⟩) else x (ix2 i j) := by
  unfold VecWindow.put
  by_cases hh : (R0 ≤ i.val ∧ i.val < R0 + H) ∧ (C0 ≤ j.val ∧ j.val < C0 + W)
  · rw [dif_pos hh, dif_pos (fun a => by match a with | ⟨0, _⟩ => exact hh.1 | ⟨1, _⟩ => exact hh.2)]
    refine congrArg w (funext fun a => Fin.ext ?_)
    match a with
    | ⟨0, _⟩ => rfl
    | ⟨1, _⟩ => rfl
  · rw [dif_neg hh, dif_neg]
    intro hn
    exact hh ⟨hn 0, hn 1⟩

theorem window_cols_at (R C W R0 C0 H : ℕ) (x : (⟨2, ![R, C]⟩ : Shape).Idx → α) (inb) (i : Fin H) (j : Fin W) (hi : R0 + i.val < R) (hj : C0 + j.val < C) :
    VecWindow.window (s := ⟨2, ![R, C]⟩) x ![R0, C0] ![H, W] inb (ix2 i j) = x (ix2 ⟨R0 + i.val, hi⟩ ⟨C0 + j.val, hj⟩) := by
  unfold VecWindow.window
  refine congrArg x (funext fun a => Fin.ext ?_)
  match a with
  | ⟨0, _⟩ => show R0 + 1 * i.val = _; rw [one_mul]; rfl
  | ⟨1, _⟩ => show C0 + 1 * j.val = _; rw [one_mul]; rfl

theorem window_plane_at (n m D0 : ℕ) (k : Fin 8) (x : (⟨3, ![8, n, 512]⟩ : Shape).Idx → α) (inb) (d : Fin m) (j : Fin 512) (hd : D0 + d.val < n) :
    VecWindow.window (s := ⟨3, ![8, n, 512]⟩) x ![k.val, D0, 0] ![1, m, 512] inb (ix3 0 d j) = x (ix3 k ⟨D0 + d.val, hd⟩ j) := by
  unfold VecWindow.window
  refine congrArg x (funext fun a => Fin.ext ?_)
  match a with
  | ⟨0, _⟩ => show k.val + 1 * 0 = _; rfl
  | ⟨1, _⟩ => show D0 + 1 * d.val = _; rw [one_mul]; rfl
  | ⟨2, _⟩ => show 0 + 1 * j.val = _; rw [one_mul, zero_add]; rfl

end

/-- What the accumulators of head `h` hold at query block `b`, after `n` key blocks. -/
structure AccIs (N : Nums) (h b n : ℕ) (a : Acc Ideal) : Prop where
  dk : ∀ (c : Fin 8) (d : Fin 256) (j : Fin 512), a.dk (ix3 c d j)
    = ((∑ t ∈ range (512 * (if c.val < n then b + 1 else b)), N.q h t d.val * ds N h t (512 * c.val + j.val) : ℝ) : EReal)
  dv : ∀ (c : Fin 8) (d : Fin 128) (j : Fin 512), a.dv (ix3 c d j)
    = ((∑ t ∈ range (512 * (if c.val < n then b + 1 else b)), N.ct h t d.val * prob N h t (512 * c.val + j.val) : ℝ) : EReal)
  dq : ∀ (i : Fin 512) (d : Fin 256), a.dq (ix2 i d) = ((∑ k ∈ range (512 * n), ds N h (512 * b + i.val) k * N.k h k d.val : ℝ) : EReal)

/-- What the key array and the value columns hold. -/
structure KvAre (N : Nums) (h : ℕ) (kv kc : FVec Ideal S4096x256 .bf16) : Prop where
  k : ∀ (i : Fin 4096) (e : Fin 256), kc (ix2 i e) = (N.k h i.val e.val : EReal)
  v : ∀ (i : Fin 4096) (e : Fin 128), kv (ix2 i ⟨128 + e.val, by omega⟩) = (N.v h i.val e.val : EReal)

section
variable {N : Nums} {h b : ℕ} {kv kc : FVec Ideal S4096x256 .bf16} (hkv : KvAre N h kv kc) (c : Fin 8)
include hkv

theorem keysAt_at (i : Fin 512) (e : Fin 256) : keysAt (F := Ideal) kc c (ix2 i e) = (N.k h (512 * c.val + i.val) e.val : EReal) := by
  have hc := c.isLt
  refine (window_cols_at 4096 256 256 (512 * c.val) 0 512 kc _ i e (by omega) (by omega)).trans ?_
  refine (hkv.k _ _).trans ?_
  simp only [zero_add]

theorem valsAt_at (i : Fin 512) (e : Fin 128) : valsAt (F := Ideal) kv c (ix2 i e) = (N.v h (512 * c.val + i.val) e.val : EReal) := by
  have hc := c.isLt
  refine (window_cols_at 4096 256 128 (512 * c.val) 128 512 kv _ i e (by omega) (by omega)).trans ?_
  exact hkv.v _ _
end

theorem dkAt_at (x : FVec Ideal S8x256x512 .f32) (c : Fin 8) (d : Fin 256) (j : Fin 512) : dkAt (F := Ideal) x c (ix3 0 d j) = x (ix3 c d j) := by
  refine (window_plane_at 256 256 0 c x _ d j (by omega)).trans ?_
  simp only [zero_add]

theorem dvAt_at (x : FVec Ideal S8x128x512 .f32) (c : Fin 8) (d : Fin 128) (j : Fin 512) : dvAt (F := Ideal) x c (ix3 0 d j) = x (ix3 c d j) := by
  refine (window_plane_at 128 128 0 c x _ d j (by omega)).trans ?_
  simp only [zero_add]

theorem lowAt_at (x : FVec Ideal S8x256x512 .f32) (c : Fin 8) (d : Fin 128) (j : Fin 512) : lowAt (F := Ideal) x c (ix3 0 d j) = x (ix3 c ⟨d.val, by omega⟩ j) := by
  refine (window_plane_at 256 128 0 c x _ d j (by omega)).trans ?_
  simp only [zero_add]

theorem highAt_at (x : FVec Ideal S8x256x512 .f32) (c : Fin 8) (d : Fin 128) (j : Fin 512) : highAt (F := Ideal) x c (ix3 0 d j) = x (ix3 c ⟨128 + d.val, by omega⟩ j) :=
  window_plane_at 256 128 128 c x _ d j (by omega)

section
variable {N : Nums} (hs : N.sc = scl) {h b : ℕ} (hb : b < 8) {r : Rows Ideal} (hr : RowsAre N h b r) {kv kc : FVec Ideal S4096x256 .bf16} (hkv : KvAre N h kv kc)
include hs hb hr hkv

theorem trip_is (c : Fin 8) (hc : c.val < b) (a : Acc Ideal) (ha : AccIs N h b c.val a) : AccIs N h b (c.val + 1) (trip r kv kc c a) := by
  have hP := p_trip hs hr (keysAt_at hkv c) hb hc
  have hS := ds_trip hs hr (keysAt_at hkv c) (valsAt_at hkv c) hb hc
  constructor
  · intro e d j
    unfold trip
    refine (put_plane_at 256 c a.dk _ e d j).trans ?_
    by_cases he : e = c
    · subst he
      rw [if_pos rfl, if_pos (Nat.lt_succ_self _)]
      have e1 := hr.qT
      pointwise [k0_pay7]
      refine add_block (fun t => N.q h t d.val) (fun t => ds N h t (512 * e.val + j.val)) b ?_ (fun i => e1 d i) (fun i => hS i j)
      refine (dkAt_at _ _ _ _).trans ((ha.dk e d j).trans ?_)
      rw [if_neg (lt_irrefl _)]
    · rw [if_neg he, ha.dk]
      have : e.val ≠ c.val := fun h => he (Fin.ext h)
      simp only [show (e.val < c.val + 1) = (e.val < c.val) from propext (by omega)]
  · intro e d j
    unfold trip
    refine (put_plane_at 128 c a.dv _ e d j).trans ?_
    by_cases he : e = c
    · subst he
      rw [if_pos rfl, if_pos (Nat.lt_succ_self _)]
      have e1 := hr.ctT
      pointwise [k0_pay8]
      refine add_block (fun t => N.ct h t d.val) (fun t => prob N h t (512 * e.val + j.val)) b ?_ (fun i => e1 d i) (fun i => hP i j)
      refine (dvAt_at _ _ _ _).trans ((ha.dv e d j).trans ?_)
      rw [if_neg (lt_irrefl _)]
    · rw [if_neg he, ha.dv]
      have : e.val ≠ c.val := fun h => he (Fin.ext h)
      simp only [show (e.val < c.val + 1) = (e.val < c.val) from propext (by omega)]
  · intro i d
    unfold trip
    have e1 := keysAt_at hkv c
    pointwise [k0_pay26]
    exact add_block (fun k => ds N h (512 * b + i.val) k) (fun k => N.k h k d.val) c.val (ha.dq i d) (fun j => hS i j) (fun j => e1 j d)

theorem diag_is (c : Fin 8) (hc : c.val = b) (a : Acc Ideal) (ha : AccIs N h b c.val a) : AccIs N h b (c.val + 1) (diag r kv kc c a) := by
  have hP := p_diag hs hr (keysAt_at hkv c) hb hc
  have hS := ds_diag hs hr (keysAt_at hkv c) (valsAt_at hkv c) hb hc
  constructor
  · intro e d j
    unfold diag
    refine (put_plane_at 256 c a.dk _ e d j).trans ?_
    by_cases he : e = c
    · subst he
      rw [if_pos rfl, if_pos (Nat.lt_succ_self _)]
      have e1 := hr.qT
      pointwise [k0_pay35]
      refine add_block (fun t => N.q h t d.val) (fun t => ds N h t (512 * e.val + j.val)) b ?_ (fun i => e1 d i) (fun i => hS i j)
      refine (dkAt_at _ _ _ _).trans ((ha.dk e d j).trans ?_)
      rw [if_neg (lt_irrefl _)]
    · rw [if_neg he, ha.dk]
      have : e.val ≠ c.val := fun h => he (Fin.ext h)
      simp only [show (e.val < c.val + 1) = (e.val < c.val) from propext (by omega)]
  · intro e d j
    unfold diag
    refine (put_plane_at 128 c a.dv _ e d j).trans ?_
    by_cases he : e = c
    · subst he
      rw [if_pos rfl, if_pos (Nat.lt_succ_self _)]
      have e1 := hr.ctT
      pointwise [k0_pay38, k0_pay36, k0_pay37]
      refine add_block (fun t => N.ct h t d.val) (fun t => prob N h t (512 * e.val + j.val)) b ?_ (fun i => e1 d i) (fun i => hP i j)
      refine (dvAt_at _ _ _ _).trans ((ha.dv e d j).trans ?_)
      rw [if_neg (lt_irrefl _)]
    · rw [if_neg he, ha.dv]
      have : e.val ≠ c.val := fun h => he (Fin.ext h)
      simp only [show (e.val < c.val + 1) = (e.val < c.val) from propext (by omega)]
  · intro i d
    unfold diag
    have e1 := keysAt_at hkv c
    pointwise [k0_pay39]
    exact add_block (fun k => ds N h (512 * b + i.val) k) (fun k => N.k h k d.val) c.val (ha.dq i d) (fun j => hS i j) (fun j => e1 j d)

/-- The key blocks before the diagonal, one after another. -/
theorem upTo_is (n : ℕ) (hn : n ≤ b) (a : Acc Ideal) (ha : AccIs N h b 0 a) : AccIs N h b n (upTo (trip r kv kc) n a) := by
  induction n with
  | zero => exact ha
  | succ n ih =>
    rw [upTo_succ _ n (by omega)]
    exact trip_is hs hb hr hkv ⟨n, by omega⟩ (by show n < b; omega) _ (ih (by omega))

end

end Cert.Mla

end
-- ==== Proof.MlaTrips.lean ====
/-
  THE LOOPS OF `mla_bwd`: one trip of each loop as a triple over buffers held by what they read, and each loop by the steps of MlaStep.lean.
-/
module

public import proofs.«01_k».proof.Proof.MlaStep
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 16384
set_option maxHeartbeats 4000000

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- A store at a rectangle, over contents that read `x`, leaves `x` with the payload put there. -/
theorem read_put {κ : Kind} {sp : Space} {s : Shape} {e : EltTy} (v : View sig κ sp s e) {f : v.ty.Contents (Elt F)} {x : s.Idx → Elt F e} (hf : v.read (Elt F) f = x)
    {off off' size : Fin s.rank → ℕ} (inb : ∀ a, off a + size a ≤ s.size a) (w : (Rect.unit off size inb).shape.Idx → Elt F e) (h : off = off') :
    v.read (Elt F) (v.writes (Elt F) f [⟨Rect.unit off size inb, w⟩]) = VecWindow.put x off' size w := by
  rw [View.read_writes_cons_put _ _ _ _ _ h, View.writes_nil, hf]

/-- A load at a rectangle, of contents that read `x`, reads a window of `x`. -/
theorem read_window {κ : Kind} {sp : Space} {s : Shape} {e : EltTy} (v : View sig κ sp s e) {f : v.ty.Contents (Elt F)} {x : s.Idx → Elt F e} (hf : v.read (Elt F) f = x)
    {off off' size : Fin s.rank → ℕ} (inb : ∀ a, off a + size a ≤ s.size a) (h : off = off') (inb' : ∀ a, off' a + size a ≤ s.size a) :
    v.readAt (Elt F) (Rect.unit off size inb).toLoadRect f = VecWindow.window x off' size inb' := by
  rw [View.readAt_unit v f inb h inb', hf]

/-- A trip of the first loop as a block number. -/
abbrev blk1 (i : grid0.Coords) (k : Fin (k0_t1_loop i).trips) : Fin 8 := ⟨k.val, Nat.lt_of_lt_of_le k.isLt ((k0_t1_abs i).2.1.trans (by decide))⟩
/-- A trip of the third loop as a block number. -/
abbrev blk3 (k : Fin k0_t3_loop.trips) : Fin 8 := ⟨k.val, Nat.lt_of_lt_of_le k.isLt k0_t3_abs.2.1⟩
/-- A trip of the last loop as a block number. -/
abbrev blk4 (k : Fin k0_t4_loop.trips) : Fin 8 := ⟨k.val, Nat.lt_of_lt_of_le k.isLt k0_t4_abs.2.1⟩

/-- The last loop's trip lays one block of the shared rotary key's gradient. -/
theorem trip4 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (h4 : k0_cond4 i = 1#1)
    (k : Fin k0_t4_loop.trips) (dr : Vec F S8x128x512 .f32) (x : Vec F S4096x128 .f32) :
    iprop(owns (c : Thread nD τ) arg17 fullShare (dr) ∗ owns (c : Thread nD τ) arg12 fullShare (x) : sProp 𝕄G)
      ⊢ wp Idealize.ShloMosaic.frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 k PUnit.unit)
        (fun _ => iprop(owns (c : Thread nD τ) arg17 fullShare (dr) ∗ owns (c : Thread nD τ) arg12 fullShare (layRope dr (blk4 k) x))) := by
  unfold k0_t4_body owns
  iintro ⟨⟨%f17, %h17, H17⟩, ⟨%f12, %h12, H12⟩⟩
  sl_exec
  sl_step
  isplitl [H17]
  · iexists _; isplitr [H17]
    · ipureintro; exact h17
    · iexact H17
  · iexists _; isplitr [H12]
    rotate_left
    · iexact H12
    · ipureintro
      rw [read_window _ h17 _ (k0_off18_eq k) (inb_half (blk4 k))]
      exact read_put _ h12 _ _ (k0_off19_eq k)

/-- The third loop's trip lays one block of the head's key and value gradients and adds its rotary part. -/
theorem trip3 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (h3 : k0_cond3 i = 1#1)
    (k : Fin k0_t3_loop.trips) (dk : Vec F S8x256x512 .f32) (dv dr : Vec F S8x128x512 .f32) (x : Vec F S4096x256 .f32) :
    iprop(owns (c : Thread nD τ) arg15 fullShare (dk) ∗ owns (c : Thread nD τ) arg16 fullShare (dv) ∗ owns (c : Thread nD τ) arg11 fullShare (x) ∗ owns (c : Thread nD τ) arg17 fullShare (dr) : sProp 𝕄G)
      ⊢ wp Idealize.ShloMosaic.frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h3 k PUnit.unit)
        (fun _ => iprop(owns (c : Thread nD τ) arg15 fullShare (dk) ∗ owns (c : Thread nD τ) arg16 fullShare (dv) ∗ owns (c : Thread nD τ) arg11 fullShare (layKv dk dv (blk3 k) x) ∗ owns (c : Thread nD τ) arg17 fullShare (addRope dk (blk3 k) dr))) := by
  unfold k0_t3_body owns
  iintro ⟨⟨%f15, %h15, H15⟩, ⟨%f16, %h16, H16⟩, ⟨%f11, %h11, H11⟩, ⟨%f17, %h17, H17⟩⟩
  sl_exec
  sl_step
  isplitl [H15]
  · iexists _; isplitr [H15]
    · ipureintro; exact h15
    · iexact H15
  isplitl [H16]
  · iexists _; isplitr [H16]
    · ipureintro; exact h16
    · iexact H16
  isplitl [H11]
  · iexists _; isplitr [H11]
    rotate_left
    · iexact H11
    · ipureintro
      rw [read_window _ h15 _ (k0_off13_eq k) (inb_low (blk3 k)), read_window _ h16 _ (k0_off15_eq k) (inb_half (blk3 k)),
        View.read_writes_cons_put _ _ _ _ _ (k0_off16_eq k), read_put _ h11 _ _ (k0_off14_eq k)]
      rfl
  · iexists _; isplitr [H17]
    rotate_left
    · iexact H17
    · ipureintro
      rw [read_window _ h15 _ (k0_off17_eq k) (inb_high (blk3 k)), read_window _ h17 _ (k0_off15_eq k) (inb_half (blk3 k))]
      exact read_put _ h17 _ _ (k0_off15_eq k)

/-- The first loop's trip: one key block before the diagonal. -/
theorem trip1 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (arg1 : BitVec 32) (r : Rows F) (w1 w2 w3 : BitVec 32)
    (k : Fin (k0_t1_loop i).trips) (kv kc : Vec F S4096x256 .bf16) (a : Acc F) :
    iprop(owns (c : Thread nD τ) arg3 fullShare (kv) ∗ owns (c : Thread nD τ) arg13 fullShare (kc) ∗ owns (c : Thread nD τ) arg15 fullShare (a.dk) ∗ owns (c : Thread nD τ) arg16 fullShare (a.dv) ∗ owns (c : Thread nD τ) arg14 fullShare (a.dq) : sProp 𝕄G)
      ⊢ wp Idealize.ShloMosaic.frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 r.q r.ct r.qT r.ctT r.delta r.lse w1 w2 w3 k PUnit.unit)
        (fun _ => iprop(owns (c : Thread nD τ) arg3 fullShare (kv) ∗ owns (c : Thread nD τ) arg13 fullShare (kc) ∗ owns (c : Thread nD τ) arg15 fullShare ((trip r kv kc (blk1 i k) a).dk) ∗ owns (c : Thread nD τ) arg16 fullShare ((trip r kv kc (blk1 i k) a).dv)
          ∗ owns (c : Thread nD τ) arg14 fullShare ((trip r kv kc (blk1 i k) a).dq))) := by
  unfold k0_t1_body owns
  rw [k0_part1_eq_skeleton]
  unfold k0_part1_skel
  iintro ⟨⟨%f3, %h3, H3⟩, ⟨%f13, %h13, H13⟩, ⟨%f15, %h15, H15⟩, ⟨%f16, %h16, H16⟩, ⟨%f14, %h14, H14⟩⟩
  sl_exec
  sl_step
  isplitl [H3]
  · iexists _; isplitr [H3]
    · ipureintro; exact h3
    · iexact H3
  isplitl [H13]
  · iexists _; isplitr [H13]
    · ipureintro; exact h13
    · iexact H13
  isplitl [H15]
  · iexists _; isplitr [H15]
    rotate_left
    · iexact H15
    · ipureintro
      rw [read_window _ h13 _ (k0_off1_eq i k) (inb_keys (blk1 i k)), read_window _ h3 _ (k0_off2_eq i k) (inb_right (blk1 i k)),
        read_window _ h15 _ (k0_off3_eq i k) (inb_plane (blk1 i k))]
      exact read_put _ h15 _ _ (k0_off3_eq i k)
  isplitl [H16]
  · iexists _; isplitr [H16]
    rotate_left
    · iexact H16
    · ipureintro
      rw [read_window _ h13 _ (k0_off1_eq i k) (inb_keys (blk1 i k)), read_window _ h16 _ (k0_off4_eq i k) (inb_half (blk1 i k))]
      exact read_put _ h16 _ _ (k0_off4_eq i k)
  · iexists _; isplitr [H14]
    rotate_left
    · iexact H14
    · ipureintro
      rw [read_window _ h13 _ (k0_off1_eq i k) (inb_keys (blk1 i k)), read_window _ h3 _ (k0_off2_eq i k) (inb_right (blk1 i k)),
        View.read_writes_full, View.readAt_full, h14]
      rfl

end Cert.Mla

end
-- ==== Proof.MlaLoops.lean ====
/-
  THE LOOPS OF `mla_bwd` AS A WHOLE: each loop, from its trip, does the steps of MlaStep.lean for every block it walks.
-/
module

public import proofs.«01_k».proof.Proof.MlaTrips

@[expose] public section

set_option maxRecDepth 16384
set_option maxHeartbeats 4000000

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The first loop walks the key blocks before the query block's own. -/
theorem trips1 : ∀ i : grid0.Coords, Scf.trips (k0_t1_loop i).lb (k0_t1_loop i).ub (k0_t1_loop i).st = (i 1).val := by decide +kernel
/-- The second loop, of the key blocks from the query block's own to itself, is empty. -/
theorem trips2 : ∀ i : grid0.Coords, Scf.trips (k0_t2_loop i).lb (k0_t2_loop i).ub (k0_t2_loop i).st = 0 := by decide +kernel
theorem trips3 : Scf.trips k0_t3_loop.lb k0_t3_loop.ub k0_t3_loop.st = 8 := by decide +kernel
theorem trips4 : Scf.trips k0_t4_loop.lb k0_t4_loop.ub k0_t4_loop.st = 8 := by decide +kernel

/-- The last loop lays the eight blocks of the shared rotary key's gradient. -/
theorem loop4 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (h4 : k0_cond4 i = 1#1)
    (dr : Vec F S8x128x512 .f32) (x : Vec F S4096x128 .f32) :
    iprop(owns (c : Thread nD τ) arg17 fullShare (dr) ∗ owns (c : Thread nD τ) arg12 fullShare (x) : sProp 𝕄G)
      ⊢ wp Idealize.ShloMosaic.frame (wpE (defs₀ (F := F)) 𝒱 (c : Thread nD τ) bd) E
          (Scf.Loop.for k0_t4_loop (k0_t4_ok i h4) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4))
        (fun _ => iprop(owns (c : Thread nD τ) arg17 fullShare (dr) ∗ owns (c : Thread nD τ) arg12 fullShare (upTo (layRope dr) 8 x))) := by
  iintro H
  iapply (Scf.wp_for Idealize.ShloMosaic.frame (wpE (defs₀ (F := F)) 𝒱 (c : Thread nD τ) bd) E _ _ _ (k0_t4_ok i h4) PUnit.unit
    (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4)
    (fun n _ => iprop(owns (c : Thread nD τ) arg17 fullShare (dr) ∗ owns (c : Thread nD τ) arg12 fullShare (upTo (layRope dr) n x)))
    (fun k acc => by
      rw [upTo_succ (layRope dr) k.val (blk4 k).isLt]
      exact trip4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 k dr _))
  isplitl [H]
  · iexact H
  · iintro %_ H
    rw [trips4]
    iexact H

/-- The third loop lays the head's key and value gradients and adds its part of the shared rotary key's. -/
theorem loop3 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (h3 : k0_cond3 i = 1#1)
    (dk : Vec F S8x256x512 .f32) (dv dr : Vec F S8x128x512 .f32) (x : Vec F S4096x256 .f32) :
    iprop(owns (c : Thread nD τ) arg15 fullShare (dk) ∗ owns (c : Thread nD τ) arg16 fullShare (dv) ∗ owns (c : Thread nD τ) arg11 fullShare (x) ∗ owns (c : Thread nD τ) arg17 fullShare (dr) : sProp 𝕄G)
      ⊢ wp Idealize.ShloMosaic.frame (wpE (defs₀ (F := F)) 𝒱 (c : Thread nD τ) bd) E
          (Scf.Loop.for k0_t3_loop (k0_t3_ok i h3) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h3))
        (fun _ => iprop(owns (c : Thread nD τ) arg15 fullShare (dk) ∗ owns (c : Thread nD τ) arg16 fullShare (dv) ∗ owns (c : Thread nD τ) arg11 fullShare (upTo (layKv dk dv) 8 x) ∗ owns (c : Thread nD τ) arg17 fullShare (upTo (addRope dk) 8 dr))) := by
  iintro H
  iapply (Scf.wp_for Idealize.ShloMosaic.frame (wpE (defs₀ (F := F)) 𝒱 (c : Thread nD τ) bd) E _ _ _ (k0_t3_ok i h3) PUnit.unit
    (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h3)
    (fun n _ => iprop(owns (c : Thread nD τ) arg15 fullShare (dk) ∗ owns (c : Thread nD τ) arg16 fullShare (dv) ∗ owns (c : Thread nD τ) arg11 fullShare (upTo (layKv dk dv) n x) ∗ owns (c : Thread nD τ) arg17 fullShare (upTo (addRope dk) n dr)))
    (fun k acc => by
      rw [upTo_succ (layKv dk dv) k.val (blk3 k).isLt, upTo_succ (addRope dk) k.val (blk3 k).isLt]
      exact trip3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h3 k dk dv _ _))
  isplitl [H]
  · iexact H
  · iintro %_ H
    rw [trips3]
    iexact H

/-- The first loop adds the key blocks before the query block's own. -/
theorem loop1 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (arg1 : BitVec 32) (r : Rows F) (w1 w2 w3 : BitVec 32)
    (kv kc : Vec F S4096x256 .bf16) (a : Acc F) :
    iprop(owns (c : Thread nD τ) arg3 fullShare (kv) ∗ owns (c : Thread nD τ) arg13 fullShare (kc) ∗ owns (c : Thread nD τ) arg15 fullShare (a.dk) ∗ owns (c : Thread nD τ) arg16 fullShare (a.dv) ∗ owns (c : Thread nD τ) arg14 fullShare (a.dq) : sProp 𝕄G)
      ⊢ wp Idealize.ShloMosaic.frame (wpE (defs₀ (F := F)) 𝒱 (c : Thread nD τ) bd) E
          (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 r.q r.ct r.qT r.ctT r.delta r.lse w1 w2 w3))
        (fun _ => iprop(owns (c : Thread nD τ) arg3 fullShare (kv) ∗ owns (c : Thread nD τ) arg13 fullShare (kc) ∗ owns (c : Thread nD τ) arg15 fullShare ((upTo (trip r kv kc) (i 1).val a).dk) ∗ owns (c : Thread nD τ) arg16 fullShare ((upTo (trip r kv kc) (i 1).val a).dv)
          ∗ owns (c : Thread nD τ) arg14 fullShare ((upTo (trip r kv kc) (i 1).val a).dq))) := by
  iintro H
  iapply (Scf.wp_for Idealize.ShloMosaic.frame (wpE (defs₀ (F := F)) 𝒱 (c : Thread nD τ) bd) E _ _ _ (k0_t1_ok i) PUnit.unit
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 r.q r.ct r.qT r.ctT r.delta r.lse w1 w2 w3)
    (fun n _ => iprop(owns (c : Thread nD τ) arg3 fullShare (kv) ∗ owns (c : Thread nD τ) arg13 fullShare (kc) ∗ owns (c : Thread nD τ) arg15 fullShare ((upTo (trip r kv kc) n a).dk) ∗ owns (c : Thread nD τ) arg16 fullShare ((upTo (trip r kv kc) n a).dv)
          ∗ owns (c : Thread nD τ) arg14 fullShare ((upTo (trip r kv kc) n a).dq)))
    (fun k acc => by
      rw [upTo_succ (trip r kv kc) k.val (blk1 i k).isLt]
      exact trip1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 r w1 w2 w3 k kv kc _))
  isplitl [H]
  · iexact H
  · iintro %_ H
    rw [trips1]
    iexact H

/-- The second loop does nothing. -/
theorem loop2 (𝒱 : Variants) (c : Dev nD) (bd : Option 𝒱.V) (E : Set ℕ) (i : grid0.Coords) (body : Fin (k0_t2_loop i).trips → Unit → Prog (TpuEff nD τ sig (Elt F) Λ₀ .tc) Unit)
    (P : sProp 𝕄G) :
    P ⊢ wp Idealize.ShloMosaic.frame (wpE (defs₀ (F := F)) 𝒱 (c : Thread nD τ) bd) E (Scf.Loop.for (k0_t2_loop i) (k0_t2_ok i) ⟨⟩ body) (fun _ => P) := by
  iintro H
  iapply (Scf.wp_for Idealize.ShloMosaic.frame (wpE (defs₀ (F := F)) 𝒱 (c : Thread nD τ) bd) E _ _ _ (k0_t2_ok i) PUnit.unit
    body (fun n _ => P) (fun k acc => absurd (lt_of_lt_of_eq k.isLt (trips2 i)) (Nat.not_lt_zero _)))
  isplitl [H]
  · iexact H
  · iintro %_ H
    iexact H

end Cert.Mla

end
-- ==== Proof.MlaParts.lean ====
/-
  THE STRAIGHT PARTS OF `mla_bwd`'s BODY: what a grid point does before, between and after its loops, as triples over buffers held by what
  they read.
-/
module

public import proofs.«01_k».proof.Proof.MlaLoops

@[expose] public section

set_option maxRecDepth 16384
set_option maxHeartbeats 4000000

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- A buffer whose contents read `X` is held at `X`. -/
theorem hold (c : Dev nD) {s : Shape} {e : EltTy} (m : Memref sig .tc .vmem s e) {f : m.view.ty.Contents (Elt F)} {X : s.Idx → Elt F e}
    (h : m.view.read (Elt F) f = X) :
    (m.view.loc (c : Thread nD τ) ↦[m.view.set]{fullShare} f : sProp 𝕄G)
      ⊢ iprop(∃ g, ⌜m.view.read (Elt F) g = X⌝ ∗ (m.view.loc (c : Thread nD τ) ↦[m.view.set]{fullShare} g)) := by
  iintro H
  iexists _
  isplitr [H]
  · ipureintro; exact h
  · iexact H

/-- The head's first query block. -/
theorem first_iff : ∀ i : grid0.Coords, Scalar.cmpi .ne (Scalar.extui (Scalar.cmpi .eq (BitVec.ofNat 32 (i 1).val) 0#32) : BitVec 32) 0#32 = 1#1 ↔ (i 1).val = 0 := by
  decide +kernel
/-- The first head's first query block. -/
theorem start_iff : ∀ i : grid0.Coords, Scalar.cmpi .ne (Scalar.extui (Scalar.andi (Scalar.cmpi .eq (BitVec.ofNat 32 (i 1).val) 0#32)
    (Scalar.cmpi .eq (BitVec.ofNat 32 (i 0).val) 0#32)) : BitVec 32) 0#32 = 1#1 ↔ (i 1).val = 0 ∧ (i 0).val = 0 := by
  decide +kernel
/-- The head's last query block. -/
theorem last_iff : ∀ i : grid0.Coords, k0_cond3 i = 1#1 ↔ (i 1).val = 7 := by decide +kernel
/-- The last head's last query block. -/
theorem end_iff : ∀ i : grid0.Coords, k0_cond4 i = 1#1 ↔ (i 1).val = 7 ∧ (i 0).val = 7 := by decide +kernel

/-- The rows a point works with, from what its four loads read. -/
theorem rows_eq (a b w : BitVec 32) {l2 x2 : Vec F S512x256 .bf16} {l7 x7 l5 x5 : Vec F S512x128 .bf16} {l6 x6 : Vec F S1x512x1 .f32} (z o : BitVec 32)
    (h2 : l2 = x2) (h7 : l7 = x7) (h5 : l5 = x5) (h6 : l6 = x6) :
    (⟨a, b, k0_pay18 l2, k0_pay20 l7, k0_pay21 l2, k0_pay22 l7, k0_pay23 l7 l5, k0_pay24 l6, z, w, o⟩ :
        Σ' (arg0 : BitVec 32) (arg1 : BitVec 32) (v9 : FVec F S512x256 .bf16) (v13 : FVec F S512x128 .bf16) (v14 : FVec F S256x512 .bf16)
          (v15 : FVec F S128x512 .bf16) (v21 : FVec F S512x1 .f32) (v23 : FVec F S512x1 .f32) (c0 : BitVec 32) (v32 : BitVec 32), BitVec 32)
      = ⟨a, b, (rowsOf x2 x5 x6 x7).q, (rowsOf x2 x5 x6 x7).ct, (rowsOf x2 x5 x6 x7).qT, (rowsOf x2 x5 x6 x7).ctT, (rowsOf x2 x5 x6 x7).delta,
          (rowsOf x2 x5 x6 x7).lse, z, w, o⟩ := by
  subst h2 h7 h5 h6; rfl

/-- The two stores that lay out a head's keys. -/
theorem read_keys (m13 : Memref sig .tc .vmem S4096x256 .bf16) (m3 : Memref sig .tc .vmem S4096x256 .bf16) (m4 : Memref sig .tc .vmem S4096x128 .bf16)
    {f13 : m13.view.ty.Contents (Elt F)} {f3 : m3.view.ty.Contents (Elt F)} {f4 : m4.view.ty.Contents (Elt F)} {kc x3 : Vec F S4096x256 .bf16} {x4 : Vec F S4096x128 .bf16}
    (h13 : m13.view.read (Elt F) f13 = kc) (h3 : m3.view.read (Elt F) f3 = x3) (h4 : m4.view.read (Elt F) f4 = x4) :
    m13.view.read (Elt F) (m13.view.writes (Elt F) f13
      [⟨Rect.unit ![0, 128] S4096x128.size inb_S4096x256_S4096x128_0_128,
          k0_pay14 (m4.view.readAt (Elt F) (Rect.unit ![0, 0] S4096x128.size inb_S4096x128_S4096x128_0_0).toLoadRect f4)⟩,
        ⟨Rect.unit ![0, 0] S4096x128.size inb_S4096x256_S4096x128_0_0,
          k0_pay13 (m3.view.readAt (Elt F) (Rect.unit (s := S4096x256) ![0, 0] S4096x128.size inb_S4096x256_S4096x128_0_0).toLoadRect f3)⟩]) = keysOf x3 x4 kc := by
  rw [View.read_writes_cons_put _ _ _ _ _ rfl, read_put _ h13 _ _ rfl, View.readAt_full m4.view f4, h4, read_window _ h3 _ rfl inb_S4096x256_S4096x128_0_0]
  rfl

/-- The start of a point: the buffers kept between points are opened, and the query block's rows are read. -/
theorem part3 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole)
    (x2 : Vec F S512x256 .bf16) (x3 : Vec F S4096x256 .bf16) (x4 : Vec F S4096x128 .bf16) (x5 : Vec F S512x128 .bf16) (x6 : Vec F S1x512x1 .f32)
    (x7 : Vec F S512x128 .bf16) (s : Kept F) :
    iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg13 fullShare (s.kc) ∗ owns (c : Thread nD τ) arg14 fullShare (s.dq) ∗ owns (c : Thread nD τ) arg15 fullShare (s.dk) ∗ owns (c : Thread nD τ) arg16 fullShare (s.dv) ∗ owns (c : Thread nD τ) arg17 fullShare (s.dr) : sProp 𝕄G)
      ⊢ wp Idealize.ShloMosaic.frame (wpE (defs₀ (F := F)) 𝒱 (c : Thread nD τ) bd) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun o => iprop(⌜∃ w, o = ⟨BitVec.ofNat 32 (i 0).val, BitVec.ofNat 32 (i 1).val, (rowsOf x2 x5 x6 x7).q, (rowsOf x2 x5 x6 x7).ct,
            (rowsOf x2 x5 x6 x7).qT, (rowsOf x2 x5 x6 x7).ctT, (rowsOf x2 x5 x6 x7).delta, (rowsOf x2 x5 x6 x7).lse, 0#32, w, 1#32⟩⌝
          ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7)
          ∗ owns (c : Thread nD τ) arg13 fullShare ((opened (i 0).val (i 1).val x3 x4 s).kc) ∗ owns (c : Thread nD τ) arg14 fullShare ((opened (i 0).val (i 1).val x3 x4 s).dq)
          ∗ owns (c : Thread nD τ) arg15 fullShare ((opened (i 0).val (i 1).val x3 x4 s).dk) ∗ owns (c : Thread nD τ) arg16 fullShare ((opened (i 0).val (i 1).val x3 x4 s).dv)
          ∗ owns (c : Thread nD τ) arg17 fullShare ((opened (i 0).val (i 1).val x3 x4 s).dr))) := by
  rw [k0_part3_eq_skeleton]
  unfold k0_part3_skel
  have key : ((i 1).val = 0 ∧ (i 0).val = 0) ∨ ((i 1).val = 0 ∧ ¬(i 0).val = 0) ∨ ¬(i 1).val = 0 := by omega
  rcases key with ⟨hq, hh⟩ | ⟨hq, hh⟩ | hq
  · have c1 := (first_iff i).2 hq
    have c2 := (start_iff i).2 ⟨hq, hh⟩
    have e : opened (i 0).val (i 1).val x3 x4 s = ⟨keysOf x3 x4 s.kc, k0_pay25, k0_pay15, k0_pay16, k0_pay17⟩ := by simp only [opened, hq, hh, if_true, and_self]
    rw [e]
    unfold owns
    iintro ⟨⟨%f2, %h2, H2⟩, ⟨%f3, %h3, H3⟩, ⟨%f4, %h4, H4⟩, ⟨%f5, %h5, H5⟩, ⟨%f6, %h6, H6⟩, ⟨%f7, %h7, H7⟩, ⟨%f13, %h13, H13⟩, ⟨%f14, %h14, H14⟩,
      ⟨%f15, %h15, H15⟩, ⟨%f16, %h16, H16⟩, ⟨%f17, %h17, H17⟩⟩
    sl_exec
    sl_step
    isplitr
    · ipureintro
      exact ⟨_, rows_eq _ _ _ _ _ ((View.readAt_full arg2.view f2 inb_S512x256_S512x256_0_0).trans h2) ((View.readAt_full arg7.view f7 inb_S512x128_S512x128_0_0).trans h7)
        ((View.readAt_full arg5.view f5 inb_S512x128_S512x128_0_0).trans h5) ((View.readAt_full arg6.view f6 inb_S1x512x1_S1x512x1_0_0_0).trans h6)⟩
    isplitl [H2]; · iapply (hold c arg2 h2); iexact H2
    isplitl [H3]; · iapply (hold c arg3 h3); iexact H3
    isplitl [H4]; · iapply (hold c arg4 h4); iexact H4
    isplitl [H5]; · iapply (hold c arg5 h5); iexact H5
    isplitl [H6]; · iapply (hold c arg6 h6); iexact H6
    isplitl [H7]; · iapply (hold c arg7 h7); iexact H7
    isplitl [H13]; · iapply (hold c arg13 (read_keys arg13 arg3 arg4 h13 h3 h4)); iexact H13
    isplitl [H14]; · iapply (hold c arg14 (View.read_writes_full arg14.view f14 inb_S512x256_S512x256_0_0 _ [])); iexact H14
    isplitl [H15]; · iapply (hold c arg15 (View.read_writes_full arg15.view f15 inb_S8x256x512_S8x256x512_0_0_0 _ [])); iexact H15
    isplitl [H16]; · iapply (hold c arg16 (View.read_writes_full arg16.view f16 inb_S8x128x512_S8x128x512_0_0_0 _ [])); iexact H16
    iapply (hold c arg17 (View.read_writes_full arg17.view f17 inb_S8x128x512_S8x128x512_0_0_0 _ [])); iexact H17
  · have c1 := (first_iff i).2 hq
    have c2 := mt (start_iff i).1 (fun e => hh e.2)
    have e : opened (i 0).val (i 1).val x3 x4 s = ⟨keysOf x3 x4 s.kc, k0_pay25, k0_pay15, k0_pay16, s.dr⟩ := by simp only [opened, hq, hh, if_true, if_false, _root_.and_false]
    rw [e]
    unfold owns
    iintro ⟨⟨%f2, %h2, H2⟩, ⟨%f3, %h3, H3⟩, ⟨%f4, %h4, H4⟩, ⟨%f5, %h5, H5⟩, ⟨%f6, %h6, H6⟩, ⟨%f7, %h7, H7⟩, ⟨%f13, %h13, H13⟩, ⟨%f14, %h14, H14⟩,
      ⟨%f15, %h15, H15⟩, ⟨%f16, %h16, H16⟩, ⟨%f17, %h17, H17⟩⟩
    sl_exec
    sl_step
    isplitr
    · ipureintro
      exact ⟨_, rows_eq _ _ _ _ _ ((View.readAt_full arg2.view f2 inb_S512x256_S512x256_0_0).trans h2) ((View.readAt_full arg7.view f7 inb_S512x128_S512x128_0_0).trans h7)
        ((View.readAt_full arg5.view f5 inb_S512x128_S512x128_0_0).trans h5) ((View.readAt_full arg6.view f6 inb_S1x512x1_S1x512x1_0_0_0).trans h6)⟩
    isplitl [H2]; · iapply (hold c arg2 h2); iexact H2
    isplitl [H3]; · iapply (hold c arg3 h3); iexact H3
    isplitl [H4]; · iapply (hold c arg4 h4); iexact H4
    isplitl [H5]; · iapply (hold c arg5 h5); iexact H5
    isplitl [H6]; · iapply (hold c arg6 h6); iexact H6
    isplitl [H7]; · iapply (hold c arg7 h7); iexact H7
    isplitl [H13]; · iapply (hold c arg13 (read_keys arg13 arg3 arg4 h13 h3 h4)); iexact H13
    isplitl [H14]; · iapply (hold c arg14 (View.read_writes_full arg14.view f14 inb_S512x256_S512x256_0_0 _ [])); iexact H14
    isplitl [H15]; · iapply (hold c arg15 (View.read_writes_full arg15.view f15 inb_S8x256x512_S8x256x512_0_0_0 _ [])); iexact H15
    isplitl [H16]; · iapply (hold c arg16 (View.read_writes_full arg16.view f16 inb_S8x128x512_S8x128x512_0_0_0 _ [])); iexact H16
    iapply (hold c arg17 h17); iexact H17
  · have c1 := mt (first_iff i).1 hq
    have c2 := mt (start_iff i).1 (fun e => hq e.1)
    have e : opened (i 0).val (i 1).val x3 x4 s = ⟨s.kc, k0_pay25, s.dk, s.dv, s.dr⟩ := by simp only [opened, hq, if_false, _root_.false_and]
    rw [e]
    unfold owns
    iintro ⟨⟨%f2, %h2, H2⟩, ⟨%f3, %h3, H3⟩, ⟨%f4, %h4, H4⟩, ⟨%f5, %h5, H5⟩, ⟨%f6, %h6, H6⟩, ⟨%f7, %h7, H7⟩, ⟨%f13, %h13, H13⟩, ⟨%f14, %h14, H14⟩,
      ⟨%f15, %h15, H15⟩, ⟨%f16, %h16, H16⟩, ⟨%f17, %h17, H17⟩⟩
    sl_exec
    sl_step
    isplitr
    · ipureintro
      exact ⟨_, rows_eq _ _ _ _ _ ((View.readAt_full arg2.view f2 inb_S512x256_S512x256_0_0).trans h2) ((View.readAt_full arg7.view f7 inb_S512x128_S512x128_0_0).trans h7)
        ((View.readAt_full arg5.view f5 inb_S512x128_S512x128_0_0).trans h5) ((View.readAt_full arg6.view f6 inb_S1x512x1_S1x512x1_0_0_0).trans h6)⟩
    isplitl [H2]; · iapply (hold c arg2 h2); iexact H2
    isplitl [H3]; · iapply (hold c arg3 h3); iexact H3
    isplitl [H4]; · iapply (hold c arg4 h4); iexact H4
    isplitl [H5]; · iapply (hold c arg5 h5); iexact H5
    isplitl [H6]; · iapply (hold c arg6 h6); iexact H6
    isplitl [H7]; · iapply (hold c arg7 h7); iexact H7
    isplitl [H13]; · iapply (hold c arg13 h13); iexact H13
    isplitl [H14]; · iapply (hold c arg14 (View.read_writes_full arg14.view f14 inb_S512x256_S512x256_0_0 _ [])); iexact H14
    isplitl [H15]; · iapply (hold c arg15 h15); iexact H15
    isplitl [H16]; · iapply (hold c arg16 h16); iexact H16
    iapply (hold c arg17 h17); iexact H17

end Cert.Mla

end
-- ==== Proof.MlaBody.lean ====
/-
  `mla_bwd`'s BODY AT A GRID POINT: its parts and loops one after the other, from the contents of every buffer to the contents it leaves.
-/
module

public import proofs.«01_k».proof.Proof.MlaParts

@[expose] public section

set_option maxRecDepth 16384
set_option maxHeartbeats 4000000

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The query block of a grid point. -/
abbrev blkq (i : grid0.Coords) : Fin 8 := ⟨(i 1).val, (i 1).isLt⟩

/-- The key blocks before the diagonal, and the diagonal block's keys. -/
theorem part4 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (arg1 : BitVec 32) (r : Rows F) (w1 w2 w3 : BitVec 32)
    (kv kc : Vec F S4096x256 .bf16) (a : Acc F) :
    iprop(owns (c : Thread nD τ) arg3 fullShare (kv) ∗ owns (c : Thread nD τ) arg13 fullShare (kc) ∗ owns (c : Thread nD τ) arg15 fullShare (a.dk) ∗ owns (c : Thread nD τ) arg16 fullShare (a.dv) ∗ owns (c : Thread nD τ) arg14 fullShare (a.dq) : sProp 𝕄G)
      ⊢ wp Idealize.ShloMosaic.frame (wpE (defs₀ (F := F)) 𝒱 (c : Thread nD τ) bd) E
          (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 r.q r.ct r.qT r.ctT r.delta r.lse w1 w2 w3)
        (fun o => iprop(⌜∃ w, o = ⟨w, keysAt kc (blkq i), k0_pay28 r.q r.lse (keysAt kc (blkq i)), k0_pay29, colOf, 64#32, k0_pay30, k0_pay31, k0_pay32⟩⌝
          ∗ owns (c : Thread nD τ) arg3 fullShare (kv) ∗ owns (c : Thread nD τ) arg13 fullShare (kc) ∗ owns (c : Thread nD τ) arg15 fullShare ((upTo (trip r kv kc) (i 1).val a).dk) ∗ owns (c : Thread nD τ) arg16 fullShare ((upTo (trip r kv kc) (i 1).val a).dv)
          ∗ owns (c : Thread nD τ) arg14 fullShare ((upTo (trip r kv kc) (i 1).val a).dq))) := by
  rw [k0_part4_eq_skeleton]
  unfold k0_part4_skel
  iintro H
  rw [wp_bind]
  iapply (wp_wand_r Idealize.ShloMosaic.frame (wpE (defs₀ (F := F)) 𝒱 (c : Thread nD τ) bd) E)
  isplitl [H]
  · iapply (loop1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 r w1 w2 w3 kv kc a); iexact H
  iintro %_ H
  rw [wp_bind]
  iapply (wp_wand_r Idealize.ShloMosaic.frame (wpE (defs₀ (F := F)) 𝒱 (c : Thread nD τ) bd) E)
  isplitl [H]
  · iapply (loop2 𝒱 c bd E i _ _); iexact H
  iintro %_ ⟨H3, H13, H15, H16, H14⟩
  unfold owns
  icases H13 with ⟨%f13, %h13, H13⟩
  sl_exec
  sl_step
  isplitr
  · ipureintro
    exact ⟨_, by rw [read_window _ h13 (k0_off9_inb i) (k0_off9_eq i) (inb_keys (blkq i))]; rfl⟩
  isplitl [H3]; · iexact H3
  isplitl [H13]; · iapply (hold c arg13 h13); iexact H13
  isplitl [H15]; · iexact H15
  isplitl [H16]; · iexact H16
  iexact H14

/-- The diagonal block, up to the store of the keys' gradient. -/
theorem part5 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (arg1 w : BitVec 32) (r : Rows F)
    (kv kc : Vec F S4096x256 .bf16) (a : Acc F) :
    iprop(owns (c : Thread nD τ) arg3 fullShare (kv) ∗ owns (c : Thread nD τ) arg15 fullShare (a.dk) ∗ owns (c : Thread nD τ) arg16 fullShare (a.dv) : sProp 𝕄G)
      ⊢ wp Idealize.ShloMosaic.frame (wpE (defs₀ (F := F)) 𝒱 (c : Thread nD τ) bd) E
          (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 r.ct r.qT r.delta w (k0_pay28 r.q r.lse (keysAt kc (blkq i))) k0_pay29 colOf 64#32 k0_pay30 k0_pay31 k0_pay32)
        (fun o => iprop(⌜o = ⟨k0_pay34 r.ct r.delta (k0_pay28 r.q r.lse (keysAt kc (blkq i))) k0_pay29 colOf 64#32 k0_pay30 k0_pay31 k0_pay32 (valsAt kv (blkq i)),
            k0_pay36 (dvAt a.dv (blkq i)), k0_pay37 (k0_pay28 r.q r.lse (keysAt kc (blkq i))) k0_pay29 colOf 64#32 k0_pay30 k0_pay31 k0_pay32,
            constant S128x512 .f32 0x00000000#32⟩⌝
          ∗ owns (c : Thread nD τ) arg3 fullShare (kv) ∗ owns (c : Thread nD τ) arg15 fullShare ((diag r kv kc (blkq i) a).dk) ∗ owns (c : Thread nD τ) arg16 fullShare (a.dv))) := by
  rw [k0_part5_eq_skeleton]
  unfold k0_part5_skel owns
  iintro ⟨⟨%f3, %h3, H3⟩, ⟨%f15, %h15, H15⟩, ⟨%f16, %h16, H16⟩⟩
  sl_exec
  sl_step
  isplitr
  · ipureintro
    rw [read_window _ h3 (k0_off10_inb i) (k0_off10_eq i) (inb_right (blkq i)), read_window _ h16 (k0_off12_inb i) (k0_off12_eq i) (inb_half (blkq i))]
    rfl
  isplitl [H3]; · iapply (hold c arg3 h3); iexact H3
  isplitl [H15]
  · iapply (hold c arg15 ?_)
    rotate_left
    · iexact H15
    · rw [read_window _ h3 (k0_off10_inb i) (k0_off10_eq i) (inb_right (blkq i)), read_window _ h15 (k0_off11_inb i) (k0_off11_eq i) (inb_plane (blkq i))]
      exact read_put _ h15 _ _ (k0_off11_eq i)
  iapply (hold c arg16 h16); iexact H16

/-- A covered load of a part of contents stored whole. -/
theorem readCov_part {κ : Kind} {sp : Space} {s : Shape} {e : EltTy} (v : View sig κ sp s e) {off off' size : Fin s.rank → ℕ}
    (inb : ∀ a, off a + s.size a ≤ s.size a) (w : (Rect.unit off s.size inb).shape.Idx → Elt F e) (inb' : ∀ a, off' a + size a ≤ s.size a) :
    v.readCov [⟨Rect.unit off s.size inb, w⟩] (Rect.unit off' size inb').toLoadRect = VecWindow.window (α := Elt F e) w off' size inb' := by
  unfold View.readCov
  rw [View.readAt_unit v _ _ rfl inb', View.read_writes_full]

/-- The turned-back columns, of equal operands. -/
theorem un_rope_eq {u v : Vec F S512x128 .f32} {x8 y8 x9 y9 : Vec F S512x128 .f32} (h : u = v) (h8 : x8 = y8) (h9 : x9 = y9) :
    k0_pay41 u x8 x9 = k0_pay41 v y8 y9 := by subst h h8 h9; rfl

/-- A load of the query rows' gradient's rotary columns. -/
theorem load10 (𝒱 : Variants) (c : Dev nD) (bd : Option 𝒱.V) (E : Set ℕ) (arg10 : Memref sig .tc .vmem S512x256 .bf16) (x10 : Vec F S512x256 .bf16) :
    iprop(owns (c : Thread nD τ) arg10 fullShare (x10) : sProp 𝕄G)
      ⊢ wp Idealize.ShloMosaic.frame (wpE (defs₀ (F := F)) 𝒱 (c : Thread nD τ) bd) E
          (Prog.lift (.load arg10 (Rect.unit (s := S512x256) ![0, 128] S512x128.size inb_S512x256_S512x128_0_128).toLoadRect (View.loadsAt_vmem h_S512x128)))
        (fun _ => iprop(owns (c : Thread nD τ) arg10 fullShare (x10))) := by
  unfold owns
  iintro ⟨%f10, %h10, H10⟩
  sl_exec
  try sl_step
  iapply (hold c arg10 h10); iexact H10

/-- The store of the query rows' gradient's rotary columns. -/
theorem store10 (𝒱 : Variants) (c : Dev nD) (bd : Option 𝒱.V) (E : Set ℕ) (arg10 : Memref sig .tc .vmem S512x256 .bf16) (harg10 : arg10.IsWhole)
    (x10 : Vec F S512x256 .bf16) (v : FVec F S512x128 .bf16) :
    iprop(owns (c : Thread nD τ) arg10 fullShare (x10) : sProp 𝕄G)
      ⊢ wp Idealize.ShloMosaic.frame (wpE (defs₀ (F := F)) 𝒱 (c : Thread nD τ) bd) E
          (Prog.lift (.store arg10 (Rect.unit (s := S512x256) ![0, 128] S512x128.size inb_S512x256_S512x128_0_128) v Finset.univ
              (View.stores_vmem h_S512x128 (harg10.storeExact_slice rfl _ packedbf16_S512x256_S512x128_0_128) (fun _ => rfl)) (.inl rfl)))
        (fun _ => iprop(owns (c : Thread nD τ) arg10 fullShare (VecWindow.put x10 ![0, 128] S512x128.size v))) := by
  unfold owns
  iintro ⟨%f10, %h10, H10⟩
  sl_exec
  try sl_step
  iapply (hold c arg10 (read_put arg10.view h10 _ _ rfl)); iexact H10

/-- The rest of the diagonal block and the first half of the query rows' gradient. -/
theorem part6 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (arg1 : BitVec 32) (ctT : FVec F S128x512 .bf16)
    (ks : Vec F S512x256 .bf16) (ds : FVec F S512x512 .bf16) (pv : FVec F S128x512 .f32) (p : FVec F S512x512 .bf16) (z : FVec F S128x512 .f32)
    (dq : Vec F S512x256 .f32) (dv : Vec F S8x128x512 .f32) (x10 : Vec F S512x256 .bf16) (x8 x9 : Vec F S512x128 .f32) :
    iprop(owns (c : Thread nD τ) arg8 fullShare (x8) ∗ owns (c : Thread nD τ) arg9 fullShare (x9) ∗ owns (c : Thread nD τ) arg10 fullShare (x10) ∗ owns (c : Thread nD τ) arg14 fullShare (dq) ∗ owns (c : Thread nD τ) arg16 fullShare (dv) : sProp 𝕄G)
      ⊢ wp Idealize.ShloMosaic.frame (wpE (defs₀ (F := F)) 𝒱 (c : Thread nD τ) bd) E
          (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 ctT ks ds pv p z)
        (fun o => iprop(⌜o = k0_pay41 (VecWindow.window (k0_pay39 ks ds dq) ![0, 128] S512x128.size inb_S512x256_S512x128_0_128) x8 x9⌝
          ∗ owns (c : Thread nD τ) arg8 fullShare (x8) ∗ owns (c : Thread nD τ) arg9 fullShare (x9)
          ∗ owns (c : Thread nD τ) arg10 fullShare (VecWindow.put x10 ![0, 0] S512x128.size (k0_pay40 (VecWindow.window (k0_pay39 ks ds dq) ![0, 0] S512x128.size inb_S512x256_S512x128_0_0)))
          ∗ owns (c : Thread nD τ) arg14 fullShare (k0_pay39 ks ds dq) ∗ owns (c : Thread nD τ) arg16 fullShare (VecWindow.put dv ![(i 1).val, 0, 0] S1x128x512.size (k0_pay38 ctT pv p z)))) := by
  rw [k0_part6_eq_skeleton]
  unfold k0_part6_skel owns
  iintro ⟨⟨%f8, %h8, H8⟩, ⟨%f9, %h9, H9⟩, ⟨%f10, %h10, H10⟩, ⟨%f14, %h14, H14⟩, ⟨%f16, %h16, H16⟩⟩
  sl_exec
  sl_step
  have e14 := (View.readAt_full arg14.view f14 inb_S512x256_S512x256_0_0).trans h14
  have e8 := (View.readAt_full arg8.view f8 inb_S512x128_S512x128_0_0).trans h8
  have e9 := (View.readAt_full arg9.view f9 inb_S512x128_S512x128_0_0).trans h9
  have lo : part6.sl.v131 c arg14 ks ds f14 = VecWindow.window (k0_pay39 ks ds dq) ![0, 0] S512x128.size inb_S512x256_S512x128_0_0 := by
    unfold part6.sl.v131 part6.sl.H14_1
    rw [readCov_part arg14.view inb_S512x256_S512x256_0_0 _ inb_S512x256_S512x128_0_0]
    exact congrArg (fun z => VecWindow.window (k0_pay39 ks ds z) ![0, 0] S512x128.size inb_S512x256_S512x128_0_0) e14
  have hi : part6.sl.v134 c arg14 ks ds f14 = VecWindow.window (k0_pay39 ks ds dq) ![0, 128] S512x128.size inb_S512x256_S512x128_0_128 := by
    unfold part6.sl.v134 part6.sl.H14_1
    rw [readCov_part arg14.view inb_S512x256_S512x256_0_0 _ inb_S512x256_S512x128_0_128]
    exact congrArg (fun z => VecWindow.window (k0_pay39 ks ds z) ![0, 128] S512x128.size inb_S512x256_S512x128_0_128) e14
  isplitr
  · ipureintro; exact un_rope_eq hi e8 e9
  isplitl [H8]; · iapply (hold c arg8 h8); iexact H8
  isplitl [H9]; · iapply (hold c arg9 h9); iexact H9
  isplitl [H10]
  · iapply (hold c arg10 ?_)
    rotate_left
    · iexact H10
    · exact (read_put arg10.view h10 _ _ rfl).trans (congrArg (fun z => VecWindow.put x10 ![0, 0] S512x128.size (k0_pay40 z)) lo)
  isplitl [H14]
  · iapply (hold c arg14 ?_)
    rotate_left
    · iexact H14
    · exact (View.read_writes_full arg14.view f14 inb_S512x256_S512x256_0_0 _ []).trans (congrArg (k0_pay39 ks ds) e14)
  iapply (hold c arg16 (read_put arg16.view h16 _ _ (k0_off12_eq i))); iexact H16

/-- The head's key and value gradients leave at the head's last query block. -/
def leftKv (q : ℕ) (a : Acc F) (x : Vec F S4096x256 .f32) : Vec F S4096x256 .f32 := if q = 7 then upTo (layKv a.dk a.dv) 8 x else x

/-- The shared rotary key's gradient takes the head's part at the head's last query block. -/
def leftSum (q : ℕ) (dk : Vec F S8x256x512 .f32) (x : Vec F S8x128x512 .f32) : Vec F S8x128x512 .f32 := if q = 7 then upTo (addRope dk) 8 x else x

/-- The shared rotary key's gradient leaves at the last point. -/
def leftRope (h q : ℕ) (dr : Vec F S8x128x512 .f32) (x : Vec F S4096x128 .f32) : Vec F S4096x128 .f32 :=
  if q = 7 ∧ h = 7 then upTo (layRope dr) 8 x else x

/-- What a point leaves in the buffers kept between points. -/
def closed (h q : ℕ) (r : Rows F) (kv : Vec F S4096x256 .bf16) (b : Fin 8) (s : Kept F) : Kept F :=
  ⟨s.kc, (summed r kv b s).dq, (summed r kv b s).dk, (summed r kv b s).dv, leftSum q (summed r kv b s).dk s.dr⟩

set_option maxHeartbeats 8000000 in
/-- The end of a point: the query rows' gradient is stored, and the other gradients leave when they are complete. -/
theorem finish (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole) (v : FVec F S512x128 .bf16)
    (a : Acc F) (dr : Vec F S8x128x512 .f32) (x10 : Vec F S512x256 .bf16) (x11 : Vec F S4096x256 .f32) (x12 : Vec F S4096x128 .f32) :
    iprop(owns (c : Thread nD τ) arg10 fullShare (x10) ∗ owns (c : Thread nD τ) arg11 fullShare (x11) ∗ owns (c : Thread nD τ) arg12 fullShare (x12) ∗ owns (c : Thread nD τ) arg15 fullShare (a.dk) ∗ owns (c : Thread nD τ) arg16 fullShare (a.dv) ∗ owns (c : Thread nD τ) arg17 fullShare (dr) : sProp 𝕄G)
      ⊢ wp Idealize.ShloMosaic.frame (wpE (defs₀ (F := F)) 𝒱 (c : Thread nD τ) bd) E
          ((do
            let _ : Vec F S512x128 .bf16 ← Prog.lift (.load arg10 (Rect.unit (s := S512x256) ![0, 128] S512x128.size inb_S512x256_S512x128_0_128).toLoadRect (View.loadsAt_vmem h_S512x128))
            Prog.lift (.store arg10 (Rect.unit (s := S512x256) ![0, 128] S512x128.size inb_S512x256_S512x128_0_128) v Finset.univ
              (View.stores_vmem h_S512x128 (harg10.storeExact_slice rfl _ packedbf16_S512x256_S512x128_0_128) (fun _ => rfl)) (.inl rfl))
            if k0_h3 : k0_cond3 i = 1#1 then do
              Scf.Loop.for k0_t3_loop (k0_t3_ok i k0_h3) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h3)
              pure ⟨⟩
            else do
              pure ⟨⟩
            if k0_h4 : k0_cond4 i = 1#1 then do
              Scf.Loop.for k0_t4_loop (k0_t4_ok i k0_h4) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h4)
              pure ⟨⟩
            else do
              pure ⟨⟩
            pure ⟨⟩) : Prog (TpuEff nD τ sig (Elt F) Λ₀ .tc) PUnit)
        (fun _ => iprop(owns (c : Thread nD τ) arg10 fullShare (VecWindow.put x10 ![0, 128] S512x128.size v) ∗ owns (c : Thread nD τ) arg11 fullShare (leftKv (i 1).val a x11)
          ∗ owns (c : Thread nD τ) arg12 fullShare (leftRope (i 0).val (i 1).val (leftSum (i 1).val a.dk dr) x12)
          ∗ owns (c : Thread nD τ) arg15 fullShare (a.dk) ∗ owns (c : Thread nD τ) arg16 fullShare (a.dv) ∗ owns (c : Thread nD τ) arg17 fullShare (leftSum (i 1).val a.dk dr))) := by
  have key : ((i 1).val = 7 ∧ (i 0).val = 7) ∨ ((i 1).val = 7 ∧ ¬(i 0).val = 7) ∨ ¬(i 1).val = 7 := by omega
  iintro ⟨H10, H11, H12, H15, H16, H17⟩
  rw [wp_bind]
  iapply (wp_wand_r Idealize.ShloMosaic.frame (wpE (defs₀ (F := F)) 𝒱 (c : Thread nD τ) bd) E)
  isplitl [H10]
  · iapply (load10 𝒱 c bd E arg10 x10); iexact H10
  iintro %_ H10
  rw [wp_bind]
  iapply (wp_wand_r Idealize.ShloMosaic.frame (wpE (defs₀ (F := F)) 𝒱 (c : Thread nD τ) bd) E)
  isplitl [H10]
  · iapply (store10 𝒱 c bd E arg10 harg10 x10 v); iexact H10
  iintro %_ H10
  rcases key with ⟨hq, hh⟩ | ⟨hq, hh⟩ | hq
  · have c3 := (last_iff i).2 hq
    have c4 := (end_iff i).2 ⟨hq, hh⟩
    have e1 : leftKv (i 1).val a x11 = upTo (layKv a.dk a.dv) 8 x11 := if_pos hq
    have e2 : leftSum (i 1).val a.dk dr = upTo (addRope a.dk) 8 dr := if_pos hq
    have e3 : leftRope (i 0).val (i 1).val (upTo (addRope a.dk) 8 dr) x12 = upTo (layRope (upTo (addRope a.dk) 8 dr)) 8 x12 := if_pos ⟨hq, hh⟩
    rw [e1, e2, e3, dif_pos c3, dif_pos c4, wp_bind, wp_bind]
    iapply (wp_wand_r Idealize.ShloMosaic.frame (wpE (defs₀ (F := F)) 𝒱 (c : Thread nD τ) bd) E)
    isplitl [H15 H16 H11 H17]
    · iapply (loop3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c3 a.dk a.dv dr x11)
      isplitl [H15]; · iexact H15
      isplitl [H16]; · iexact H16
      isplitl [H11]; · iexact H11
      iexact H17
    iintro %_ ⟨H15, H16, H11, H17⟩
    iapply (wp_wand_r Idealize.ShloMosaic.frame (wpE (defs₀ (F := F)) 𝒱 (c : Thread nD τ) bd) E)
    isplitl [H17 H12]
    · iapply (loop4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c4 (upTo (addRope a.dk) 8 dr) x12)
      isplitl [H17]; · iexact H17
      iexact H12
    iintro %_ ⟨H17, H12⟩
    beta_reduce
    sl_step
    isplitl [H10]; · iexact H10
    isplitl [H11]; · iexact H11
    isplitl [H12]; · iexact H12
    isplitl [H15]; · iexact H15
    isplitl [H16]; · iexact H16
    iexact H17
  · have c3 := (last_iff i).2 hq
    have c4 := mt (end_iff i).1 (fun e => hh e.2)
    have e1 : leftKv (i 1).val a x11 = upTo (layKv a.dk a.dv) 8 x11 := if_pos hq
    have e2 : leftSum (i 1).val a.dk dr = upTo (addRope a.dk) 8 dr := if_pos hq
    have e3 : leftRope (i 0).val (i 1).val (upTo (addRope a.dk) 8 dr) x12 = x12 := if_neg (fun e => hh e.2)
    rw [e1, e2, e3, dif_pos c3, dif_neg c4, wp_bind]
    iapply (wp_wand_r Idealize.ShloMosaic.frame (wpE (defs₀ (F := F)) 𝒱 (c : Thread nD τ) bd) E)
    isplitl [H15 H16 H11 H17]
    · iapply (loop3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c3 a.dk a.dv dr x11)
      isplitl [H15]; · iexact H15
      isplitl [H16]; · iexact H16
      isplitl [H11]; · iexact H11
      iexact H17
    iintro %_ ⟨H15, H16, H11, H17⟩
    beta_reduce
    sl_step
    isplitl [H10]; · iexact H10
    isplitl [H11]; · iexact H11
    isplitl [H12]; · iexact H12
    isplitl [H15]; · iexact H15
    isplitl [H16]; · iexact H16
    iexact H17
  · have c3 := mt (last_iff i).1 hq
    have c4 := mt (end_iff i).1 (fun e => hq e.1)
    have e1 : leftKv (i 1).val a x11 = x11 := if_neg hq
    have e2 : leftSum (i 1).val a.dk dr = dr := if_neg hq
    have e3 : leftRope (i 0).val (i 1).val dr x12 = x12 := if_neg (fun e => hq e.1)
    rw [e1, e2, e3, dif_neg c3, dif_neg c4]
    beta_reduce
    sl_step
    isplitl [H10]; · iexact H10
    isplitl [H11]; · iexact H11
    isplitl [H12]; · iexact H12
    isplitl [H15]; · iexact H15
    isplitl [H16]; · iexact H16
    iexact H17

end Cert.Mla

end
-- ==== Proof.MlaOut.lean ====
/-
  THE ENDS OF A QUERY BLOCK AND OF A HEAD, IN REAL NUMBERS: the rows as they are opened, the head's keys, the query gradient as it leaves,
  and the key, value and shared rotary gradients as they are laid out.
-/
module

public import proofs.«01_k».proof.Proof.MlaPay
public import proofs.«01_k».proof.Proof.MlaBody

@[expose] public section

set_option maxRecDepth 16384

noncomputable section

namespace Cert.Mla

open Cert.KernelIdeal Cert.KernelIdeal.Gen Idealize.ShloMosaic Idealize.ShloMosaic.TcCoe
open Finset (range)

theorem rowsOf_is {N : Nums} {h b : ℕ} {x2 : FVec Ideal S512x256 .bf16} {x5 x7 : FVec Ideal S512x128 .bf16} {x6 : FVec Ideal S1x512x1 .f32}
    (h2 : ∀ (i : Fin 512) (e : Fin 256), x2 (ix2 i e) = (N.q h (512 * b + i.val) e.val : EReal))
    (h5 : ∀ (i : Fin 512) (e : Fin 128), x5 (ix2 i e) = (out N h (512 * b + i.val) e.val : EReal))
    (h6 : ∀ i : Fin 512, x6 (ix3 0 i 0) = (Real.log (tot N h (512 * b + i.val)) : EReal))
    (h7 : ∀ (i : Fin 512) (e : Fin 128), x7 (ix2 i e) = (N.ct h (512 * b + i.val) e.val : EReal)) : RowsAre N h b (rowsOf x2 x5 x6 x7) := by
  constructor
  · intro i e; unfold rowsOf; pointwise [k0_pay18]; exact h2 i e
  · intro i e; unfold rowsOf; pointwise [k0_pay20, k0_pay19]; exact h7 i e
  · intro e i; unfold rowsOf; pointwise [k0_pay21, k0_pay18]; exact h2 i e
  · intro e i; unfold rowsOf; pointwise [k0_pay22, k0_pay20, k0_pay19]; exact h7 i e
  · intro i; unfold rowsOf; pointwise [k0_pay23, k0_pay19, h5, h7]
    exact sum_mul_coe 128 (N.ct h (512 * b + i.val)) (out N h (512 * b + i.val))
  · intro i; unfold rowsOf; pointwise [k0_pay24]; exact h6 i

theorem keysOf_at {N : Nums} {h : ℕ} {x3 : FVec Ideal S4096x256 .bf16} {x4 : FVec Ideal S4096x128 .bf16}
    (h3 : ∀ (i : Fin 4096) (e : Fin 128), x3 (ix2 i ⟨e.val, by omega⟩) = (N.k h i.val e.val : EReal))
    (h4 : ∀ (i : Fin 4096) (e : Fin 128), x4 (ix2 i e) = (N.k h i.val (128 + e.val) : EReal)) (x : FVec Ideal S4096x256 .bf16) (i : Fin 4096) (e : Fin 256) :
    keysOf (F := Ideal) x3 x4 x (ix2 i e) = (N.k h i.val e.val : EReal) := by
  have hi := i.isLt
  have he := e.isLt
  unfold keysOf
  refine (put_cols_at 4096 256 128 0 128 4096 _ _ i e).trans ?_
  by_cases h : 128 ≤ e.val
  · rw [dif_pos ⟨⟨by omega, by omega⟩, by omega, by omega⟩]
    pointwise [k0_pay14]
    refine (h4 _ _).trans ?_
    show ((N.k _ (i.val - 0) (128 + (e.val - 128)) : ℝ) : EReal) = _
    rw [Nat.sub_zero, show 128 + (e.val - 128) = e.val by omega]
  · rw [dif_neg (by omega)]
    refine (put_cols_at 4096 256 128 0 0 4096 _ _ i e).trans ?_
    rw [dif_pos ⟨⟨by omega, by omega⟩, by omega, by omega⟩]
    pointwise [k0_pay13]
    refine (window_cols_at 4096 256 128 0 0 4096 x3 _ _ _ (by show 0 + (i.val - 0) < _; omega) (by show 0 + (e.val - 0) < _; omega)).trans ?_
    refine (congrArg x3 ?_).trans (h3 i ⟨e.val, by omega⟩)
    refine (ix2_inj ..).2 ⟨Fin.ext ?_, Fin.ext ?_⟩
    · show 0 + (i.val - 0) = i.val; omega
    · show 0 + (e.val - 0) = e.val; omega

/-- The turned columns, as the kernel computes them. -/
theorem pay41_at (x c s : FVec Ideal S512x128 .f32) (i : Fin 512) (j : Fin 128) :
    k0_pay41 (F := Ideal) x c s (ix2 i j) = x (ix2 i j) * c (ix2 i j)
      + ((-1 : ℝ) : EReal) * (if j.val < 32 then 0 - x (ix2 i ⟨(j.val + 32) % 128, Nat.mod_lt _ (by norm_num)⟩) else x (ix2 i ⟨(j.val + 96) % 128, Nat.mod_lt _ (by norm_num)⟩)) * s (ix2 i j) := by
  have hj := j.isLt
  pointwise [k0_pay41]
  rw [show Ideal.ofBits FTy.f32 3212836864#32 = ((-1 : ℝ) : EReal) from minus_one]
  refine congrArg (fun y => x (ix2 i j) * c (ix2 i j) + ((-1 : ℝ) : EReal) * y * s (ix2 i j)) ?_
  by_cases h : j.val < 32
  · rw [if_pos h]
    refine (WordCmp.select_of_eq_one ((WordCmp.cmpi_slt_ofNat_eq_one_iff (a := j.val) (b := 32) (w := 32) (by omega) (by omega)).2 h) _ _).trans ?_
    exact congrArg (fun y => 0 - x y) ((ix2_inj ..).2 ⟨rfl, Fin.ext (by show (j.val + 128 - 96) % 128 = (j.val + 32) % 128; omega)⟩)
  · rw [if_neg h]
    refine (WordCmp.select_of_eq_zero ((WordCmp.cmpi_slt_ofNat_eq_zero_iff (a := j.val) (b := 32) (w := 32) (by omega) (by omega)).2 h) _ _).trans ?_
    exact congrArg x ((ix2_inj ..).2 ⟨rfl, Fin.ext (by show (j.val + 128 - 32) % 128 = (j.val + 96) % 128; omega)⟩)

/-- A rotary table's row, laid out twice and followed by zeros. -/
def twice (f : ℕ → ℕ → ℝ) (t j : ℕ) : ℝ := if j < 32 then f t j else if j < 64 then f t (j - 32) else 0

theorem twice_first (f : ℕ → ℕ → ℝ) (t : ℕ) {j : ℕ} (h : j < 32) : twice f t j = f t j := if_pos h
theorem twice_second (f : ℕ → ℕ → ℝ) (t : ℕ) {j : ℕ} (h : ¬j < 32) (h' : j < 64) : twice f t j = f t (j - 32) := (if_neg h).trans (if_pos h')
theorem twice_rest (f : ℕ → ℕ → ℝ) (t : ℕ) {j : ℕ} (h : ¬j < 64) : twice f t j = 0 := (if_neg (by omega)).trans (if_neg h)

section
variable (N : Nums) (h t : ℕ) {e : ℕ}
theorem turned_first (h1 : e < 32) : dqTurned N h t (128 + e) = dq N h t (128 + e) * N.cs t e + dq N h t (128 + e + 32) * N.sn t e := by
  unfold dqTurned
  rw [if_neg (by omega), if_pos (by omega), show 128 + e - 128 = e by omega]
theorem turned_second (h1 : ¬e < 32) (h2 : e < 64) : dqTurned N h t (128 + e) = dq N h t (128 + e) * N.cs t (e - 32) - dq N h t (128 + e - 32) * N.sn t (e - 32) := by
  unfold dqTurned
  rw [if_neg (by omega), if_neg (by omega), if_pos (by omega), show 128 + e - 160 = e - 32 by omega]
theorem turned_rest (h2 : ¬e < 64) : dqTurned N h t (128 + e) = 0 := by
  unfold dqTurned
  rw [if_neg (by omega), if_neg (by omega), if_neg (by omega)]
end

theorem dqOut_at {N : Nums} {h b : ℕ} {x8 x9 : FVec Ideal S512x128 .f32} {y : FVec Ideal S512x256 .f32}
    (h8 : ∀ (i : Fin 512) (e : Fin 128), x8 (ix2 i e) = (twice N.cs (512 * b + i.val) e.val : EReal))
    (h9 : ∀ (i : Fin 512) (e : Fin 128), x9 (ix2 i e) = (twice N.sn (512 * b + i.val) e.val : EReal))
    (hy : ∀ (i : Fin 512) (d : Fin 256), y (ix2 i d) = (dq N h (512 * b + i.val) d.val : EReal)) (x : FVec Ideal S512x256 .bf16) (i : Fin 512) (d : Fin 256) :
    dqOut (F := Ideal) x8 x9 y x (ix2 i d) = (dqTurned N h (512 * b + i.val) d.val : EReal) := by
  have hi := i.isLt
  have hd := d.isLt
  have hw : ∀ (i : Fin 512) (e : Fin 128), VecWindow.window (α := Elt Ideal .f32) y ![0, 128] S512x128.size inb_S512x256_S512x128_0_128 (ix2 i e) = (dq N h (512 * b + i.val) (128 + e.val) : EReal) := by
    intro i e
    refine (window_cols_at 512 256 128 0 128 512 y _ i e (by omega) (by omega)).trans ((hy _ _).trans ?_)
    simp only [zero_add]
  unfold dqOut
  refine (put_cols_at 512 256 128 0 128 512 _ _ i d).trans ?_
  by_cases hc : 128 ≤ d.val
  · rw [dif_pos ⟨⟨by omega, by omega⟩, by omega, by omega⟩]
    obtain ⟨e, he⟩ : ∃ e : Fin 128, d.val = 128 + e.val := ⟨⟨d.val - 128, by omega⟩, by show d.val = 128 + (d.val - 128); omega⟩
    have hee := e.isLt
    rw [show (ix2 (⟨i.val - 0, by omega⟩ : Fin 512) (⟨d.val - 128, by omega⟩ : Fin 128) : (⟨2, ![512, 128]⟩ : Shape).Idx) = ix2 i e from
      (ix2_inj ..).2 ⟨Fin.ext (Nat.sub_zero _), Fin.ext (by show d.val - 128 = e.val; omega)⟩]
    refine (pay41_at _ x8 x9 i e).trans ?_
    rw [hw, h8, h9, he]
    by_cases h1 : e.val < 32
    · rw [turned_first N h _ h1, twice_first N.cs _ h1, twice_first N.sn _ h1, if_pos h1, hw, show (0 : EReal) = ((0 : ℝ) : EReal) from rfl]
      simp only [← EReal.coe_sub, ← EReal.coe_mul, ← EReal.coe_add]
      rw [show 128 + (e.val + 32) % 128 = 128 + e.val + 32 by omega]
      congr 1; ring
    · by_cases h2 : e.val < 64
      · rw [turned_second N h _ h1 h2, twice_second N.cs _ h1 h2, twice_second N.sn _ h1 h2, if_neg h1, hw]
        simp only [← EReal.coe_sub, ← EReal.coe_mul, ← EReal.coe_add]
        rw [show 128 + (e.val + 96) % 128 = 128 + e.val - 32 by omega]
        congr 1; ring
      · rw [turned_rest N h _ h2, twice_rest N.cs _ h2, twice_rest N.sn _ h2, if_neg h1, hw]
        simp only [← EReal.coe_mul, ← EReal.coe_add]
        congr 1; ring
  · rw [dif_neg (by omega)]
    refine (put_cols_at 512 256 128 0 0 512 _ _ i d).trans ?_
    rw [dif_pos ⟨⟨by omega, by omega⟩, by omega, by omega⟩]
    pointwise [k0_pay40]
    refine (window_cols_at 512 256 128 0 0 512 y _ _ _ (by show 0 + (i.val - 0) < _; omega) (by show 0 + (d.val - 0) < _; omega)).trans ?_
    refine (hy _ _).trans ?_
    unfold dqTurned
    rw [if_pos (by omega)]
    simp only [zero_add, Nat.sub_zero]

theorem layKv_at (dk : FVec Ideal S8x256x512 .f32) (dv : FVec Ideal S8x128x512 .f32) (c : Fin 8) (x : FVec Ideal S4096x256 .f32) (i : Fin 4096) (e : Fin 256) :
    layKv (F := Ideal) dk dv c x (ix2 i e) = if i.val / 512 = c.val then
        (if he : e.val < 128 then dk (ix3 c e ⟨i.val % 512, by omega⟩) else dv (ix3 c ⟨e.val - 128, by omega⟩ ⟨i.val % 512, by omega⟩)) else x (ix2 i e) := by
  have hi := i.isLt
  have he := e.isLt
  have hc := c.isLt
  unfold layKv
  refine (put_cols_at 4096 256 128 (512 * c.val) 128 512 _ _ i e).trans ?_
  by_cases hin : i.val / 512 = c.val
  · rw [if_pos hin]
    by_cases h : e.val < 128
    · rw [dif_neg (by omega), dif_pos h]
      refine (put_cols_at 4096 256 128 (512 * c.val) 0 512 _ _ i e).trans ?_
      rw [dif_pos ⟨⟨by omega, by omega⟩, by omega, by omega⟩]
      pointwise [k0_pay1]
      refine (lowAt_at dk c _ _).trans (congrArg dk ?_)
      refine (ix3_inj ..).2 ⟨rfl, Fin.ext ?_, Fin.ext ?_⟩
      · show e.val - 0 = e.val; omega
      · show i.val - 512 * c.val = i.val % 512; omega
    · rw [dif_pos ⟨⟨by omega, by omega⟩, by omega, by omega⟩, dif_neg h]
      pointwise [k0_pay2]
      refine (dvAt_at dv c _ _).trans (congrArg dv ?_)
      refine (ix3_inj ..).2 ⟨rfl, rfl, Fin.ext ?_⟩
      show i.val - 512 * c.val = i.val % 512; omega
  · rw [if_neg hin, dif_neg (by omega)]
    refine (put_cols_at 4096 256 128 (512 * c.val) 0 512 _ _ i e).trans ?_
    rw [dif_neg (by omega)]

theorem upTo_layKv (dk : FVec Ideal S8x256x512 .f32) (dv : FVec Ideal S8x128x512 .f32) (x : FVec Ideal S4096x256 .f32) (n : ℕ) (hn : n ≤ 8) (i : Fin 4096) (e : Fin 256)
    (hi : i.val / 512 < n) : upTo (layKv (F := Ideal) dk dv) n x (ix2 i e)
      = if he : e.val < 128 then dk (ix3 ⟨i.val / 512, by omega⟩ e ⟨i.val % 512, by omega⟩)
        else dv (ix3 ⟨i.val / 512, by omega⟩ ⟨e.val - 128, by omega⟩ ⟨i.val % 512, by omega⟩) := by
  induction n with
  | zero => omega
  | succ n ih =>
    rw [upTo_succ _ n (by omega), layKv_at]
    by_cases h : i.val / 512 = n
    · subst h; rw [if_pos rfl]
    · rw [if_neg h]; exact ih (by omega) (by omega)

theorem addRope_at (dk : FVec Ideal S8x256x512 .f32) (c : Fin 8) (x : FVec Ideal S8x128x512 .f32) (e : Fin 8) (d : Fin 128) (j : Fin 512) :
    addRope (F := Ideal) dk c x (ix3 e d j) = if e = c then x (ix3 e d j) + dk (ix3 e ⟨128 + d.val, by omega⟩ j) else x (ix3 e d j) := by
  unfold addRope
  refine (put_plane_at 128 c x _ e d j).trans ?_
  by_cases h : e = c
  · subst h
    rw [if_pos rfl, if_pos rfl]
    pointwise [k0_pay3]
    exact congrArg₂ (fun a b : EReal => a + b) (dvAt_at x e d j) (highAt_at dk e d j)
  · rw [if_neg h, if_neg h]

theorem upTo_addRope (dk : FVec Ideal S8x256x512 .f32) (x : FVec Ideal S8x128x512 .f32) (n : ℕ) (hn : n ≤ 8) (e : Fin 8) (d : Fin 128) (j : Fin 512) :
    upTo (addRope (F := Ideal) dk) n x (ix3 e d j) = if e.val < n then x (ix3 e d j) + dk (ix3 e ⟨128 + d.val, by omega⟩ j) else x (ix3 e d j) := by
  induction n with
  | zero => rfl
  | succ n ih =>
    rw [upTo_succ _ n (by omega), addRope_at, ih (by omega)]
    by_cases h : e.val = n
    · rw [if_pos (Fin.ext h), if_neg (by omega), if_pos (by omega)]
    · rw [if_neg (fun hh => h (congrArg Fin.val hh))]
      by_cases h' : e.val < n
      · rw [if_pos h', if_pos (by omega)]
      · rw [if_neg h', if_neg (by omega)]

theorem layRope_at (dr : FVec Ideal S8x128x512 .f32) (c : Fin 8) (x : FVec Ideal S4096x128 .f32) (i : Fin 4096) (e : Fin 128) :
    layRope (F := Ideal) dr c x (ix2 i e) = if i.val / 512 = c.val then dr (ix3 c e ⟨i.val % 512, by omega⟩) else x (ix2 i e) := by
  have hi := i.isLt
  have he := e.isLt
  have hc := c.isLt
  unfold layRope
  refine (put_cols_at 4096 128 128 (512 * c.val) 0 512 _ _ i e).trans ?_
  by_cases hin : i.val / 512 = c.val
  · rw [if_pos hin, dif_pos ⟨⟨by omega, by omega⟩, by omega, by omega⟩]
    pointwise [k0_pay4]
    refine (dvAt_at dr c _ _).trans (congrArg dr ?_)
    refine (ix3_inj ..).2 ⟨rfl, Fin.ext ?_, Fin.ext ?_⟩
    · show e.val - 0 = e.val; omega
    · show i.val - 512 * c.val = i.val % 512; omega
  · rw [if_neg hin, dif_neg (by omega)]

theorem upTo_layRope (dr : FVec Ideal S8x128x512 .f32) (x : FVec Ideal S4096x128 .f32) (n : ℕ) (hn : n ≤ 8) (i : Fin 4096) (e : Fin 128)
    (hi : i.val / 512 < n) : upTo (layRope (F := Ideal) dr) n x (ix2 i e) = dr (ix3 ⟨i.val / 512, by omega⟩ e ⟨i.val % 512, by omega⟩) := by
  induction n with
  | zero => omega
  | succ n ih =>
    rw [upTo_succ _ n (by omega), layRope_at]
    by_cases h : i.val / 512 = n
    · subst h; rw [if_pos rfl]
    · rw [if_neg h]; exact ih (by omega) (by omega)

end Cert.Mla

end
-- ==== Proof.MlaWhole.lean ====
/-
  `mla_bwd`'s WHOLE BODY at a grid point: from the contents of every buffer it is handed to the contents it leaves there.
-/
module

public import proofs.«01_k».proof.Proof.MlaBody

@[expose] public section

set_option maxRecDepth 16384
set_option maxHeartbeats 4000000

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The buffers kept between points, at the start of the sums. -/
abbrev openedAt (i : grid0.Coords) (x3 : Vec F S4096x256 .bf16) (x4 : Vec F S4096x128 .bf16) (s : Kept F) : Kept F :=
  opened (i 0).val (i 1).val x3 x4 s

/-- The accumulators of a point, complete. -/
abbrev summedAt (i : grid0.Coords) (r : Rows F) (x3 : Vec F S4096x256 .bf16) (x4 : Vec F S4096x128 .bf16) (s : Kept F) : Acc F :=
  summed r x3 (blkq i) (openedAt i x3 x4 s)

/-- The buffers kept between points, as a point leaves them. -/
abbrev closedAt (i : grid0.Coords) (r : Rows F) (x3 : Vec F S4096x256 .bf16) (x4 : Vec F S4096x128 .bf16) (s : Kept F) : Kept F :=
  closed (i 0).val (i 1).val r x3 (blkq i) (openedAt i x3 x4 s)

set_option maxHeartbeats 16000000 in
/-- The body: the inputs stay, the outputs and the kept buffers are what the step's functions say. -/
theorem body (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S4096x256 .f32) (harg11 : arg11.IsWhole) (arg12 : Memref sig .tc .vmem S4096x128 .f32) (harg12 : arg12.IsWhole) (arg13 : Memref sig .tc .vmem S4096x256 .bf16) (harg13 : arg13.IsWhole) (arg14 : Memref sig .tc .vmem S512x256 .f32) (harg14 : arg14.IsWhole) (arg15 : Memref sig .tc .vmem S8x256x512 .f32) (harg15 : arg15.IsWhole) (arg16 : Memref sig .tc .vmem S8x128x512 .f32) (harg16 : arg16.IsWhole) (arg17 : Memref sig .tc .vmem S8x128x512 .f32) (harg17 : arg17.IsWhole)
    (x2 : Vec F S512x256 .bf16) (x3 : Vec F S4096x256 .bf16) (x4 : Vec F S4096x128 .bf16) (x5 : Vec F S512x128 .bf16) (x6 : Vec F S1x512x1 .f32)
    (x7 : Vec F S512x128 .bf16) (x8 x9 : Vec F S512x128 .f32) (x10 : Vec F S512x256 .bf16) (x11 : Vec F S4096x256 .f32) (x12 : Vec F S4096x128 .f32) (s : Kept F) :
    iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12)
        ∗ owns (c : Thread nD τ) arg13 fullShare (s.kc) ∗ owns (c : Thread nD τ) arg14 fullShare (s.dq) ∗ owns (c : Thread nD τ) arg15 fullShare (s.dk) ∗ owns (c : Thread nD τ) arg16 fullShare (s.dv) ∗ owns (c : Thread nD τ) arg17 fullShare (s.dr) : sProp 𝕄G)
      ⊢ wp Idealize.ShloMosaic.frame (wpE (defs₀ (F := F)) 𝒱 (c : Thread nD τ) bd) E (cc0_mla_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9)
          ∗ owns (c : Thread nD τ) arg10 fullShare (dqOut x8 x9 (summedAt i (rowsOf x2 x5 x6 x7) x3 x4 s).dq x10)
          ∗ owns (c : Thread nD τ) arg11 fullShare (leftKv (i 1).val (summedAt i (rowsOf x2 x5 x6 x7) x3 x4 s) x11)
          ∗ owns (c : Thread nD τ) arg12 fullShare (leftRope (i 0).val (i 1).val (closedAt i (rowsOf x2 x5 x6 x7) x3 x4 s).dr x12)
          ∗ owns (c : Thread nD τ) arg13 fullShare ((closedAt i (rowsOf x2 x5 x6 x7) x3 x4 s).kc) ∗ owns (c : Thread nD τ) arg14 fullShare ((closedAt i (rowsOf x2 x5 x6 x7) x3 x4 s).dq)
          ∗ owns (c : Thread nD τ) arg15 fullShare ((closedAt i (rowsOf x2 x5 x6 x7) x3 x4 s).dk) ∗ owns (c : Thread nD τ) arg16 fullShare ((closedAt i (rowsOf x2 x5 x6 x7) x3 x4 s).dv)
          ∗ owns (c : Thread nD τ) arg17 fullShare ((closedAt i (rowsOf x2 x5 x6 x7) x3 x4 s).dr))) := by
  rw [cc0_mla_bwd_eq_skeleton]
  unfold cc0_mla_bwd_skel
  iintro ⟨H2, H3, H4, H5, H6, H7, H8, H9, H10, H11, H12, H13, H14, H15, H16, H17⟩
  rw [wp_bind]
  iapply (wp_wand_r Idealize.ShloMosaic.frame (wpE (defs₀ (F := F)) 𝒱 (c : Thread nD τ) bd) E)
  isplitl [H2 H3 H4 H5 H6 H7 H13 H14 H15 H16 H17]
  · iapply (part3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 s)
    isplitl [H2]; · iexact H2
    isplitl [H3]; · iexact H3
    isplitl [H4]; · iexact H4
    isplitl [H5]; · iexact H5
    isplitl [H6]; · iexact H6
    isplitl [H7]; · iexact H7
    isplitl [H13]; · iexact H13
    isplitl [H14]; · iexact H14
    isplitl [H15]; · iexact H15
    isplitl [H16]; · iexact H16
    iexact H17
  iintro %o ⟨%ho, H2, H3, H4, H5, H6, H7, H13, H14, H15, H16, H17⟩
  obtain ⟨w, rfl⟩ := ho
  dsimp only
  rw [wp_bind]
  iapply (wp_wand_r Idealize.ShloMosaic.frame (wpE (defs₀ (F := F)) 𝒱 (c : Thread nD τ) bd) E)
  isplitl [H3 H13 H15 H16 H14]
  · iapply (part4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ (rowsOf x2 x5 x6 x7) _ _ _ x3 (openedAt i x3 x4 s).kc
      ⟨(openedAt i x3 x4 s).dk, (openedAt i x3 x4 s).dv, (openedAt i x3 x4 s).dq⟩)
    isplitl [H3]; · iexact H3
    isplitl [H13]; · iexact H13
    isplitl [H15]; · iexact H15
    isplitl [H16]; · iexact H16
    iexact H14
  iintro %o ⟨%ho, H3, H13, H15, H16, H14⟩
  obtain ⟨w', rfl⟩ := ho
  dsimp only
  rw [wp_bind]
  iapply (wp_wand_r Idealize.ShloMosaic.frame (wpE (defs₀ (F := F)) 𝒱 (c : Thread nD τ) bd) E)
  isplitl [H3 H15 H16]
  · iapply (part5 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ (rowsOf x2 x5 x6 x7) x3 (openedAt i x3 x4 s).kc
      (upTo (trip (rowsOf x2 x5 x6 x7) x3 (openedAt i x3 x4 s).kc) (i 1).val ⟨(openedAt i x3 x4 s).dk, (openedAt i x3 x4 s).dv, (openedAt i x3 x4 s).dq⟩))
    isplitl [H3]; · iexact H3
    isplitl [H15]; · iexact H15
    iexact H16
  iintro %o ⟨%ho, H3, H15, H16⟩
  obtain rfl := ho
  dsimp only
  rw [wp_bind]
  iapply (wp_wand_r Idealize.ShloMosaic.frame (wpE (defs₀ (F := F)) 𝒱 (c : Thread nD τ) bd) E)
  isplitl [H8 H9 H10 H14 H16]
  · iapply (part6 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ x10 x8 x9)
    isplitl [H8]; · iexact H8
    isplitl [H9]; · iexact H9
    isplitl [H10]; · iexact H10
    isplitl [H14]; · iexact H14
    iexact H16
  iintro %o ⟨%ho, H8, H9, H10, H14, H16⟩
  obtain rfl := ho
  iapply (wp_wand_r Idealize.ShloMosaic.frame (wpE (defs₀ (F := F)) 𝒱 (c : Thread nD τ) bd) E)
  isplitl [H10 H11 H12 H15 H16 H17]
  · iapply (finish 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ (summedAt i (rowsOf x2 x5 x6 x7) x3 x4 s) (openedAt i x3 x4 s).dr _ x11 x12)
    isplitl [H10]; · iexact H10
    isplitl [H11]; · iexact H11
    isplitl [H12]; · iexact H12
    isplitl [H15]; · iexact H15
    isplitl [H16]; · iexact H16
    iexact H17
  iintro %_ ⟨H10, H11, H12, H15, H16, H17⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Cert.Mla

end
-- ==== Proof.MlaFrame.lean ====
/-
  `mla_bwd` OVER THE WHOLE GRID: what is known of the kept buffers before each point, and of each output block a point leaves, as a record of
  predicates; and the run of the program from any memory, for every record the body's functions respect.
-/
module

public import proofs.«01_k».proof.Proof.MlaWhole
public import proofs.«01_k».proof.Proof.Gen.KernelIdeal.Frame
public import Idealize.ShloMosaic.Lib.Pipeline.ArrRel

@[expose] public section

set_option maxRecDepth 16384
set_option maxHeartbeats 4000000

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- What is tracked: of the kept buffers before each point, and of the three output blocks as each point leaves them. -/
structure Track (F : FTy → Type) where
  /-- of the kept buffers before the point of this number -/
  kept : ℕ → Kept F → Prop
  /-- of the query rows' gradient -/
  dq : Fin cfg0.N → Vec F S512x256 .bf16 → Prop
  /-- of a head's key and value gradients -/
  dkv : Fin cfg0.N → Vec F S4096x256 .f32 → Prop
  /-- of the shared rotary key's gradient -/
  dkr : Fin cfg0.N → Vec F S4096x128 .f32 → Prop

variable (m : (ℓ : Loc nD τ sig) → Buf (Elt F) ℓ) (ρ : Dev nD → PrngReg)

/-- The query rows of a point, from the launch's arrays. -/
abbrev rowsAt (c : Dev nD) (t : Fin cfg0.N) : Rows F := rowsOf (iblk m c 0 t) (iblk m c 3 t) (iblk m c 4 t) (iblk m c 5 t)

/-- The accumulators a point completes. -/
abbrev accAt (c : Dev nD) (t : Fin cfg0.N) (s : Kept F) : Acc F := summedAt (grid0.coords t) (rowsAt m c t) (iblk m c 1 t) (iblk m c 2 t) s

/-- The buffers a point keeps for the next one. -/
abbrev nextAt (c : Dev nD) (t : Fin cfg0.N) (s : Kept F) : Kept F := closedAt (grid0.coords t) (rowsAt m c t) (iblk m c 1 t) (iblk m c 2 t) s

/-- The body's functions respect what is tracked. -/
structure Track.Sound (T : Track F) (c : Dev nD) : Prop where
  /-- nothing is asked of the buffers at the start -/
  start : ∀ s, T.kept 0 s
  /-- each point hands the next one what it asks -/
  step : ∀ (t : Fin cfg0.N) s, T.kept t.val s → T.kept (t.val + 1) (nextAt m c t s)
  /-- the query rows' gradient -/
  dq_out : ∀ (t : Fin cfg0.N) s x, T.kept t.val s → T.dq t (dqOut (iblk m c 6 t) (iblk m c 7 t) (accAt m c t s).dq x)
  /-- a head's key and value gradients -/
  dkv_out : ∀ (t : Fin cfg0.N) s x, T.kept t.val s → T.dkv t (leftKv (grid0.coords t 1).val (accAt m c t s) x)
  /-- the shared rotary key's gradient -/
  dkr_out : ∀ (t : Fin cfg0.N) s x, T.kept t.val s →
    T.dkr t (leftRope (grid0.coords t 0).val (grid0.coords t 1).val (nextAt m c t s).dr x)

/-- The kept buffers held at one state. -/
abbrev heldAt (c : Dev nD) (s : Kept F) : sProp 𝕄G :=
  iprop(owns (c : Thread nD τ) (Memref.whole cc0_scratch0) fullShare (s.kc) ∗ owns (c : Thread nD τ) (Memref.whole cc0_scratch1) fullShare (s.dq)
    ∗ owns (c : Thread nD τ) (Memref.whole cc0_scratch2) fullShare (s.dk) ∗ owns (c : Thread nD τ) (Memref.whole cc0_scratch3) fullShare (s.dv)
    ∗ owns (c : Thread nD τ) (Memref.whole cc0_scratch4) fullShare (s.dr))

/-- The proof data: the inputs stay, the outputs and the kept buffers are as tracked. -/
def rdat (T : Dev nD → Track F) (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ X => (T c).dq t X
    | ⟨9, _⟩ => fun _ X => (T c).dkv t X
    | ⟨10, _⟩ => fun _ X => (T c).dkr t X
  Φ t := iprop(∃ s : Kept F, ⌜(T c).kept t.val s⌝ ∗ heldAt c s ∗ ∃ r, prngReg c r)
  q _ := fullShare
  owed _ := 0

/-- The arrays the proof data start from. -/
theorem rdat_A (T : Dev nD → Track F) (c : Dev nD) (w : Fin 11) : (rdat m T c).A w = V m c (Pipeline.arrRef spec0 w) := by
  dsimp only [rdat]

/-- Input window 0 holds its block at every point. -/
theorem finds0 (T : Dev nD → Track F) (c : Dev nD) (t : Fin cfg0.N) (Y) (h : (rdat m T c).Finds 0 t Y) : Y = iblk m c 0 t := by
  obtain ⟨d, e⟩ := (rdat m T c).finds_in_eq_fetched 0 rfl (fun _ _ _ => rfl) (fun _ _ _ e => e) t Y h
  refine e.trans ?_
  unfold Pipeline.RDat.fetched Pipeline.RDat.blockOf iblk
  rw [rdat_A]
  try rfl

/-- Input window 1 holds its block at every point. -/
theorem finds1 (T : Dev nD → Track F) (c : Dev nD) (t : Fin cfg0.N) (Y) (h : (rdat m T c).Finds 1 t Y) : Y = iblk m c 1 t := by
  obtain ⟨d, e⟩ := (rdat m T c).finds_in_eq_fetched 1 rfl (fun _ _ _ => rfl) (fun _ _ _ e => e) t Y h
  refine e.trans ?_
  unfold Pipeline.RDat.fetched Pipeline.RDat.blockOf iblk
  rw [rdat_A]
  try rfl

/-- Input window 2 holds its block at every point. -/
theorem finds2 (T : Dev nD → Track F) (c : Dev nD) (t : Fin cfg0.N) (Y) (h : (rdat m T c).Finds 2 t Y) : Y = iblk m c 2 t := by
  obtain ⟨d, e⟩ := (rdat m T c).finds_in_eq_fetched 2 rfl (fun _ _ _ => rfl) (fun _ _ _ e => e) t Y h
  refine e.trans ?_
  unfold Pipeline.RDat.fetched Pipeline.RDat.blockOf iblk
  rw [rdat_A]
  try rfl

/-- Input window 3 holds its block at every point. -/
theorem finds3 (T : Dev nD → Track F) (c : Dev nD) (t : Fin cfg0.N) (Y) (h : (rdat m T c).Finds 3 t Y) : Y = iblk m c 3 t := by
  obtain ⟨d, e⟩ := (rdat m T c).finds_in_eq_fetched 3 rfl (fun _ _ _ => rfl) (fun _ _ _ e => e) t Y h
  refine e.trans ?_
  unfold Pipeline.RDat.fetched Pipeline.RDat.blockOf iblk
  rw [rdat_A]
  try rfl

/-- Input window 4 holds its block at every point. -/
theorem finds4 (T : Dev nD → Track F) (c : Dev nD) (t : Fin cfg0.N) (Y) (h : (rdat m T c).Finds 4 t Y) : Y = iblk m c 4 t := by
  obtain ⟨d, e⟩ := (rdat m T c).finds_in_eq_fetched 4 rfl (fun _ _ _ => rfl) (fun _ _ _ e => e) t Y h
  refine e.trans ?_
  unfold Pipeline.RDat.fetched Pipeline.RDat.blockOf iblk
  rw [rdat_A]
  try rfl

/-- Input window 5 holds its block at every point. -/
theorem finds5 (T : Dev nD → Track F) (c : Dev nD) (t : Fin cfg0.N) (Y) (h : (rdat m T c).Finds 5 t Y) : Y = iblk m c 5 t := by
  obtain ⟨d, e⟩ := (rdat m T c).finds_in_eq_fetched 5 rfl (fun _ _ _ => rfl) (fun _ _ _ e => e) t Y h
  refine e.trans ?_
  unfold Pipeline.RDat.fetched Pipeline.RDat.blockOf iblk
  rw [rdat_A]
  try rfl

/-- Input window 6 holds its block at every point. -/
theorem finds6 (T : Dev nD → Track F) (c : Dev nD) (t : Fin cfg0.N) (Y) (h : (rdat m T c).Finds 6 t Y) : Y = iblk m c 6 t := by
  obtain ⟨d, e⟩ := (rdat m T c).finds_in_eq_fetched 6 rfl (fun _ _ _ => rfl) (fun _ _ _ e => e) t Y h
  refine e.trans ?_
  unfold Pipeline.RDat.fetched Pipeline.RDat.blockOf iblk
  rw [rdat_A]
  try rfl

/-- Input window 7 holds its block at every point. -/
theorem finds7 (T : Dev nD → Track F) (c : Dev nD) (t : Fin cfg0.N) (Y) (h : (rdat m T c).Finds 7 t Y) : Y = iblk m c 7 t := by
  obtain ⟨d, e⟩ := (rdat m T c).finds_in_eq_fetched 7 rfl (fun _ _ _ => rfl) (fun _ _ _ e => e) t Y h
  refine e.trans ?_
  unfold Pipeline.RDat.fetched Pipeline.RDat.blockOf iblk
  rw [rdat_A]
  try rfl

/-- The body table's row at point `t`'s slots is the body as the generated points spell it. -/
theorem body_row (t : Fin cfg0.N) : defs₀ (F := F) .tc cfg0.body (cfg0.bodyArgs t (cfg0.slots t)) = bodyAt0 t := by
  unfold defs₀; rw [Defs.onTc_tc]

set_option maxHeartbeats 16000000 in
/-- The body's obligation at every point. -/
theorem obligation (T : Dev nD → Track F) (c : Dev nD) (hT : (T c).Sound m c) :
    (rdat m T c).BodyObligation (defs₀ (F := F)) Variants.none () Set.univ := fun t Y hY => by
  have e0 := finds0 m T c t _ (hY 0)
  have e1 := finds1 m T c t _ (hY 1)
  have e2 := finds2 m T c t _ (hY 2)
  have e3 := finds3 m T c t _ (hY 3)
  have e4 := finds4 m T c t _ (hY 4)
  have e5 := finds5 m T c t _ (hY 5)
  have e6 := finds6 m T c t _ (hY 6)
  have e7 := finds7 m T c t _ (hY 7)
  rw [bigSep_W0, bigSep_W0, body_row]
  rw [e0, e1, e2, e3, e4, e5, e6, e7]
  rw [show (rdat m T c).Φ t.succ = iprop(∃ s : Kept F, ⌜(T c).kept (t.val + 1) s⌝ ∗ heldAt c s ∗ ∃ r, prngReg c r) from rfl,
    show (rdat m T c).owesAt () t.succ = (rdat m T c).owesAt () t.castSucc from rfl]
  show iprop((∃ s : Kept F, ⌜(T c).kept t.val s⌝ ∗ heldAt c s ∗ ∃ r, prngReg c r) ∗ _) ⊢ _
  iintro ⟨⟨%s, %hs, ⟨H13, H14, H15, H16, H17⟩, Hr⟩, Ho, H2, H3, H4, H5, H6, H7, H8, H9, H10, H11, H12⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17]
  · iapply (body Variants.none c none Set.univ (grid0.coords t) _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) (Y 8) (Y 9) (Y 10) s)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro %_ ⟨H2, H3, H4, H5, H6, H7, H8, H9, H10, H11, H12, H13, H14, H15, H16, H17⟩
  isplitl [H13 H14 H15 H16 H17 Hr]
  · iexists (nextAt m c t s)
    isplitr
    · ipureintro; exact hT.step t s hs
    isplitl [H13 H14 H15 H16 H17]
    · isplitl [H13]; · iexact H13
      isplitl [H14]; · iexact H14
      isplitl [H15]; · iexact H15
      isplitl [H16]; · iexact H16
      iexact H17
    iexact Hr
  isplitl [Ho]; · iexact Ho
  isplitl [H2]
  · iexists (iblk m c 0 t)
    isplitr
    · ipureintro; exact rfl
    iexact H2
  isplitl [H3]
  · iexists (iblk m c 1 t)
    isplitr
    · ipureintro; exact rfl
    iexact H3
  isplitl [H4]
  · iexists (iblk m c 2 t)
    isplitr
    · ipureintro; exact rfl
    iexact H4
  isplitl [H5]
  · iexists (iblk m c 3 t)
    isplitr
    · ipureintro; exact rfl
    iexact H5
  isplitl [H6]
  · iexists (iblk m c 4 t)
    isplitr
    · ipureintro; exact rfl
    iexact H6
  isplitl [H7]
  · iexists (iblk m c 5 t)
    isplitr
    · ipureintro; exact rfl
    iexact H7
  isplitl [H8]
  · iexists (iblk m c 6 t)
    isplitr
    · ipureintro; exact rfl
    iexact H8
  isplitl [H9]
  · iexists (iblk m c 7 t)
    isplitr
    · ipureintro; exact rfl
    iexact H9
  isplitl [H10]
  · iexists (dqOut (iblk m c 6 t) (iblk m c 7 t) (accAt m c t s).dq (Y 8))
    isplitr
    · ipureintro; exact hT.dq_out t s _ hs
    iexact H10
  isplitl [H11]
  · iexists (leftKv (grid0.coords t 1).val (accAt m c t s) (Y 9))
    isplitr
    · ipureintro; exact hT.dkv_out t s _ hs
    iexact H11
  iexists (leftRope (grid0.coords t 0).val (grid0.coords t 1).val (nextAt m c t s).dr (Y 10))
  isplitr
  · ipureintro; exact hT.dkr_out t s _ hs
  iexact H12

/-- The kept buffers are whole. -/
theorem held_whole (c : Dev nD) (s : Kept F) : heldAt c s
    = iprop(((c : Thread nD τ).loc cc0_scratch0 ↦{fullShare} s.kc) ∗ ((c : Thread nD τ).loc cc0_scratch1 ↦{fullShare} s.dq)
      ∗ ((c : Thread nD τ).loc cc0_scratch2 ↦{fullShare} s.dk) ∗ ((c : Thread nD τ).loc cc0_scratch3 ↦{fullShare} s.dv)
      ∗ ((c : Thread nD τ).loc cc0_scratch4 ↦{fullShare} s.dr)) :=
  congrArg₂ _ (owns_whole (c : Thread nD τ) cc0_scratch0 fullShare s.kc) (congrArg₂ _ (owns_whole (c : Thread nD τ) cc0_scratch1 fullShare s.dq)
    (congrArg₂ _ (owns_whole (c : Thread nD τ) cc0_scratch2 fullShare s.dk) (congrArg₂ _ (owns_whole (c : Thread nD τ) cc0_scratch3 fullShare s.dv)
      (owns_whole (c : Thread nD τ) cc0_scratch4 fullShare s.dr))))

/-- The launch's buffers are some state. -/
theorem held_in (T : Dev nD → Track F) (c : Dev nD) (hT : (T c).Sound m c) : Pipeline.ΦA spec0 c ⊢ (rdat m T c).Φ 0 := by
  show _ ⊢ iprop(∃ s : Kept F, ⌜(T c).kept 0 s⌝ ∗ heldAt c s ∗ ∃ r, prngReg c r)
  unfold Pipeline.ΦA
  rw [scopedRest0_eq]
  iintro ⟨⟨⟨%f0, H0⟩, ⟨%f1, H1⟩, ⟨%f2, H2⟩, ⟨%f3, H3⟩, ⟨%f4, H4⟩⟩, Hr⟩
  iexists (⟨f0, f1, f2, f3, f4⟩ : Kept F)
  isplitr
  · ipureintro; exact hT.start _
  rw [held_whole]
  isplitl [H0 H1 H2 H3 H4]
  · isplitl [H0]; · iexact H0
    isplitl [H1]; · iexact H1
    isplitl [H2]; · iexact H2
    isplitl [H3]; · iexact H3
    iexact H4
  iexact Hr

/-- Any state is given back as the launch's buffers. -/
theorem held_out (T : Dev nD → Track F) (c : Dev nD) : (rdat m T c).Φ (Fin.last cfg0.N) ⊢ Pipeline.ΦA spec0 c := by
  show iprop(∃ s : Kept F, ⌜(T c).kept cfg0.N s⌝ ∗ heldAt c s ∗ ∃ r, prngReg c r) ⊢ _
  unfold Pipeline.ΦA
  rw [scopedRest0_eq]
  simp only [held_whole]
  iintro ⟨%s, %hs, ⟨H0, H1, H2, H3, H4⟩, Hr⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hr

set_option backward.isDefEq.respectTransparency.types false in
/-- THE RUN: the program ends with every array as tracked, and with every counter at zero. -/
theorem run_main (T : Dev nD → Track F) (hT : ∀ c, (T c).Sound m c) : θ_run defs (onTc (τ := τ) (main (F := F))) (s₀ m ρ)
    (fun r => Pipeline.RDat.FramePost cfg0 (rdat m T) (V m) r ∧ r.2.sem = fun _ => 0) :=
  Pipeline.RDat.θ_run_frame_track cfgs (0 : Fin 1) launch0 defs₀ Variants.none (rdat m T) m ρ main
    (hbody := fun c => obligation m T c (hT c)) (hshare := fun c w => by unfold Pipeline.RDat.share; exact ite_self _)
    (howed := fun _ _ => rfl) (V := V m) (hmain := hmain m Variants.none) (hA := rdat_A m T)
    (hin := fun c => held_in m T c (hT c)) (hout := held_out m T) (Q' := _)

/-- Nothing tracked. -/
def free : Track F := ⟨fun _ _ => True, fun _ _ => True, fun _ _ => True, fun _ _ => True⟩

/-- THE FRAME, over any values: the program ends, its arguments are as they were, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩)
    (run_main m ρ (fun _ => free) (fun _ => ⟨fun _ => trivial, fun _ _ _ => trivial, fun _ _ _ _ => trivial, fun _ _ _ _ => trivial, fun _ _ _ _ => trivial⟩))

end Cert.Mla

end
-- ==== Proof.MlaTrack.lean ====
/-
  THE GRADIENT OVER THE GRID, IN REAL NUMBERS: what the kernel keeps from point to point, and what leaves it. Point `8 * h + b` is head `h` and
  query block `b`: before it the head's key and value gradients hold the sums over the query rows before the block, and the shared rotary
  key's gradient the sum over the heads before.
-/
module

public import proofs.«01_k».proof.Proof.MlaOut
public import proofs.«01_k».proof.Proof.MlaFrame

@[expose] public section

set_option maxRecDepth 16384

noncomputable section

namespace Cert.Mla

open Cert.KernelIdeal Cert.KernelIdeal.Gen Idealize.ShloMosaic Idealize.ShloMosaic.TcCoe
open Finset (range)

variable (m : (ℓ : Loc nD τ sig) → Buf (Elt Ideal) ℓ)

theorem coords_val : ∀ t : Fin cfg0.N, (grid0.coords t 0).val = t.val / 8 ∧ (grid0.coords t 1).val = t.val % 8 :=
  (by decide +kernel : ∀ t : Fin grid0.N, _)

theorem lt_N (t : Fin cfg0.N) : t.val < 64 := lt_of_lt_of_eq t.isLt (show cfg0.N = 64 from N_0)

/-- The blocks a point reads hold the numbers `N`. -/
structure BlocksAre (N : Nums) (c : Dev nD) : Prop where
  q : ∀ (t : Fin cfg0.N) (i : Fin 512) (e : Fin 256), (iblk m c 0 t : FVec Ideal S512x256 .bf16) (ix2 i e) = (N.q (t.val / 8) (512 * (t.val % 8) + i.val) e.val : EReal)
  k : ∀ (t : Fin cfg0.N) (i : Fin 4096) (e : Fin 128), (iblk m c 1 t : FVec Ideal S4096x256 .bf16) (ix2 i ⟨e.val, by omega⟩) = (N.k (t.val / 8) i.val e.val : EReal)
  v : ∀ (t : Fin cfg0.N) (i : Fin 4096) (e : Fin 128), (iblk m c 1 t : FVec Ideal S4096x256 .bf16) (ix2 i ⟨128 + e.val, by omega⟩) = (N.v (t.val / 8) i.val e.val : EReal)
  r : ∀ (t : Fin cfg0.N) (i : Fin 4096) (e : Fin 128), (iblk m c 2 t : FVec Ideal S4096x128 .bf16) (ix2 i e) = (N.k (t.val / 8) i.val (128 + e.val) : EReal)
  o : ∀ (t : Fin cfg0.N) (i : Fin 512) (e : Fin 128), (iblk m c 3 t : FVec Ideal S512x128 .bf16) (ix2 i e) = (out N (t.val / 8) (512 * (t.val % 8) + i.val) e.val : EReal)
  lse : ∀ (t : Fin cfg0.N) (i : Fin 512), (iblk m c 4 t : FVec Ideal S1x512x1 .f32) (ix3 0 i 0) = (Real.log (tot N (t.val / 8) (512 * (t.val % 8) + i.val)) : EReal)
  ct : ∀ (t : Fin cfg0.N) (i : Fin 512) (e : Fin 128), (iblk m c 5 t : FVec Ideal S512x128 .bf16) (ix2 i e) = (N.ct (t.val / 8) (512 * (t.val % 8) + i.val) e.val : EReal)
  cs : ∀ (t : Fin cfg0.N) (i : Fin 512) (e : Fin 128), (iblk m c 6 t : FVec Ideal S512x128 .f32) (ix2 i e) = (twice N.cs (512 * (t.val % 8) + i.val) e.val : EReal)
  sn : ∀ (t : Fin cfg0.N) (i : Fin 512) (e : Fin 128), (iblk m c 7 t : FVec Ideal S512x128 .f32) (ix2 i e) = (twice N.sn (512 * (t.val % 8) + i.val) e.val : EReal)

/-- What is kept before point `n`. -/
structure KeptAre (N : Nums) (n : ℕ) (s : Kept Ideal) : Prop where
  kc : n % 8 ≠ 0 → ∀ (i : Fin 4096) (e : Fin 256), (s.kc : FVec Ideal S4096x256 .bf16) (ix2 i e) = (N.k (n / 8) i.val e.val : EReal)
  dk : n % 8 ≠ 0 → ∀ (c : Fin 8) (d : Fin 256) (j : Fin 512), (s.dk : FVec Ideal S8x256x512 .f32) (ix3 c d j)
    = ((∑ t ∈ range (512 * (n % 8)), N.q (n / 8) t d.val * ds N (n / 8) t (512 * c.val + j.val) : ℝ) : EReal)
  dv : n % 8 ≠ 0 → ∀ (c : Fin 8) (d : Fin 128) (j : Fin 512), (s.dv : FVec Ideal S8x128x512 .f32) (ix3 c d j)
    = ((∑ t ∈ range (512 * (n % 8)), N.ct (n / 8) t d.val * prob N (n / 8) t (512 * c.val + j.val) : ℝ) : EReal)
  dr : n ≠ 0 → ∀ (c : Fin 8) (d : Fin 128) (j : Fin 512), (s.dr : FVec Ideal S8x128x512 .f32) (ix3 c d j)
    = ((∑ h ∈ range (n / 8), Cert.Mla.dk N h (512 * c.val + j.val) (128 + d.val) : ℝ) : EReal)

/-- A head's key and value gradients, laid out. -/
def dkvAt (N : Nums) (h i e : ℕ) : ℝ := if e < 128 then dk N h i e else dv N h i (e - 128)

/-- What the grid keeps and what leaves it. -/
def numbers (N : Nums) : Track Ideal where
  kept n s := KeptAre N n s
  dq t x := ∀ (i : Fin 512) (d : Fin 256), (x : FVec Ideal S512x256 .bf16) (ix2 i d) = (dqTurned N (t.val / 8) (512 * (t.val % 8) + i.val) d.val : EReal)
  dkv t x := t.val % 8 = 7 → ∀ (i : Fin 4096) (e : Fin 256), (x : FVec Ideal S4096x256 .f32) (ix2 i e) = (dkvAt N (t.val / 8) i.val e.val : EReal)
  dkr t x := t.val = 63 → ∀ (i : Fin 4096) (e : Fin 128), (x : FVec Ideal S4096x128 .f32) (ix2 i e) = (dkr N i.val e.val : EReal)

theorem zero_coe : Ideal.ofBits .f32 0x00000000#32 = ((0 : ℝ) : EReal) := Cert.Real.zero

section
variable {m} {N : Nums} (hs : N.sc = scl) {c : Dev nD} (hB : BlocksAre m N c) (t : Fin cfg0.N) (s : Kept Ideal) (hk : KeptAre N t.val s)
include hB hk

theorem opened_kv : KvAre N (t.val / 8) (iblk m c 1 t) (openedAt (grid0.coords t) (iblk m c 1 t) (iblk m c 2 t) s).kc := by
  obtain ⟨h0, h1⟩ := coords_val t
  refine ⟨fun i e => ?_, hB.v t⟩
  unfold openedAt opened
  by_cases hq : t.val % 8 = 0
  · rw [if_pos (h1.trans hq)]
    exact keysOf_at (hB.k t) (hB.r t) _ i e
  · rw [if_neg (fun h => hq (h1.symm.trans h))]
    exact hk.kc hq i e

theorem opened_acc : AccIs N (t.val / 8) (t.val % 8) 0 ⟨(openedAt (grid0.coords t) (iblk m c 1 t) (iblk m c 2 t) s).dk,
    (openedAt (grid0.coords t) (iblk m c 1 t) (iblk m c 2 t) s).dv, (openedAt (grid0.coords t) (iblk m c 1 t) (iblk m c 2 t) s).dq⟩ := by
  obtain ⟨h0, h1⟩ := coords_val t
  constructor
  · intro e d j
    rw [if_neg (by omega)]
    unfold openedAt opened
    by_cases hq : t.val % 8 = 0
    · simp only [if_pos (h1.trans hq)]
      pointwise [k0_pay15]
      rw [hq, mul_zero, Finset.sum_range_zero]; rfl
    · simp only [if_neg (fun h => hq (h1.symm.trans h))]
      exact hk.dk hq e d j
  · intro e d j
    rw [if_neg (by omega)]
    unfold openedAt opened
    by_cases hq : t.val % 8 = 0
    · simp only [if_pos (h1.trans hq)]
      pointwise [k0_pay16]
      rw [hq, mul_zero, Finset.sum_range_zero]; rfl
    · simp only [if_neg (fun h => hq (h1.symm.trans h))]
      exact hk.dv hq e d j
  · intro i d
    unfold openedAt opened
    pointwise [k0_pay25]
    rw [Finset.sum_range_zero]; rfl

theorem opened_dr (e : Fin 8) (d : Fin 128) (j : Fin 512) : ((openedAt (grid0.coords t) (iblk m c 1 t) (iblk m c 2 t) s).dr : FVec Ideal S8x128x512 .f32) (ix3 e d j)
    = ((∑ h ∈ range (t.val / 8), dk N h (512 * e.val + j.val) (128 + d.val) : ℝ) : EReal) := by
  obtain ⟨h0, h1⟩ := coords_val t
  unfold openedAt opened
  by_cases hq : t.val = 0
  · simp only [if_pos (show (grid0.coords t 1).val = 0 ∧ (grid0.coords t 0).val = 0 from ⟨by omega, by omega⟩)]
    pointwise [k0_pay17]
    rw [hq, Nat.zero_div, Finset.sum_range_zero]; rfl
  · simp only [if_neg (show ¬((grid0.coords t 1).val = 0 ∧ (grid0.coords t 0).val = 0) from fun h => hq (by omega))]
    exact hk.dr hq e d j

include hs

/-- The accumulators a point completes. -/
theorem acc_is : AccIs N (t.val / 8) (t.val % 8) (t.val % 8 + 1) (accAt m c t s) := by
  obtain ⟨h0, h1⟩ := coords_val t
  have hkv := opened_kv hB t s hk
  have hr : RowsAre N (t.val / 8) (t.val % 8) (rowsAt m c t) := rowsOf_is (hB.q t) (hB.o t) (hB.lse t) (hB.ct t)
  have hq : (blkq (grid0.coords t)).val = t.val % 8 := h1
  have h := upTo_is hs (by omega : t.val % 8 < 8) hr hkv _ (le_of_eq hq) _ (opened_acc hB t s hk)
  have h' := diag_is hs (by omega : t.val % 8 < 8) hr hkv (blkq (grid0.coords t)) hq _ h
  have step : ∀ (n : ℕ) (a : Acc Ideal), n = t.val % 8 → AccIs N (t.val / 8) (t.val % 8) (n + 1) a → AccIs N (t.val / 8) (t.val % 8) (t.val % 8 + 1) a :=
    fun n a hn h => hn ▸ h
  exact step _ _ hq h'

theorem acc_dk (e : Fin 8) (d : Fin 256) (j : Fin 512) : ((accAt m c t s).dk : FVec Ideal S8x256x512 .f32) (ix3 e d j)
    = ((∑ u ∈ range (512 * (t.val % 8 + 1)), N.q (t.val / 8) u d.val * ds N (t.val / 8) u (512 * e.val + j.val) : ℝ) : EReal) := by
  rw [(acc_is hs hB t s hk).dk e d j]
  by_cases he : e.val < t.val % 8 + 1
  · rw [if_pos he]
  · rw [if_neg he, range_stop _ (by omega : 512 * (t.val % 8) ≤ 512 * (t.val % 8 + 1))]
    intro i _ hi
    rw [ds_hidden N (by omega), mul_zero]

theorem acc_dv (e : Fin 8) (d : Fin 128) (j : Fin 512) : ((accAt m c t s).dv : FVec Ideal S8x128x512 .f32) (ix3 e d j)
    = ((∑ u ∈ range (512 * (t.val % 8 + 1)), N.ct (t.val / 8) u d.val * prob N (t.val / 8) u (512 * e.val + j.val) : ℝ) : EReal) := by
  rw [(acc_is hs hB t s hk).dv e d j]
  by_cases he : e.val < t.val % 8 + 1
  · rw [if_pos he]
  · rw [if_neg he, range_stop _ (by omega : 512 * (t.val % 8) ≤ 512 * (t.val % 8 + 1))]
    intro i _ hi
    rw [prob_hidden N (by omega), mul_zero]

theorem acc_dq (i : Fin 512) (d : Fin 256) : ((accAt m c t s).dq : FVec Ideal S512x256 .f32) (ix2 i d) = (dq N (t.val / 8) (512 * (t.val % 8) + i.val) d.val : EReal) := by
  rw [(acc_is hs hB t s hk).dq i d]
  unfold dq
  have := i.isLt
  rw [range_stop _ (by omega : 512 * (t.val % 8 + 1) ≤ 4096)]
  intro k hk' _
  rw [ds_hidden N (by omega), zero_mul]

/-- What a point keeps for the next one. -/
theorem next_is : KeptAre N (t.val + 1) (nextAt m c t s) := by
  obtain ⟨h0, h1⟩ := coords_val t
  have hkv := opened_kv hB t s hk
  have hdk := acc_dk hs hB t s hk
  have hdv := acc_dv hs hB t s hk
  have hdr := opened_dr hB t s hk
  constructor
  · intro hn i e
    rw [show (t.val + 1) / 8 = t.val / 8 by omega]
    exact hkv.k i e
  · intro hn e d j
    rw [show (t.val + 1) / 8 = t.val / 8 by omega, show (t.val + 1) % 8 = t.val % 8 + 1 by omega]
    exact hdk e d j
  · intro hn e d j
    rw [show (t.val + 1) / 8 = t.val / 8 by omega, show (t.val + 1) % 8 = t.val % 8 + 1 by omega]
    exact hdv e d j
  · intro _ e d j
    unfold nextAt closedAt closed leftSum
    by_cases hq : t.val % 8 = 7
    · simp only [if_pos (h1.trans hq)]
      refine (upTo_addRope _ _ 8 le_rfl e d j).trans ?_
      rw [if_pos e.isLt, hdr e d j]
      refine (congrArg _ (hdk e _ j)).trans ?_
      rw [show (t.val + 1) / 8 = t.val / 8 + 1 by omega, Finset.sum_range_succ, EReal.coe_add, hq]
      rfl
    · simp only [if_neg (fun h => hq (h1.symm.trans h))]
      rw [show (t.val + 1) / 8 = t.val / 8 by omega]
      exact hdr e d j

end

/-- The body's functions compute these numbers. -/
theorem sound {N : Nums} (hs : N.sc = scl) {c : Dev nD} (hB : BlocksAre m N c) : (numbers N).Sound m c where
  start s := ⟨fun h => absurd rfl h, fun h => absurd rfl h, fun h => absurd rfl h, fun h => absurd rfl h⟩
  step t s hk := next_is hs hB t s hk
  dq_out t s x hk := fun i d => dqOut_at (hB.cs t) (hB.sn t) (acc_dq hs hB t s hk) x i d
  dkv_out t s x hk := by
    intro h7 i e
    have hi := i.isLt
    unfold leftKv
    rw [if_pos ((coords_val t).2.trans h7)]
    refine (upTo_layKv _ _ _ 8 le_rfl i e (by omega)).trans ?_
    unfold dkvAt
    by_cases he : e.val < 128
    · rw [dif_pos he, if_pos he]
      refine (acc_dk hs hB t s hk _ _ _).trans ?_
      rw [h7]
      show ((∑ u ∈ range 4096, N.q (t.val / 8) u e.val * ds N (t.val / 8) u (512 * (i.val / 512) + i.val % 512) : ℝ) : EReal) = _
      rw [show 512 * (i.val / 512) + i.val % 512 = i.val by omega]; rfl
    · rw [dif_neg he, if_neg he]
      refine (acc_dv hs hB t s hk _ _ _).trans ?_
      rw [h7]
      show ((∑ u ∈ range 4096, N.ct (t.val / 8) u (e.val - 128) * prob N (t.val / 8) u (512 * (i.val / 512) + i.val % 512) : ℝ) : EReal) = _
      rw [show 512 * (i.val / 512) + i.val % 512 = i.val by omega]; rfl
  dkr_out t s x hk := by
    intro h63 i e
    have hi := i.isLt
    obtain ⟨h0, h1⟩ := coords_val t
    unfold leftRope
    rw [if_pos ⟨by omega, by omega⟩]
    refine (upTo_layRope _ _ 8 le_rfl i e (by omega)).trans ?_
    refine ((next_is hs hB t s hk).dr (by omega) _ _ _).trans ?_
    rw [h63]
    show ((∑ h ∈ range 8, dk N h (512 * (i.val / 512) + i.val % 512) (128 + e.val) : ℝ) : EReal) = _
    rw [show 512 * (i.val / 512) + i.val % 512 = i.val by omega]; rfl

end Cert.Mla

end
-- ==== Proof.MlaBlocks.lean ====
/-
  THE BLOCKS THE KERNEL FINDS are the real numbers of `Nums`, where every argument is finite.
-/
module

public import proofs.«01_k».proof.Proof.MlaHost
public import proofs.«01_k».proof.Proof.MlaRead
public import proofs.«01_k».proof.Proof.MlaTrack

@[expose] public section

set_option maxRecDepth 16384
set_option maxHeartbeats 1600000

noncomputable section

namespace Cert.Mla

open Cert.KernelIdeal Cert.KernelIdeal.Gen
open Idealize.ShloMosaic Idealize.ShloMosaic.TcCoe
open Finset (range)

/-- Which blocks a grid point reads and writes. -/
theorem idx : ∀ t : Fin cfg0.N, win0_0.index t = ![t.val % 8, t.val / 8] ∧ win0_1.index t = ![0, t.val / 8] ∧ win0_2.index t = ![0, 0] ∧ win0_3.index t = ![t.val % 8, t.val / 8]
    ∧ win0_4.index t = ![t.val / 8, t.val % 8, 0] ∧ win0_5.index t = ![t.val % 8, t.val / 8] ∧ win0_6.index t = ![t.val % 8, 0] ∧ win0_7.index t = ![t.val % 8, 0]
    ∧ win0_8.index t = ![t.val % 8, t.val / 8] ∧ win0_9.index t = ![0, t.val / 8] ∧ win0_10.index t = ![0, 0] ∧ t.val / 8 < 8 :=
  (by decide +kernel : ∀ t : Fin grid0.N, _)

section
variable (m : (ℓ : Loc nD τ sig) → Buf (Elt Ideal) ℓ) (c : Dev nD) (t : Fin cfg0.N)

theorem head_lt : t.val / 8 < 8 := (idx t).2.2.2.2.2.2.2.2.2.2.2

/-! A block's element is the array's element at the block's place, for any contents `X` of the array. -/

theorem read0_at (X : FVec Ideal S4096x2048 .bf16) (i : Fin 512) (e : Fin 256) : (((cfg0.win 0).blk t).view.read (Elt Ideal) X : FVec Ideal S512x256 .bf16) (ix2 i e)
    = X (ix2 ⟨512 * (t.val % 8) + i.val, by omega⟩ ⟨256 * (t.val / 8) + e.val, by have := head_lt t; omega⟩) := by
  blk_point [idx t]

theorem read1_at (X : FVec Ideal S4096x2048 .bf16) (i : Fin 4096) (e : Fin 256) : (((cfg0.win 1).blk t).view.read (Elt Ideal) X : FVec Ideal S4096x256 .bf16) (ix2 i e)
    = X (ix2 i ⟨256 * (t.val / 8) + e.val, by have := head_lt t; omega⟩) := by
  blk_point [idx t]

theorem read2_at (X : FVec Ideal S4096x128 .bf16) (i : Fin 4096) (e : Fin 128) : (((cfg0.win 2).blk t).view.read (Elt Ideal) X : FVec Ideal S4096x128 .bf16) (ix2 i e)
    = X (ix2 i e) := by
  blk_point [idx t]

theorem read3_at (X : FVec Ideal S4096x1024 .bf16) (i : Fin 512) (e : Fin 128) : (((cfg0.win 3).blk t).view.read (Elt Ideal) X : FVec Ideal S512x128 .bf16) (ix2 i e)
    = X (ix2 ⟨512 * (t.val % 8) + i.val, by omega⟩ ⟨128 * (t.val / 8) + e.val, by have := head_lt t; omega⟩) := by
  blk_point [idx t]

theorem read4_at (X : FVec Ideal S8x4096x1 .f32) (i : Fin 512) : (((cfg0.win 4).blk t).view.read (Elt Ideal) X : FVec Ideal S1x512x1 .f32) (ix3 0 i 0)
    = X (ix3 ⟨t.val / 8, head_lt t⟩ ⟨512 * (t.val % 8) + i.val, by omega⟩ 0) := by
  blk_point [idx t]

theorem read5_at (X : FVec Ideal S4096x1024 .bf16) (i : Fin 512) (e : Fin 128) : (((cfg0.win 5).blk t).view.read (Elt Ideal) X : FVec Ideal S512x128 .bf16) (ix2 i e)
    = X (ix2 ⟨512 * (t.val % 8) + i.val, by omega⟩ ⟨128 * (t.val / 8) + e.val, by have := head_lt t; omega⟩) := by
  blk_point [idx t]

theorem read6_at (X : FVec Ideal S4096x128 .f32) (i : Fin 512) (e : Fin 128) : (((cfg0.win 6).blk t).view.read (Elt Ideal) X : FVec Ideal S512x128 .f32) (ix2 i e)
    = X (ix2 ⟨512 * (t.val % 8) + i.val, by omega⟩ e) := by
  blk_point [idx t]

theorem read7_at (X : FVec Ideal S4096x128 .f32) (i : Fin 512) (e : Fin 128) : (((cfg0.win 7).blk t).view.read (Elt Ideal) X : FVec Ideal S512x128 .f32) (ix2 i e)
    = X (ix2 ⟨512 * (t.val % 8) + i.val, by omega⟩ e) := by
  blk_point [idx t]

theorem blk0_at (i : Fin 512) (e : Fin 256) : (iblk m c 0 t : FVec Ideal S512x256 .bf16) (ix2 i e)
    = (V m c main_v56 : FVec Ideal S4096x2048 .bf16) (ix2 ⟨512 * (t.val % 8) + i.val, by omega⟩ ⟨256 * (t.val / 8) + e.val, by have := head_lt t; omega⟩) := read0_at t (V m c main_v56) i e

theorem blk1_at (i : Fin 4096) (e : Fin 256) : (iblk m c 1 t : FVec Ideal S4096x256 .bf16) (ix2 i e)
    = (V m c main_v57 : FVec Ideal S4096x2048 .bf16) (ix2 i ⟨256 * (t.val / 8) + e.val, by have := head_lt t; omega⟩) := read1_at t (V m c main_v57) i e

theorem blk2_at (i : Fin 4096) (e : Fin 128) : (iblk m c 2 t : FVec Ideal S4096x128 .bf16) (ix2 i e)
    = (V m c main_v58 : FVec Ideal S4096x128 .bf16) (ix2 i e) := read2_at t (V m c main_v58) i e

theorem blk3_at (i : Fin 512) (e : Fin 128) : (iblk m c 3 t : FVec Ideal S512x128 .bf16) (ix2 i e)
    = (V m c main_v59 : FVec Ideal S4096x1024 .bf16) (ix2 ⟨512 * (t.val % 8) + i.val, by omega⟩ ⟨128 * (t.val / 8) + e.val, by have := head_lt t; omega⟩) := read3_at t (V m c main_v59) i e

theorem blk4_at (i : Fin 512) : (iblk m c 4 t : FVec Ideal S1x512x1 .f32) (ix3 0 i 0)
    = (V m c main_v48 : FVec Ideal S8x4096x1 .f32) (ix3 ⟨t.val / 8, head_lt t⟩ ⟨512 * (t.val % 8) + i.val, by omega⟩ 0) := read4_at t (V m c main_v48) i

theorem blk5_at (i : Fin 512) (e : Fin 128) : (iblk m c 5 t : FVec Ideal S512x128 .bf16) (ix2 i e)
    = (V m c main_v60 : FVec Ideal S4096x1024 .bf16) (ix2 ⟨512 * (t.val % 8) + i.val, by omega⟩ ⟨128 * (t.val / 8) + e.val, by have := head_lt t; omega⟩) := read5_at t (V m c main_v60) i e

theorem blk6_at (i : Fin 512) (e : Fin 128) : (iblk m c 6 t : FVec Ideal S512x128 .f32) (ix2 i e)
    = (V m c main_v54 : FVec Ideal S4096x128 .f32) (ix2 ⟨512 * (t.val % 8) + i.val, by omega⟩ e) := read6_at t (V m c main_v54) i e

theorem blk7_at (i : Fin 512) (e : Fin 128) : (iblk m c 7 t : FVec Ideal S512x128 .f32) (ix2 i e)
    = (V m c main_v55 : FVec Ideal S4096x128 .f32) (ix2 ⟨512 * (t.val % 8) + i.val, by omega⟩ e) := read7_at t (V m c main_v55) i e

end

end Cert.Mla

end
-- ==== Proof.MlaRef.lean ====
/-
  THE REFERENCE ON REAL NUMBERS: its three results are the real gradients of `MlaMath`.
-/
module

public import proofs.«01_k».proof.Proof.MlaRead

@[expose] public section

set_option maxRecDepth 16384
set_option maxHeartbeats 1600000

noncomputable section

namespace Cert.Mla

open Cert.ReferenceIdeal Cert.ReferenceIdeal.Gen Cert.ReferenceIdeal.Read
open Idealize.ShloMosaic Idealize.ShloMosaic.TcCoe
open Finset (range)

/-- A sum of reals over `Fin n`. -/
theorem sum_coe (n : ℕ) (f : ℕ → ℝ) : (∑ d : Fin n, ((f d.val : ℝ) : EReal)) = ((∑ d ∈ range n, f d : ℝ) : EReal) := by
  rw [Finset.sum_range, Cert.Real.coe_sum]

/-- The softmax's gradient, as the reference spells it: the row's sum `S` divides the product with the cotangent, and the row's correction is divided by
`S²` before it is summed. -/
theorem softmax_back (N : Nums) (h t k : ℕ) (m : ℝ) (ht : t < 4096) (e : ℕ → ℝ) (S : ℝ) (hS : S = tot N h t / Real.exp m)
    (he : ∀ k, e k = if k / 64 ≤ t / 64 then Real.exp (score N h t k - m) else 0) :
    (dp N h t k / S + -(∑ x ∈ range 4096, dp N h t x * (1 / (S * S)) * e x)) * e k = prob N h t k * (dp N h t k - delta N h t) := by
  have hpos : S ≠ 0 := by rw [hS]; exact (div_pos (tot_pos N h t ht) (Real.exp_pos m)).ne'
  have hp : ∀ k, prob N h t k = e k / S := fun k => by rw [he, hS]; exact (prob_shift N h t k m).symm
  have hd : ∑ x ∈ range 4096, dp N h t x * (1 / (S * S)) * e x = delta N h t / S := by
    rw [delta_eq, Finset.sum_div]
    refine Finset.sum_congr rfl fun x _ => ?_
    rw [hp]; field_simp
  rw [hd, hp]; field_simp; ring

section
variable (a0 : FVec Ideal S4096x1536 .f32) (a1 : FVec Ideal S4096x2048 .f32) (a2 : FVec Ideal S4096x64 .f32) (a3 a4 : FVec Ideal S4096x32 .f32) (a5 : FVec Ideal S4096x1024 .f32)
variable (h0 : Reals a0) (h1 : Reals a1) (h2 : Reals a2) (h3 : Reals a3) (h4 : Reals a4) (h5 : Reals a5)

theorem v53_at (h : Fin 8) (t k : Fin 4096) : val_main_v53 (F := Ideal) a0 a1 a2 a3 a4 (ix3 h t k) = val_main_v42 (F := Ideal) a0 a1 a2 a3 a4 (ix2 h t) := by
  pointwise [val_main_v53, val_main_v52]

theorem v42_at (h : Fin 8) (t : Fin 4096) : val_main_v42 (F := Ideal) a0 a1 a2 a3 a4 (ix2 h t) = val_main_v35 (F := Ideal) a0 a1 a2 a3 a4 (ix2 h t) := by
  rw [val_main_v42_apply, show val_main_v41 (F := Ideal) (ix2 h t) = ⊥ from Cert.Real.neg_infinity]
  exact max_eq_right bot_le

include h0 h1 h2 h3 h4 in
theorem v55_at (h : Fin 8) (t k : Fin 4096) (m : ℝ) (hm : val_main_v35 (F := Ideal) a0 a1 a2 a3 a4 (ix2 h t) = (m : EReal)) :
    val_main_v55 (F := Ideal) a0 a1 a2 a3 a4 (ix3 h t k)
      = ((if k.val / 64 ≤ t.val / 64 then Real.exp (score (numsOf a0 a1 a2 a3 a4 a5) h.val t.val k.val - m) else 0 : ℝ) : EReal) := by
  rw [val_main_v55_apply, val_main_v54_apply, v53_at, v42_at, hm, v34_at a0 a1 a2 a3 a4 a5 h0 h1 h2 h3 h4]
  exact exp_masked _ _ _

include h0 h1 h2 h3 h4 in
theorem v56_at (h : Fin 8) (t : Fin 4096) (m : ℝ) (hm : val_main_v35 (F := Ideal) a0 a1 a2 a3 a4 (ix2 h t) = (m : EReal)) :
    val_main_v56 (F := Ideal) a0 a1 a2 a3 a4 (ix2 h t) = ((tot (numsOf a0 a1 a2 a3 a4 a5) h.val t.val / Real.exp m : ℝ) : EReal) := by
  pointwise [val_main_v56]
  rw [show val_main_cst_10 (F := Ideal) (Shape.Idx.first h_S_) = ((0 : ℝ) : EReal) from Cert.Real.zero, EReal.coe_zero, zero_add, ← tot_shift, ← sum_coe]
  exact Finset.sum_congr rfl fun x _ => v55_at a0 a1 a2 a3 a4 a5 h0 h1 h2 h3 h4 h t x m hm

theorem v57_at (h : Fin 8) (t : Fin 4096) : val_main_v57 (F := Ideal) a0 a1 a2 a3 a4 (ix3 h t 0) = val_main_v56 (F := Ideal) a0 a1 a2 a3 a4 (ix2 h t) := by
  pointwise [val_main_v57]

theorem v58_at (h : Fin 8) (t k : Fin 4096) : val_main_v58 (F := Ideal) a0 a1 a2 a3 a4 (ix3 h t k) = val_main_v56 (F := Ideal) a0 a1 a2 a3 a4 (ix2 h t) := by
  pointwise [val_main_v58, val_main_v57]

include h0 h1 h2 h3 h4 in
theorem v59_at (h : Fin 8) (t k : Fin 4096) : val_main_v59 (F := Ideal) a0 a1 a2 a3 a4 (ix3 h t k) = (prob (numsOf a0 a1 a2 a3 a4 a5) h.val t.val k.val : EReal) := by
  obtain ⟨m, hm⟩ := v35_real a0 a1 a2 a3 a4 h0 h1 h2 h3 h4 h t
  rw [val_main_v59_apply, v58_at, v55_at a0 a1 a2 a3 a4 a5 h0 h1 h2 h3 h4 h t k m hm, v56_at a0 a1 a2 a3 a4 a5 h0 h1 h2 h3 h4 h t m hm]
  refine (Cert.Real.div_coe (div_pos (tot_pos _ _ _ t.isLt) (Real.exp_pos m)).ne').trans ?_
  rw [prob_shift]

include h1 h5 in
theorem v68_at (h : Fin 8) (t k : Fin 4096) : val_main_v68 (F := Ideal) a1 a5 (ix3 h t k) = (dp (numsOf a0 a1 a2 a3 a4 a5) h.val t.val k.val : EReal) := by
  pointwise [val_main_v68, val_main_v67, val_main_v66]
  unfold dp
  rw [← sum_mul_coe]
  exact Finset.sum_congr rfl fun x _ => congrArg₂ (fun x y : EReal => x * y) (at2_eq h5 _ _) (v20_at a0 a1 a2 a3 a4 a5 h1 k h x)

include h0 h1 h2 h3 h4 h5 in
/-- The gradient at the masked scores, times their scale. -/
theorem v85_at (h : Fin 8) (t k : Fin 4096) : val_main_v85 (F := Ideal) a0 a1 a2 a3 a4 a5 (ix3 h t k) = (ds (numsOf a0 a1 a2 a3 a4 a5) h.val t.val k.val : EReal) := by
  obtain ⟨m, hm⟩ := v35_real a0 a1 a2 a3 a4 h0 h1 h2 h3 h4 h t
  pointwise [val_main_v85, val_main_v84, val_main_v83, val_main_v82, val_main_v81, val_main_v80, val_main_v79, val_main_v78, val_main_v77, val_main_v76, val_main_v75,
    val_main_v74, val_main_v73, val_main_v72, val_main_v71, val_main_v62, val_main_v61, val_main_v60]
  rw [mask_at, v57_at, v56_at a0 a1 a2 a3 a4 a5 h0 h1 h2 h3 h4 h t m hm, v68_at a0 a1 a2 a3 a4 a5 h1 h5, v55_at a0 a1 a2 a3 a4 a5 h0 h1 h2 h3 h4 h t k m hm,
    show val_main_cst_13 (F := Ideal) (Shape.Idx.first h_S_) = ((0 : ℝ) : EReal) from Cert.Real.zero,
    show val_main_cst_12 (F := Ideal) (Shape.Idx.first h_S_) = ((0 : ℝ) : EReal) from Cert.Real.zero,
    show val_main_cst_11 (F := Ideal) ix0 = ((1 : ℝ) : EReal) from Cert.Real.one,
    show val_main_call3_v0 (F := Ideal) (ix3 h t k) = ((0 : ℝ) : EReal) from Cert.Real.zero,
    show val_main_cst_14 (F := Ideal) ix0 = (scl : EReal) from scale_eq]
  have hpos : tot (numsOf a0 a1 a2 a3 a4 a5) h.val t.val / Real.exp m ≠ 0 := (div_pos (tot_pos _ _ _ t.isLt) (Real.exp_pos m)).ne'
  have hsum : (∑ x : Fin 4096, val_main_v68 (F := Ideal) a1 a5 (ix3 h t x)
        * Ideal.div ((1 : ℝ) : EReal) (((tot (numsOf a0 a1 a2 a3 a4 a5) h.val t.val / Real.exp m : ℝ) : EReal) * ((tot (numsOf a0 a1 a2 a3 a4 a5) h.val t.val / Real.exp m : ℝ) : EReal))
        * val_main_v55 (F := Ideal) a0 a1 a2 a3 a4 (ix3 h t x))
      = ((∑ x ∈ range 4096, dp (numsOf a0 a1 a2 a3 a4 a5) h.val t.val x
          * (1 / (tot (numsOf a0 a1 a2 a3 a4 a5) h.val t.val / Real.exp m * (tot (numsOf a0 a1 a2 a3 a4 a5) h.val t.val / Real.exp m)))
          * (if x / 64 ≤ t.val / 64 then Real.exp (score (numsOf a0 a1 a2 a3 a4 a5) h.val t.val x - m) else 0) : ℝ) : EReal) := by
    rw [← sum_coe]
    refine Finset.sum_congr rfl fun x _ => ?_
    rw [v68_at a0 a1 a2 a3 a4 a5 h1 h5, v55_at a0 a1 a2 a3 a4 a5 h0 h1 h2 h3 h4 h t x m hm, ← EReal.coe_mul, Cert.Real.div_coe (mul_ne_zero hpos hpos), ← EReal.coe_mul, ← EReal.coe_mul]
  rw [Fin.sum_univ_one]
  refine (congrArg (fun s : EReal => Scalar.select (if k.val / 64 ≤ t.val / 64 then 1#1 else 0#1) ((_ + (((0 : ℝ) : EReal) + -(((0 : ℝ) : EReal) + s))) * _) ((0 : ℝ) : EReal) * (scl : EReal)) hsum).trans ?_
  rw [Cert.Real.div_coe hpos, ← EReal.coe_add, ← EReal.coe_neg, ← EReal.coe_add, ← EReal.coe_add, zero_add, zero_add, ← EReal.coe_mul,
    softmax_back (numsOf a0 a1 a2 a3 a4 a5) h.val t.val k.val m t.isLt (fun x => if x / 64 ≤ t.val / 64 then Real.exp (score (numsOf a0 a1 a2 a3 a4 a5) h.val t.val x - m) else 0) _ rfl (fun _ => rfl)]
  unfold ds
  by_cases hk : k.val / 64 ≤ t.val / 64
  · rw [if_pos hk]
    exact (EReal.coe_mul _ _).symm
  · rw [if_neg hk, prob_hidden _ (by omega), zero_mul, zero_mul]
    exact (EReal.coe_mul 0 scl).symm.trans (by rw [zero_mul])

include h0 h1 h2 h3 h4 h5 in
theorem v86_at (h : Fin 8) (k : Fin 4096) (d : Fin 192) : (∑ x, val_main_v85 (F := Ideal) a0 a1 a2 a3 a4 a5 (ix3 h x k) * val_main_v24 (F := Ideal) a0 a3 a4 (ix3 x h d))
    = (dk (numsOf a0 a1 a2 a3 a4 a5) h.val k.val d.val : EReal) := by
  unfold dk
  rw [← sum_coe]
  refine Finset.sum_congr rfl fun x _ => ?_
  rw [v85_at a0 a1 a2 a3 a4 a5 h0 h1 h2 h3 h4 h5, v24_at a0 a1 a2 a3 a4 a5 h0 h3 h4, ← EReal.coe_mul, mul_comm]

include h0 h1 h2 h3 h4 h5 in
theorem v88_at (h : Fin 8) (t : Fin 4096) (d : Fin 192) : val_main_v88 (F := Ideal) a0 a1 a2 a3 a4 a5 (ix3 h t d) = (dq (numsOf a0 a1 a2 a3 a4 a5) h.val t.val d.val : EReal) := by
  pointwise [val_main_v88]
  unfold dq
  rw [← sum_coe]
  refine Finset.sum_congr rfl fun x _ => ?_
  rw [v85_at a0 a1 a2 a3 a4 a5 h0 h1 h2 h3 h4 h5, v23_at a0 a1 a2 a3 a4 a5 h1 h2, ← EReal.coe_mul]

include h0 h1 h2 h3 h4 h5 in
/-- The gradient at the keys and the values, head by head side by side. -/
theorem v98_at (k : Fin 4096) (c : Fin 2048) (dkvAt : ℝ) (hA : dkvAt = if c.val % 256 < 128 then dk (numsOf a0 a1 a2 a3 a4 a5) (c.val / 256) k.val (c.val % 256)
      else dv (numsOf a0 a1 a2 a3 a4 a5) (c.val / 256) k.val (c.val % 256 - 128)) :
    val_main_v98 (F := Ideal) a0 a1 a2 a3 a4 a5 (ix2 k c) = (dkvAt : EReal) := by
  pointwise [val_main_v98, val_main_v97, val_main_v92, val_main_v87, val_main_v86, val_main_v70, val_main_v69, val_main_v67, val_main_v66]
  by_cases hc : c.val % 256 < 128
  · rw [dif_pos hc, hA, if_pos hc]
    exact v86_at a0 a1 a2 a3 a4 a5 h0 h1 h2 h3 h4 h5 _ k _
  · rw [dif_neg hc, hA, if_neg hc]
    unfold dv
    rw [← sum_mul_coe]
    exact Finset.sum_congr rfl fun x _ => congrArg₂ (fun x y : EReal => x * y) (at2_eq h5 _ _) (v59_at a0 a1 a2 a3 a4 a5 h0 h1 h2 h3 h4 _ x k)

include h0 h1 h2 h3 h4 h5 in
/-- The gradient at the shared rotary key: the heads' sum, with zeros behind it. -/
theorem v119_at (k : Fin 4096) (d : Fin 128) : val_main_v119 (F := Ideal) a0 a1 a2 a3 a4 a5 (ix2 k d) = (dkr (numsOf a0 a1 a2 a3 a4 a5) k.val d.val : EReal) := by
  pointwise [val_main_v119, val_main_v118, val_main_v96, val_main_v95, val_main_v94, val_main_v93, val_main_v87, val_main_v86]
  rw [show val_main_cst_15 (F := Ideal) (Shape.Idx.first h_S_) = ((0 : ℝ) : EReal) from Cert.Real.zero,
    show val_main_cst_16 (F := Ideal) (Shape.Idx.first h_S_) = ((0 : ℝ) : EReal) from Cert.Real.zero,
    show val_main_cst_18 (F := Ideal) ix0 = ((0 : ℝ) : EReal) from Cert.Real.zero]
  by_cases hd : d.val < 64
  · rw [dif_pos hd, Fin.sum_univ_one, EReal.coe_zero, zero_add, zero_add]
    unfold dkr
    rw [← sum_coe]
    exact Finset.sum_congr rfl fun h _ => v86_at a0 a1 a2 a3 a4 a5 h0 h1 h2 h3 h4 h5 h k ⟨128 + d.val, by omega⟩
  · rw [dif_neg hd, dkr_zero _ _ _ (by omega)]

include h0 h1 h2 h3 h4 h5 in
/-- The gradient at the queries, turned back, with zeros behind each head. -/
theorem v121_at (t : Fin 4096) (c : Fin 2048) : val_main_v121 (F := Ideal) a0 a1 a2 a3 a4 a5 (ix2 t c) = (dqTurned (numsOf a0 a1 a2 a3 a4 a5) (c.val / 256) t.val (c.val % 256) : EReal) := by
  pointwise [val_main_v121, val_main_v120, val_main_v117, val_main_v116, val_main_v115, val_main_v114, val_main_v113, val_main_v112, val_main_v111, val_main_v110, val_main_v109,
    val_main_v108, val_main_v107, val_main_v106, val_main_v105, val_main_v104, val_main_v103, val_main_v102, val_main_v101, val_main_v100, val_main_v99, val_main_v91, val_main_v90,
    val_main_v89, val_main_v3, val_main_v4]
  simp only [v88_at a0 a1 a2 a3 a4 a5 h0 h1 h2 h3 h4 h5, at2_eq h3, at2_eq h4]
  unfold dqTurned
  by_cases c1 : c.val % 256 < 192
  · rw [dif_pos c1]
    by_cases c2 : c.val % 256 < 128
    · rw [dif_pos c2, if_pos c2]
    · rw [dif_neg c2, if_neg c2]
      by_cases c3 : c.val % 256 - 128 < 32
      · rw [dif_pos c3, if_pos (by omega), ← EReal.coe_mul, ← EReal.coe_mul, ← EReal.coe_add, add_comm, show 128 + (c.val % 256 - 128) = c.val % 256 by omega,
          show 128 + (32 + (c.val % 256 - 128)) = c.val % 256 + 32 by omega]
        rfl
      · rw [dif_neg c3, if_neg (by omega), if_pos c1, ← EReal.coe_neg, ← EReal.coe_mul, ← EReal.coe_mul, ← EReal.coe_add, neg_mul, ← sub_eq_add_neg,
          show 128 + (32 + (c.val % 256 - 128 - 32)) = c.val % 256 by omega, show 128 + (c.val % 256 - 128 - 32) = c.val % 256 - 32 by omega, show c.val % 256 - 128 - 32 = c.val % 256 - 160 by omega]
        rfl
  · rw [dif_neg c1, if_neg (by omega), if_neg (by omega), if_neg c1]
    exact Cert.Real.zero

end

end Cert.Mla

end
-- ==== Proof.MlaArr.lean ====
/-
  THE ARRAYS THE KERNEL IS CALLED WITH, ELEMENT BY ELEMENT, on real numbers.
-/
module

public import proofs.«01_k».proof.Proof.MlaHost
public import proofs.«01_k».proof.Proof.MlaRef
public import proofs.«01_k».proof.Proof.MlaOut

@[expose] public section

set_option maxRecDepth 16384
set_option maxHeartbeats 1600000

noncomputable section

namespace Cert.Mla

open Cert.KernelIdeal Cert.KernelIdeal.Gen
open Idealize.ShloMosaic Idealize.ShloMosaic.TcCoe
open Finset (range)

/-- A narrowed array's elements. -/
theorem narrow_at {s : Shape} (x : FVec Ideal s .f32) (i : s.Idx) : narrow x i = x i := rfl

theorem logAdd_at {s : Shape} (a b : FVec Ideal s .f32) (i : s.Idx) : addf a (Host.log b) i = a i + Ideal.log (b i) := rfl
theorem expSub_at {s : Shape} (a b : FVec Ideal s .f32) (i : s.Idx) : Host.exp (subf a b) i = Ideal.exp (a i - b i) := rfl
theorem quot_at {s : Shape} (a b : FVec Ideal s .f32) (i : s.Idx) : Host.divf a b i = Ideal.div (a i) (b i) := rfl

theorem widenQ_at (q : FVec Ideal S4096x8x192 .f32) (t : Fin 4096) (c : Fin 2048) :
    widenQ q (ix2 t c) = if h : c.val % 256 < 192 then q (ix3 t ⟨c.val / 256, by omega⟩ ⟨c.val % 256, h⟩) else 0 := by
  pointwise [widenQ, zeros8x64]

theorem widenR_at (r : FVec Ideal S4096x64 .f32) (t : Fin 4096) (c : Fin 128) :
    widenR r (ix2 t c) = if h : c.val < 64 then r (ix2 t ⟨c.val, h⟩) else 0 := by
  pointwise [widenR, zeros64]

theorem twiceOf_at (x : FVec Ideal S4096x32 .f32) (hx : Reals (s := S4096x32) x) (t : Fin 4096) (c : Fin 128) : twiceOf x (ix2 t c) = (twice (at2 x) t.val c.val : EReal) := by
  pointwise [twiceOf, zeros64]
  by_cases c1 : c.val < 32
  · rw [dif_pos c1, twice_first _ _ c1]; exact at2_eq hx _ _
  · rw [dif_neg c1]
    by_cases c2 : c.val - 32 < 32
    · rw [dif_pos c2, twice_second _ _ c1 (by omega)]; exact at2_eq hx _ _
    · rw [dif_neg c2, twice_rest _ _ (by omega), EReal.coe_zero]

section
variable (N : Nums) (s : FVec Ideal S8x4096x4096 .f32) (v : FVec Ideal S4096x8x128 .f32)
variable (hs : ∀ (h : Fin 8) (t k : Fin 4096), s (ix3 h t k) = if k.val / 64 ≤ t.val / 64 then (score N h.val t.val k.val : EReal) else ⊥)
variable (hv : ∀ (k : Fin 4096) (h : Fin 8) (j : Fin 128), v (ix3 k h j) = (N.v h.val k.val j.val : EReal))
variable (hm : ∀ (h : Fin 8) (t : Fin 4096), ∃ x : ℝ, maxOf s (ix2 h t) = (x : EReal))

include hs in
theorem expOf_at (h : Fin 8) (t k : Fin 4096) (x : ℝ) (hx : maxOf s (ix2 h t) = (x : EReal)) :
    expOf s (ix3 h t k) = ((if k.val / 64 ≤ t.val / 64 then Real.exp (score N h.val t.val k.val - x) else 0 : ℝ) : EReal) := by
  have hb : broadcastInDim S8x4096x4096 ![0, 1, 2] bcast_S8x4096x1_S8x4096x4096_0_1_2 (maxColOf s) (ix3 h t k) = maxOf s (ix2 h t) := by
    unfold maxColOf
    generalize maxOf s = y
    pointwise []
  unfold expOf
  rw [expSub_at, hb, hx, hs]
  exact exp_masked _ _ _

include hs in
theorem totOf_at (h : Fin 8) (t : Fin 4096) (x : ℝ) (hx : maxOf s (ix2 h t) = (x : EReal)) :
    totOf s (ix3 h t 0) = ((tot N h.val t.val / Real.exp x : ℝ) : EReal) := by
  unfold totOf
  have he := expOf_at N s hs h t
  revert he
  generalize expOf s = y
  intro he
  pointwise []
  rw [← tot_shift, ← sum_coe]
  exact Finset.sum_congr rfl fun k _ => he k x hx

include hs hm in
theorem probOf_at (h : Fin 8) (t k : Fin 4096) : probOf s (ix3 h t k) = (prob N h.val t.val k.val : EReal) := by
  obtain ⟨x, hx⟩ := hm h t
  have hb : broadcastInDim S8x4096x4096 ![0, 1, 2] bcast_S8x4096x1_S8x4096x4096_0_1_2 (totOf s) (ix3 h t k) = totOf s (ix3 h t 0) := by
    generalize totOf s = y
    pointwise []
  unfold probOf
  rw [quot_at, hb, expOf_at N s hs h t k x hx, totOf_at N s hs h t x hx, Cert.Real.div_coe (div_pos (tot_pos _ _ _ t.isLt) (Real.exp_pos x)).ne', prob_shift]

include hs hm in
theorem lseOf_at (h : Fin 8) (t : Fin 4096) : lseOf s (ix3 h t 0) = (Real.log (tot N h.val t.val) : EReal) := by
  obtain ⟨x, hx⟩ := hm h t
  have hb : maxColOf s (ix3 h t 0) = maxOf s (ix2 h t) := by
    unfold maxColOf
    generalize maxOf s = y
    pointwise []
  unfold lseOf
  rw [logAdd_at, hb, hx, totOf_at N s hs h t x hx, Cert.Real.log_coe (div_pos (tot_pos _ _ _ t.isLt) (Real.exp_pos x)), ← EReal.coe_add, log_shift N _ _ t.isLt]

include hs hv hm in
theorem outOf_at (t : Fin 4096) (c : Fin 1024) : outOf s v (ix2 t c) = (out N (c.val / 128) t.val (c.val % 128) : EReal) := by
  have hp := probOf_at N s hs hm
  unfold outOf
  revert hp
  generalize probOf s = y
  intro hp
  pointwise []
  unfold out
  rw [← sum_mul_coe]
  exact Finset.sum_congr rfl fun k _ => congrArg₂ (fun x y : EReal => x * y) (hv k _ _) (hp _ t k)

end

end Cert.Mla

end
-- ==== Proof.MlaArgs.lean ====
/-
  THE BLOCKS THE KERNEL FINDS, on real numbers, where every argument is finite.
-/
module

public import proofs.«01_k».proof.Proof.MlaBlocks
public import proofs.«01_k».proof.Proof.MlaArr

@[expose] public section

set_option maxRecDepth 16384
set_option maxHeartbeats 1600000

noncomputable section

namespace Cert.Mla

open Cert.KernelIdeal Cert.KernelIdeal.Gen
open Idealize.ShloMosaic Idealize.ShloMosaic.TcCoe
open Finset (range)

section
variable (m : (ℓ : Loc nD τ sig) → Buf (Elt Ideal) ℓ) (c : Dev nD)

/-- The numbers core `c`'s arguments stand for. -/
abbrev nums : Nums := numsOf (arg m c main_arg0) (arg m c main_arg1) (arg m c main_arg2) (arg m c main_arg3) (arg m c main_arg4) (arg m c main_arg5)

/-- Core `c`'s arguments are arrays of reals. -/
structure ArgsReal : Prop where
  r0 : Reals (s := S4096x1536) (arg m c main_arg0)
  r1 : Reals (s := S4096x2048) (arg m c main_arg1)
  r2 : Reals (s := S4096x64) (arg m c main_arg2)
  r3 : Reals (s := S4096x32) (arg m c main_arg3)
  r4 : Reals (s := S4096x32) (arg m c main_arg4)
  r5 : Reals (s := S4096x1024) (arg m c main_arg5)

variable (H : ArgsReal m c)

include H

theorem masked_at (h : Fin 8) (t k : Fin 4096) : maskedOf m c (ix3 h t k) = if k.val / 64 ≤ t.val / 64 then (score (nums m c) h.val t.val k.val : EReal) else ⊥ :=
  v34_at _ _ _ _ _ _ H.r0 H.r1 H.r2 H.r3 H.r4 h t k

theorem masked_max (h : Fin 8) (t : Fin 4096) : ∃ x : ℝ, maxOf (maskedOf m c) (ix2 h t) = (x : EReal) :=
  v35_real _ _ _ _ _ H.r0 H.r1 H.r2 H.r3 H.r4 h t

theorem values_at (k : Fin 4096) (h : Fin 8) (j : Fin 128) : Cert.ReferenceIdeal.Read.val_main_v20 (F := Ideal) (arg m c main_arg1) (ix3 k h j) = ((nums m c).v h.val k.val j.val : EReal) :=
  v20_at _ _ _ _ _ _ H.r1 k h j

theorem block_q (t : Fin cfg0.N) (i : Fin 512) (e : Fin 256) : (iblk m c 0 t : FVec Ideal S512x256 .bf16) (ix2 i e) = ((nums m c).q (t.val / 8) (512 * (t.val % 8) + i.val) e.val : EReal) := by
  have hh := head_lt t
  rw [blk0_at, V_v56, narrow_at, widenQ_at]
  have e1 : (256 * (t.val / 8) + e.val) % 256 = e.val := by omega
  have e2 : (256 * (t.val / 8) + e.val) / 256 = t.val / 8 := by omega
  by_cases he : e.val < 192
  · rw [dif_pos (by dsimp only; omega), v24_at _ _ _ _ _ _ H.r0 H.r3 H.r4]
    dsimp only
    rw [e1, e2]
  · rw [dif_neg (by dsimp only; omega), Nums.q_zero _ _ _ _ (by omega), EReal.coe_zero]

theorem block_k (t : Fin cfg0.N) (i : Fin 4096) (e : Fin 128) : (iblk m c 1 t : FVec Ideal S4096x256 .bf16) (ix2 i ⟨e.val, by omega⟩) = ((nums m c).k (t.val / 8) i.val e.val : EReal) := by
  have hh := head_lt t
  rw [blk1_at, V_v57, narrow_at, at2_eq H.r1]
  show _ = ((if e.val < 128 then at2 (arg m c main_arg1) i.val (t.val / 8 * 256 + e.val) else _ : ℝ) : EReal)
  dsimp only
  rw [if_pos e.isLt, mul_comm 256]

theorem block_v (t : Fin cfg0.N) (i : Fin 4096) (e : Fin 128) : (iblk m c 1 t : FVec Ideal S4096x256 .bf16) (ix2 i ⟨128 + e.val, by omega⟩) = ((nums m c).v (t.val / 8) i.val e.val : EReal) := by
  have hh := head_lt t
  rw [blk1_at, V_v57, narrow_at, at2_eq H.r1]
  show _ = ((at2 (arg m c main_arg1) i.val (t.val / 8 * 256 + (128 + e.val)) : ℝ) : EReal)
  dsimp only
  rw [mul_comm 256]

theorem block_r (t : Fin cfg0.N) (i : Fin 4096) (e : Fin 128) : (iblk m c 2 t : FVec Ideal S4096x128 .bf16) (ix2 i e) = ((nums m c).k (t.val / 8) i.val (128 + e.val) : EReal) := by
  rw [blk2_at, V_v58, narrow_at, widenR_at]
  by_cases he : e.val < 64
  · rw [dif_pos he, at2_eq H.r2]
    show _ = ((if 128 + e.val < 128 then _ else if 128 + e.val < 192 then at2 (arg m c main_arg2) i.val (128 + e.val - 128) else _ : ℝ) : EReal)
    rw [if_neg (by omega), if_pos (by omega), Nat.add_sub_cancel_left]
  · rw [dif_neg he, Nums.k_zero _ _ _ _ (by omega), EReal.coe_zero]

theorem block_o (t : Fin cfg0.N) (i : Fin 512) (e : Fin 128) : (iblk m c 3 t : FVec Ideal S512x128 .bf16) (ix2 i e) = (out (nums m c) (t.val / 8) (512 * (t.val % 8) + i.val) e.val : EReal) := by
  have hh := head_lt t
  rw [blk3_at, V_v59, narrow_at, outOf_at (nums m c) _ _ (masked_at m c H) (values_at m c H) (masked_max m c H)]
  dsimp only
  rw [show (128 * (t.val / 8) + e.val) / 128 = t.val / 8 by omega, show (128 * (t.val / 8) + e.val) % 128 = e.val by omega]

theorem block_lse (t : Fin cfg0.N) (i : Fin 512) : (iblk m c 4 t : FVec Ideal S1x512x1 .f32) (ix3 0 i 0) = (Real.log (tot (nums m c) (t.val / 8) (512 * (t.val % 8) + i.val)) : EReal) := by
  rw [blk4_at, V_v48, lseOf_at (nums m c) _ (masked_at m c H) (masked_max m c H)]

theorem block_ct (t : Fin cfg0.N) (i : Fin 512) (e : Fin 128) : (iblk m c 5 t : FVec Ideal S512x128 .bf16) (ix2 i e) = ((nums m c).ct (t.val / 8) (512 * (t.val % 8) + i.val) e.val : EReal) := by
  have hh := head_lt t
  rw [blk5_at, V_v60, narrow_at, at2_eq H.r5]
  show _ = ((at2 (arg m c main_arg5) _ (t.val / 8 * 128 + e.val) : ℝ) : EReal)
  dsimp only
  rw [mul_comm 128]

theorem blocksAre : BlocksAre m (nums m c) c where
  q := block_q m c H
  k := block_k m c H
  v := block_v m c H
  r := block_r m c H
  o := block_o m c H
  lse := block_lse m c H
  ct := block_ct m c H
  cs t i e := by rw [blk6_at, V_v54, twiceOf_at _ H.r3]; rfl
  sn t i e := by rw [blk7_at, V_v55, twiceOf_at _ H.r4]; rfl

end

end Cert.Mla

end
-- ==== Proof.MlaFinal.lean ====
/-
  WHAT THE KERNEL LEAVES IN ITS THREE RESULTS: the real gradients of `MlaMath`, where every argument is finite.
-/
module

public import proofs.«01_k».proof.Proof.MlaArgs
public import Idealize.ShloMosaic.Lib.Pipeline.ArrRel

@[expose] public section

set_option maxRecDepth 16384
set_option maxHeartbeats 1600000

noncomputable section

namespace Cert.Mla

open Cert.KernelIdeal Cert.KernelIdeal.Gen
open Idealize.ShloMosaic Idealize.ShloMosaic.TcCoe Idealize.SL.Sem

/-- The three gradients as arrays. -/
def dqArr (N : Nums) : FVec Ideal S4096x2048 .bf16 := fun i => (dqTurned N ((i 1).val / 256) (i 0).val ((i 1).val % 256) : EReal)
def dkvArr (N : Nums) : FVec Ideal S4096x2048 .f32 := fun i => (dkvAt N ((i 1).val / 256) (i 0).val ((i 1).val % 256) : EReal)
def dkrArr (N : Nums) : FVec Ideal S4096x128 .f32 := fun i => (dkr N (i 0).val (i 1).val : EReal)

theorem read8_at (t : Fin cfg0.N) (X : FVec Ideal S4096x2048 .bf16) (i : Fin 512) (e : Fin 256) : (((cfg0.win 8).blk t).view.read (Elt Ideal) X : FVec Ideal S512x256 .bf16) (ix2 i e)
    = X (ix2 ⟨512 * (t.val % 8) + i.val, by omega⟩ ⟨256 * (t.val / 8) + e.val, by have := head_lt t; omega⟩) := by
  blk_point [idx t]

theorem read9_at (t : Fin cfg0.N) (X : FVec Ideal S4096x2048 .f32) (i : Fin 4096) (e : Fin 256) : (((cfg0.win 9).blk t).view.read (Elt Ideal) X : FVec Ideal S4096x256 .f32) (ix2 i e)
    = X (ix2 i ⟨256 * (t.val / 8) + e.val, by have := head_lt t; omega⟩) := by
  blk_point [idx t]

theorem read10_at (t : Fin cfg0.N) (X : FVec Ideal S4096x128 .f32) (i : Fin 4096) (e : Fin 128) : (((cfg0.win 10).blk t).view.read (Elt Ideal) X : FVec Ideal S4096x128 .f32) (ix2 i e)
    = X (ix2 i e) := by
  blk_point [idx t]

theorem flush9 : ∀ t : Fin cfg0.N, (cfg0.win 9).flush t = true → t.val % 8 = 7 := (by decide +kernel : ∀ t : Fin grid0.N, _)
theorem flush10 : ∀ t : Fin cfg0.N, (cfg0.win 10).flush t = true → t.val = 63 := (by decide +kernel : ∀ t : Fin grid0.N, _)

variable (m : (ℓ : Loc nD τ sig) → Buf (Elt Ideal) ℓ) (ρ : Dev nD → PrngReg)

/-- An array whose written blocks hold one array's blocks is that array. -/
theorem arr_eq {T : Dev nD → Track Ideal} {c : Dev nD} (after : (w' : Fin cfg0.W) → Fin cfg0.N → (cfg0.win w').block.Idx → Elt Ideal (cfg0.win w').elt) (N : Nums)
    (h8 : ∀ u, (numbers N).dq u (after 8 u)) (h9 : ∀ u, u.val % 8 = 7 → (numbers N).dkv u (after 9 u)) (h10 : ∀ u, u.val = 63 → (numbers N).dkr u (after 10 u)) :
    ((rdat m T c).withAfter after).arrAt 8 cfg0.N = dqArr N ∧ ((rdat m T c).withAfter after).arrAt 9 cfg0.N = dkvArr N ∧ ((rdat m T c).withAfter after).arrAt 10 cfg0.N = dkrArr N := by
  refine ⟨Pipeline.Dat.arrAt_eq_of_covers _ 8 _ (by decide +kernel) fun t _ y => ?_, Pipeline.Dat.arrAt_eq_of_covers _ 9 _ (by decide +kernel) fun t hf y => ?_,
    Pipeline.Dat.arrAt_eq_of_covers _ 10 _ (by decide +kernel) fun t hf y => ?_⟩
  · have hh := head_lt t
    have key : ∀ (i : Fin 512) (e : Fin 256), (after 8 t : FVec Ideal S512x256 .bf16) (ix2 i e) = (((cfg0.win 8).blk t).view.read (Elt Ideal) (dqArr N) : FVec Ideal S512x256 .bf16) (ix2 i e) := by
      intro i e
      refine (h8 t i e).trans ((read8_at t (dqArr N) i e).trans ?_).symm
      show ((dqTurned N ((256 * (t.val / 8) + e.val) / 256) (512 * (t.val % 8) + i.val) ((256 * (t.val / 8) + e.val) % 256) : ℝ) : EReal) = _
      rw [show (256 * (t.val / 8) + e.val) / 256 = t.val / 8 by omega, show (256 * (t.val / 8) + e.val) % 256 = e.val by omega]
    have hy := key (y 0) (y 1)
    rw [← eq_ix2 (n0 := 512) (n1 := 256) y] at hy
    exact hy
  · have hh := head_lt t
    have key : ∀ (i : Fin 4096) (e : Fin 256), (after 9 t : FVec Ideal S4096x256 .f32) (ix2 i e) = (((cfg0.win 9).blk t).view.read (Elt Ideal) (dkvArr N) : FVec Ideal S4096x256 .f32) (ix2 i e) := by
      intro i e
      refine (h9 t (flush9 t hf) (flush9 t hf) i e).trans ((read9_at t (dkvArr N) i e).trans ?_).symm
      show ((dkvAt N ((256 * (t.val / 8) + e.val) / 256) i.val ((256 * (t.val / 8) + e.val) % 256) : ℝ) : EReal) = _
      rw [show (256 * (t.val / 8) + e.val) / 256 = t.val / 8 by omega, show (256 * (t.val / 8) + e.val) % 256 = e.val by omega]
    have hy := key (y 0) (y 1)
    rw [← eq_ix2 (n0 := 4096) (n1 := 256) y] at hy
    exact hy
  · have key : ∀ (i : Fin 4096) (e : Fin 128), (after 10 t : FVec Ideal S4096x128 .f32) (ix2 i e) = (((cfg0.win 10).blk t).view.read (Elt Ideal) (dkrArr N) : FVec Ideal S4096x128 .f32) (ix2 i e) :=
      fun i e => (h10 t (flush10 t hf) (flush10 t hf) i e).trans (read10_at t (dkrArr N) i e).symm
    have hy := key (y 0) (y 1)
    rw [← eq_ix2 (n0 := 4096) (n1 := 128) y] at hy
    exact hy

/-- The kernel's run where every argument is finite. -/
theorem run_values (H : ∀ c, ArgsReal m c) : θ_run defs (onTc (τ := τ) (main (F := Ideal))) ⟨m, fun _ => 0, ρ⟩ (fun r => ∀ c : Dev nD,
      r.2.mem ((c.tc : Thread nD τ).loc main_v61_0) = dqArr (nums m c)
      ∧ r.2.mem ((c.tc : Thread nD τ).loc main_v61_1) = dkvArr (nums m c)
      ∧ r.2.mem ((c.tc : Thread nD τ).loc main_v61_2) = dkrArr (nums m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ (fun c => numbers (nums m c)) (fun c => sound m rfl (blocksAre m c (H c))))
  obtain ⟨after, hL, hA⟩ := Pipeline.RDat.FramePost.exists_exact h.1 c
  have h8 : ∀ u, (numbers (nums m c)).dq u (after 8 u) := fun u => by
    obtain ⟨Y, _, hY⟩ := hL 8 u ((by decide +kernel : ∀ t : Fin grid0.N, (cfg0.win 8).flush t = true) u)
    exact hY
  have h9 : ∀ u, u.val % 8 = 7 → (numbers (nums m c)).dkv u (after 9 u) := fun u hu => by
    obtain ⟨Y, _, hY⟩ := hL 9 u ((by decide +kernel : ∀ t : Fin grid0.N, t.val % 8 = 7 → (cfg0.win 9).flush t = true) u hu)
    exact hY
  have h10 : ∀ u, u.val = 63 → (numbers (nums m c)).dkr u (after 10 u) := fun u hu => by
    obtain ⟨Y, _, hY⟩ := hL 10 u ((by decide +kernel : ∀ t : Fin grid0.N, t.val = 63 → (cfg0.win 10).flush t = true) u hu)
    exact hY
  obtain ⟨e8, e9, e10⟩ := arr_eq m (T := fun c => numbers (nums m c)) (c := c) after (nums m c) h8 h9 h10
  exact ⟨(hA 8).trans e8, (hA 9).trans e9, (hA 10).trans e10,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩

end Cert.Mla

end
-- ==== Proof.MlaSame.lean ====
/- The printed kernel and its idealisation are one program: their tables of bodies are equal at the float words. -/
module

public import Idealize.ShloMosaic.PureOps.BitExact
public import proofs.«01_k».proof.Proof.Gen.Kernel
public import proofs.«01_k».proof.Proof.Gen.KernelIdeal

@[expose] public section

set_option maxRecDepth 16384
set_option maxHeartbeats 1600000

noncomputable section

open Idealize.ShloMosaic Idealize.ShloMosaic.TcCoe Idealize.SL.Sem

namespace Cert.MlaClaim

local instance : Cert.Kernel.Facts := Cert.Kernel.Gen.facts
local instance : Cert.KernelIdeal.Facts := Cert.KernelIdeal.Gen.facts

theorem body_eq : @Cert.KernelIdeal.cc0_mla_bwd Bits _ _ = @Cert.Kernel.cc0_mla_bwd Bits _ _ := rfl

theorem table_eq : Cert.KernelIdeal.defs₀ (F := Bits) = Cert.Kernel.defs₀ (F := Bits) := by
  unfold Cert.KernelIdeal.defs₀ Cert.Kernel.defs₀
  refine congrArg Defs.onTc ?_
  funext l x
  match l, x with
  | ⟨0, _⟩, (t, s) =>
    show Cert.KernelIdeal.cc0_mla_bwd _ _ _ _ _ _ _ _ _ _ _ _ _ _ _ _ _ _ _ _ _ _ _ _ _ _ _ _ _ _ _ _ _ = _
    rw [body_eq]
    rfl
  | ⟨n + 1, h⟩, _ => exact absurd h (Nat.not_lt.2 (Nat.le_add_left _ _))

theorem defs_eq : Cert.KernelIdeal.defs (F := Bits) = Cert.Kernel.defs (F := Bits) := congrArg (Pipeline.defs Cert.Kernel.pcfgs) table_eq

theorem main_eq : Cert.KernelIdeal.main (F := Bits) = Cert.Kernel.main (F := Bits) := rfl

end Cert.MlaClaim

end
-- ==== Proof.MlaClaim.lean ====
/- The claims about the gradient of the latent attention. -/
module

public import proofs.«01_k».proof.Defs
public import proofs.«01_k».proof.Proof.Gen.Kernel
public import proofs.«01_k».proof.Proof.Gen.Pre_finite1
public import proofs.«01_k».proof.Proof.MlaFinal
public import proofs.«01_k».proof.Proof.MlaSame
public import Idealize.ShloMosaic.Lib.Quiescent

@[expose] public section

set_option maxRecDepth 16384
set_option maxHeartbeats 1600000

noncomputable section

open Idealize.ShloMosaic Idealize.ShloMosaic.TcCoe Idealize.SL.Sem

namespace Cert.MlaClaim

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite1.Facts := Cert.Pre_finite1.Gen.facts

/-- What the precondition says: every argument is an array of reals. -/
theorem finite (m : (ℓ : Loc Cert.KernelIdeal.nD Cert.KernelIdeal.τ Cert.KernelIdeal.sig) → Buf (Elt Ideal) ℓ) (h : Cert.Pre_KernelIdeal_finite1 m) (c : Dev Cert.KernelIdeal.nD) :
    Cert.Mla.ArgsReal m c := by
  obtain ⟨h0, h1, h2, h3, h4, h5⟩ := h c
  exact ⟨fun i => Cert.Real.exists_of_finite (congrFun h0 i), fun i => Cert.Real.exists_of_finite (congrFun h1 i), fun i => Cert.Real.exists_of_finite (congrFun h2 i),
    fun i => Cert.Real.exists_of_finite (congrFun h3 i), fun i => Cert.Real.exists_of_finite (congrFun h4 i), fun i => Cert.Real.exists_of_finite (congrFun h5 i)⟩

/-- The two programs have the same text, so the run over any float values is both. -/
theorem frame_kernel : Cert.quiescent_Kernel := fun m ρ _ => by
  have h := Cert.Mla.frame (F := Bits) m ρ
  rw [main_eq, defs_eq] at h
  exact h

theorem frame_ideal : Cert.quiescent_KernelIdeal := fun m ρ _ => Cert.Mla.frame (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two runs end with the same three gradients. -/
theorem algebraic : Cert.algebraic_KernelIdeal_ReferenceIdeal_pre_finite1 := by
  intro m ρ m' ρ' hpre hm
  refine ⟨fun c => Cert.Mla.dqArr (Cert.Mla.nums m c), fun c => Cert.Mla.dkvArr (Cert.Mla.nums m c), fun c => Cert.Mla.dkrArr (Cert.Mla.nums m c),
    Cert.Mla.run_values m ρ (finite m hpre), (θ_run Cert.ReferenceIdeal.defs _ _).mono (fun r h c => ?_) (Cert.ReferenceIdeal.Value.run (F := Ideal) m' ρ')⟩
  have H := finite m hpre c
  obtain ⟨e0, e1, e2, e3, e4, e5⟩ := hm c
  have a0 : StableHlo.launchContents m' c (Proc.devRef .tc Cert.ReferenceIdeal.main_arg0) = m (c.tc.loc Cert.KernelIdeal.main_arg0) := e0
  have a1 : StableHlo.launchContents m' c (Proc.devRef .tc Cert.ReferenceIdeal.main_arg1) = m (c.tc.loc Cert.KernelIdeal.main_arg1) := e1
  have a2 : StableHlo.launchContents m' c (Proc.devRef .tc Cert.ReferenceIdeal.main_arg2) = m (c.tc.loc Cert.KernelIdeal.main_arg2) := e2
  have a3 : StableHlo.launchContents m' c (Proc.devRef .tc Cert.ReferenceIdeal.main_arg3) = m (c.tc.loc Cert.KernelIdeal.main_arg3) := e3
  have a4 : StableHlo.launchContents m' c (Proc.devRef .tc Cert.ReferenceIdeal.main_arg4) = m (c.tc.loc Cert.KernelIdeal.main_arg4) := e4
  have a5 : StableHlo.launchContents m' c (Proc.devRef .tc Cert.ReferenceIdeal.main_arg5) = m (c.tc.loc Cert.KernelIdeal.main_arg5) := e5
  refine ⟨(h c).1.trans ?_, (h c).2.1.trans ?_, (h c).2.2.1.trans ?_, (h c).2.2.2⟩
  · rw [Cert.ReferenceIdeal.Read.val_main_v121_eq, a0, a1, a2, a3, a4, a5]
    funext i
    rw [ValueIdx.eq_ix2 (n0 := 4096) (n1 := 2048) i]
    exact Cert.Mla.v121_at _ _ _ _ _ _ H.r0 H.r1 H.r2 H.r3 H.r4 H.r5 _ _
  · rw [Cert.ReferenceIdeal.Read.val_main_v98_eq, a0, a1, a2, a3, a4, a5]
    funext i
    rw [ValueIdx.eq_ix2 (n0 := 4096) (n1 := 2048) i]
    exact Cert.Mla.v98_at _ _ _ _ _ _ H.r0 H.r1 H.r2 H.r3 H.r4 H.r5 _ _ _ rfl
  · rw [Cert.ReferenceIdeal.Read.val_main_v119_eq, a0, a1, a2, a3, a4, a5]
    funext i
    rw [ValueIdx.eq_ix2 (n0 := 4096) (n1 := 128) i]
    exact Cert.Mla.v119_at _ _ _ _ _ _ H.r0 H.r1 H.r2 H.r3 H.r4 H.r5 _ _

end Cert.MlaClaim

end
-- ==== Proof.Mm.lean ====
/- What the products share: sums whose terms carry a factor of one half, and sums over a row padded with zeros. -/
module

public import proofs.«01_k».proof.Proof.Real
public import Idealize.ShloMosaic.Lib.Pipeline.ValueKit
public import Idealize.ShloMosaic.Lib.Pipeline.ReadBack

@[expose] public section

noncomputable section

open Idealize.ShloMosaic

namespace Cert.Mm

/-- A factor of one half moves into a sum of extended reals: it is nonnegative and finite. -/
theorem sum_mul_half {n : Nat} (f : Fin n → EReal) : (∑ l, f l) * ((1 / 2 : ℝ) : EReal) = ∑ l, f l * ((1 / 2 : ℝ) : EReal) := by
  have h : ∀ s : Finset (Fin n), (∑ l ∈ s, f l) * ((1 / 2 : ℝ) : EReal) = ∑ l ∈ s, f l * ((1 / 2 : ℝ) : EReal) := by
    intro s
    induction s using Finset.induction_on with
    | empty => simp
    | insert a s ha ih =>
      rw [Finset.sum_insert ha, Finset.sum_insert ha, ← ih]
      exact EReal.right_distrib_of_nonneg_of_ne_top (by exact_mod_cast (by norm_num : (0 : ℝ) ≤ 1 / 2)) (EReal.coe_ne_top _) _ _
  exact h Finset.univ

/-- A row whose last part is zero: the sum of its products stops before it. -/
theorem sum_left {n p : Nat} (f g : Fin (n + p) → EReal) (h : ∀ l : Fin p, f (Fin.natAdd n l) = 0) :
    ∑ l, f l * g l = ∑ l : Fin n, f (Fin.castAdd p l) * g (Fin.castAdd p l) := by
  rw [Fin.sum_univ_add]
  have : ∑ l : Fin p, f (Fin.natAdd n l) * g (Fin.natAdd n l) = 0 := Finset.sum_eq_zero fun l _ => by rw [h l, zero_mul]
  rw [this, add_zero]

/-- A row whose first part is zero: the sum of its products starts after it. -/
theorem sum_right {n p : Nat} (f g : Fin (n + p) → EReal) (h : ∀ l : Fin n, f (Fin.castAdd p l) = 0) :
    ∑ l, f l * g l = ∑ l : Fin p, f (Fin.natAdd n l) * g (Fin.natAdd n l) := by
  rw [Fin.sum_univ_add]
  have : ∑ l : Fin n, f (Fin.castAdd p l) * g (Fin.castAdd p l) = 0 := Finset.sum_eq_zero fun l _ => by rw [h l, zero_mul]
  rw [this, zero_add]

end Cert.Mm

end
-- ==== Proof.Mm3.lean ====
/- The gradient of the joined input projection: what the kernel writes, what the reference computes, and the claims about them. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm3

open Cert.Kernel3Ideal Cert.Kernel3Ideal.Gen

variable (m : (ℓ : Loc nD τ sig) → Buf (Elt Ideal) ℓ)

/-- The whole result: the transposed activations times the incoming gradient. -/
def G (x : FVec Ideal S4096x1024 .f32) (y : FVec Ideal S4096x8960 .f32) : FVec Ideal S1024x8960 .bf16 :=
  fun i => ∑ l : Fin 4096, x (ix2 l (i 0)) * y (ix2 l (i 1))

/-- Which block of each array a grid point works on. -/
theorem idx : ∀ t : Fin cfg0.N, win0_0.index t = ![t.val % 4, 0] ∧ win0_1.index t = ![t.val % 4, t.val / 4] ∧ win0_2.index t = ![0, t.val / 4] ∧ t.val / 4 < 7 :=
  (by decide +kernel : ∀ t : Fin grid0.N, _)

/-- The product of one block of each operand. -/
def part (a : Vec Ideal S1024x1024 .bf16) (b : Vec Ideal S1024x1280 .bf16) (j : S1024x1280.Idx) : EReal :=
  ∑ k : Fin 1024, a (ix2 k (j 0)) * b (ix2 k (j 1))

theorem pay1 (j) : k0_pay1 (F := Ideal) j = 0 := by
  pointwise [k0_pay1]

theorem pay2 (acc : Vec Ideal S1024x1280 .f32) (a : Vec Ideal S1024x1024 .bf16) (b : Vec Ideal S1024x1280 .bf16) (j) : k0_pay2 acc a b j = acc j + part a b j := by
  pointwise [k0_pay2, part]

theorem pay3 (acc : Vec Ideal S1024x1280 .f32) (j) : k0_pay3 acc j = acc j := by
  pointwise [k0_pay3]

/-- At the last point of a stretch the accumulator is the sum of the stretch's block products. -/
theorem acc_eq (c : Dev nD) (t : Fin cfg0.N) (hr : t.val % 4 = 4 - 1) (j) : (outsAt0 m c t.val t.isLt).2 j
    = 0 + ∑ s : Fin 4, part (iblk m c 0 ⟨4 * (t.val / 4) + s.val, Pipeline.run_point_lt_of_flush t hr s⟩) (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t j => part (iblk m c 0 t) (iblk m c 1 t) j) ?_ ?_ t hr j
  · intro t h j
    rw [outsAt0_A m c t h (by omega)]; frame_out; rw [pay2, pay1]
  · intro t h j
    by_cases h1 : t.val % 4 = 3
    · rw [outsAt0_C m c t h h1]; frame_out; rw [pay2, read_unread_whole]
    · rw [outsAt0_B m c t h h1]; frame_out; rw [pay2, read_unread_whole]

/-- What that point writes back. -/
theorem out_eq (c : Dev nD) (t : Fin cfg0.N) (hr : t.val % 4 = 3) (j) : (outsAt0 m c t.val t.isLt).1 j = (outsAt0 m c t.val t.isLt).2 j := by
  rw [outsAt0_C m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 4) (n := 1024) (fun s k hl => ?_)
  have h4 : 4 * (t.val / 4) + s.val < cfg0.N := Pipeline.run_point_lt_of_flush t hr s
  have e1 : (4 * (t.val / 4) + s.val) / 4 = t.val / 4 := by omega
  have e2 : (4 * (t.val / 4) + s.val) % 4 = s.val := by omega
  congr 1
  · blk_ext [iblk, V, idx ⟨4 * (t.val / 4) + s.val, h4⟩, idx t, e1, e2]
  · blk_ext [iblk, V, idx ⟨4 * (t.val / 4) + s.val, h4⟩, idx t, e1, e2]

open Cert.Reference3Ideal.Read in
/-- The reference computes the same function. -/
theorem ref (x : FVec Ideal S4096x1024 .f32) (y : FVec Ideal S4096x8960 .f32) : val_main_v4 (F := Ideal) x y = G x y := by
  funext i
  rw [val_main_v4_apply, val_main_v3_apply]
  show val_main_v2 (F := Ideal) x y (idx_main_v3 i) = _
  rw [val_main_v2_apply]
  unfold G
  refine Finset.sum_congr rfl fun l _ => ?_
  rw [mul_comm]
  congr 2 <;> (funext d; match d with | ⟨0, _⟩ => rfl | ⟨1, _⟩ => rfl)

local instance : Cert.Kernel3.Facts := Cert.Kernel3.Gen.facts
local instance : Cert.Kernel3Ideal.Facts := Cert.Kernel3Ideal.Gen.facts
local instance : Cert.Reference3Ideal.Facts := Cert.Reference3Ideal.Gen.facts

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two runs end with the same array. -/
theorem algebraic : Cert.algebraic_Kernel3Ideal_Reference3Ideal := by
  intro m ρ m' ρ' _ hm
  refine ⟨_, Cert.Kernel3Ideal.Value.run_blocks m ρ, (θ_run Cert.Reference3Ideal.defs _ _).mono (fun r h c => ?_) (Cert.Reference3Ideal.Value.run (F := Ideal) m' ρ')⟩
  obtain ⟨e0, e1⟩ := hm c
  refine ⟨(h c).1.trans ?_, (h c).2⟩
  rw [Cert.Reference3Ideal.Read.val_main_v4_eq, e0, e1]
  exact (ref _ _).trans (final m c).symm

end Cert.Mm3

end
-- ==== Proof.Mm4.lean ====
/- The gradient of the input of the joined projection: what the kernel writes, what the reference computes, and the claims about them. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm4

open Cert.Kernel4Ideal Cert.Kernel4Ideal.Gen

variable (m : (ℓ : Loc nD τ sig) → Buf (Elt Ideal) ℓ)

/-- The whole result: the incoming gradient times the transposed weights. -/
def G (x : FVec Ideal S4096x8960 .f32) (y : FVec Ideal S1024x8960 .f32) : FVec Ideal S4096x1024 .f32 :=
  fun i => ∑ l : Fin 8960, x (ix2 (i 0) l) * y (ix2 (i 1) l)

/-- Which block of each array a grid point works on. -/
theorem idx : ∀ t : Fin cfg0.N, win0_0.index t = ![t.val / 7, t.val % 7] ∧ win0_1.index t = ![0, t.val % 7] ∧ win0_2.index t = ![t.val / 7, 0] ∧ t.val / 7 < 4 :=
  (by decide +kernel : ∀ t : Fin grid0.N, _)

/-- The product of one block of each operand. -/
def part (a : Vec Ideal S1024x1280 .bf16) (b : Vec Ideal S1024x1280 .bf16) (j : S1024x1024.Idx) : EReal :=
  ∑ k : Fin 1280, a (ix2 (j 0) k) * b (ix2 (j 1) k)

theorem pay1 (j) : k0_pay1 (F := Ideal) j = 0 := by
  pointwise [k0_pay1]

theorem pay2 (acc : Vec Ideal S1024x1024 .f32) (a : Vec Ideal S1024x1280 .bf16) (b : Vec Ideal S1024x1280 .bf16) (j) : k0_pay2 acc a b j = acc j + part a b j := by
  pointwise [k0_pay2, part]

theorem pay3 (acc : Vec Ideal S1024x1024 .f32) (j) : k0_pay3 acc j = acc j := by
  pointwise [k0_pay3]

/-- At the last point of a stretch the accumulator is the sum of the stretch's block products. -/
theorem acc_eq (c : Dev nD) (t : Fin cfg0.N) (hr : t.val % 7 = 7 - 1) (j) : (outsAt0 m c t.val t.isLt).2 j
    = 0 + ∑ s : Fin 7, part (iblk m c 0 ⟨7 * (t.val / 7) + s.val, Pipeline.run_point_lt_of_flush t hr s⟩) (iblk m c 1 ⟨7 * (t.val / 7) + s.val, Pipeline.run_point_lt_of_flush t hr s⟩) j := by
  refine Pipeline.eq_sum_fin_of_reset_step_apply_of_flush (fun n h => (outsAt0 m c n h).2) 7 (fun _ => 0)
    (fun t j => part (iblk m c 0 t) (iblk m c 1 t) j) ?_ ?_ t hr j
  · intro t h j
    rw [outsAt0_A m c t h (by omega)]; frame_out; rw [pay2, pay1]
  · intro t h j
    by_cases h1 : t.val % 7 = 6
    · rw [outsAt0_C m c t h h1]; frame_out; rw [pay2, read_unread_whole]
    · rw [outsAt0_B m c t h h1]; frame_out; rw [pay2, read_unread_whole]

/-- What that point writes back. -/
theorem out_eq (c : Dev nD) (t : Fin cfg0.N) (hr : t.val % 7 = 6) (j) : (outsAt0 m c t.val t.isLt).1 j = (outsAt0 m c t.val t.isLt).2 j := by
  rw [outsAt0_C m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 7) (n := 1280) (fun s k hl => ?_)
  have h4 : 7 * (t.val / 7) + s.val < cfg0.N := Pipeline.run_point_lt_of_flush t hr s
  have e1 : (7 * (t.val / 7) + s.val) / 7 = t.val / 7 := by omega
  have e2 : (7 * (t.val / 7) + s.val) % 7 = s.val := by omega
  congr 1
  · blk_ext [iblk, V, idx ⟨7 * (t.val / 7) + s.val, h4⟩, idx t, e1, e2]
  · blk_ext [iblk, V, idx ⟨7 * (t.val / 7) + s.val, h4⟩, idx t, e1, e2]

open Cert.Reference4Ideal.Read in
/-- The reference computes the same function. -/
theorem ref (x : FVec Ideal S4096x8960 .f32) (y : FVec Ideal S1024x8960 .f32) : val_main_v2 (F := Ideal) x y = G x y := by
  funext i
  rw [val_main_v2_apply]
  unfold G
  refine Finset.sum_congr rfl fun l _ => ?_
  congr 2 <;> (funext d; match d with | ⟨0, _⟩ => rfl | ⟨1, _⟩ => rfl)

local instance : Cert.Kernel4.Facts := Cert.Kernel4.Gen.facts
local instance : Cert.Kernel4Ideal.Facts := Cert.Kernel4Ideal.Gen.facts
local instance : Cert.Reference4Ideal.Facts := Cert.Reference4Ideal.Gen.facts

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two runs end with the same array. -/
theorem algebraic : Cert.algebraic_Kernel4Ideal_Reference4Ideal := by
  intro m ρ m' ρ' _ hm
  refine ⟨_, Cert.Kernel4Ideal.Value.run_blocks m ρ, (θ_run Cert.Reference4Ideal.defs _ _).mono (fun r h c => ?_) (Cert.Reference4Ideal.Value.run (F := Ideal) m' ρ')⟩
  obtain ⟨e0, e1⟩ := hm c
  refine ⟨(h c).1.trans ?_, (h c).2⟩
  rw [Cert.Reference4Ideal.Read.val_main_v2_eq, e0, e1]
  exact (ref _ _).trans (final m c).symm

end Cert.Mm4

end
-- ==== Proof.Mm5.lean ====
/- The gradient of one half of the gated unit's first weights: what the kernel writes, what the reference computes, and the claims about them. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm5

open Cert.Kernel5Ideal Cert.Kernel5Ideal.Gen

variable (m : (ℓ : Loc nD τ sig) → Buf (Elt Ideal) ℓ)

/-- The whole result: the transposed input times the gradient of that half. -/
def G (x : FVec Ideal S4096x1024 .f32) (y : FVec Ideal S4096x2816 .f32) : FVec Ideal S1024x2816 .bf16 :=
  fun i => ∑ l : Fin 4096, x (ix2 l (i 0)) * y (ix2 l (i 1))

/-- Which block of each array a grid point works on. -/
theorem idx : ∀ t : Fin cfg0.N, win0_0.index t = ![t.val % 4, 0] ∧ win0_1.index t = ![t.val % 4, t.val / 4] ∧ win0_2.index t = ![0, t.val / 4] ∧ t.val / 4 < 2 :=
  (by decide +kernel : ∀ t : Fin grid0.N, _)

/-- The product of one block of each operand. -/
def part (a : Vec Ideal S1024x1024 .bf16) (b : Vec Ideal S1024x1408 .bf16) (j : S1024x1408.Idx) : EReal :=
  ∑ k : Fin 1024, a (ix2 k (j 0)) * b (ix2 k (j 1))

theorem pay1 (j) : k0_pay1 (F := Ideal) j = 0 := by
  pointwise [k0_pay1]

theorem pay2 (acc : Vec Ideal S1024x1408 .f32) (a : Vec Ideal S1024x1024 .bf16) (b : Vec Ideal S1024x1408 .bf16) (j) : k0_pay2 acc a b j = acc j + part a b j := by
  pointwise [k0_pay2, part]

theorem pay3 (acc : Vec Ideal S1024x1408 .f32) (j) : k0_pay3 acc j = acc j := by
  pointwise [k0_pay3]

/-- At the last point of a stretch the accumulator is the sum of the stretch's block products. -/
theorem acc_eq (c : Dev nD) (t : Fin cfg0.N) (hr : t.val % 4 = 4 - 1) (j) : (outsAt0 m c t.val t.isLt).2 j
    = 0 + ∑ s : Fin 4, part (iblk m c 0 ⟨4 * (t.val / 4) + s.val, Pipeline.run_point_lt_of_flush t hr s⟩) (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t j => part (iblk m c 0 t) (iblk m c 1 t) j) ?_ ?_ t hr j
  · intro t h j
    rw [outsAt0_A m c t h (by omega)]; frame_out; rw [pay2, pay1]
  · intro t h j
    by_cases h1 : t.val % 4 = 3
    · rw [outsAt0_C m c t h h1]; frame_out; rw [pay2, read_unread_whole]
    · rw [outsAt0_B m c t h h1]; frame_out; rw [pay2, read_unread_whole]

/-- What that point writes back. -/
theorem out_eq (c : Dev nD) (t : Fin cfg0.N) (hr : t.val % 4 = 3) (j) : (outsAt0 m c t.val t.isLt).1 j = (outsAt0 m c t.val t.isLt).2 j := by
  rw [outsAt0_C m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 4) (n := 1024) (fun s k hl => ?_)
  have h4 : 4 * (t.val / 4) + s.val < cfg0.N := Pipeline.run_point_lt_of_flush t hr s
  have e1 : (4 * (t.val / 4) + s.val) / 4 = t.val / 4 := by omega
  have e2 : (4 * (t.val / 4) + s.val) % 4 = s.val := by omega
  congr 1
  · blk_ext [iblk, V, idx ⟨4 * (t.val / 4) + s.val, h4⟩, idx t, e1, e2]
  · blk_ext [iblk, V, idx ⟨4 * (t.val / 4) + s.val, h4⟩, idx t, e1, e2]

open Cert.Reference5Ideal.Read in
/-- The reference computes the same function. -/
theorem ref (x : FVec Ideal S4096x1024 .f32) (y : FVec Ideal S4096x2816 .f32) : val_main_v4 (F := Ideal) x y = G x y := by
  funext i
  rw [val_main_v4_apply, val_main_v3_apply]
  show val_main_v2 (F := Ideal) x y (idx_main_v3 i) = _
  rw [val_main_v2_apply]
  unfold G
  refine Finset.sum_congr rfl fun l _ => ?_
  rw [mul_comm]
  congr 2 <;> (funext d; match d with | ⟨0, _⟩ => rfl | ⟨1, _⟩ => rfl)

local instance : Cert.Kernel5.Facts := Cert.Kernel5.Gen.facts
local instance : Cert.Kernel5Ideal.Facts := Cert.Kernel5Ideal.Gen.facts
local instance : Cert.Reference5Ideal.Facts := Cert.Reference5Ideal.Gen.facts

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two runs end with the same array. -/
theorem algebraic : Cert.algebraic_Kernel5Ideal_Reference5Ideal := by
  intro m ρ m' ρ' _ hm
  refine ⟨_, Cert.Kernel5Ideal.Value.run_blocks m ρ, (θ_run Cert.Reference5Ideal.defs _ _).mono (fun r h c => ?_) (Cert.Reference5Ideal.Value.run (F := Ideal) m' ρ')⟩
  obtain ⟨e0, e1⟩ := hm c
  refine ⟨(h c).1.trans ?_, (h c).2⟩
  rw [Cert.Reference5Ideal.Read.val_main_v4_eq, e0, e1]
  exact (ref _ _).trans (final m c).symm

end Cert.Mm5

end
-- ==== Proof.Mm6.lean ====
/- The gradient of the feed-forward unit's last weights: what the kernel writes, what the reference computes, and the claims about them. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm6

open Cert.Kernel6Ideal Cert.Kernel6Ideal.Gen

variable (m : (ℓ : Loc nD τ sig) → Buf (Elt Ideal) ℓ)

/-- The whole result: half of the transposed activations times the incoming gradient. -/
def G (x : FVec Ideal S4096x2816 .f32) (y : FVec Ideal S4096x1024 .f32) : FVec Ideal S2816x1024 .bf16 :=
  fun i => (∑ l : Fin 4096, x (ix2 l (i 0)) * y (ix2 l (i 1))) * ((1 / 2 : ℝ) : EReal)

/-- Which block of each array a grid point works on. -/
theorem idx : ∀ t : Fin cfg0.N, win0_0.index t = ![t.val % 4, t.val / 4] ∧ win0_1.index t = ![t.val % 4, 0] ∧ win0_2.index t = ![t.val / 4, 0] ∧ t.val / 4 < 2 :=
  (by decide +kernel : ∀ t : Fin grid0.N, _)

/-- The product of one block of each operand. -/
def part (a : Vec Ideal S1024x1408 .bf16) (b : Vec Ideal S1024x1024 .f32) (j : S1408x1024.Idx) : EReal :=
  ∑ k : Fin 1024, a (ix2 k (j 0)) * b (ix2 k (j 1))

theorem pay1 (j) : k0_pay1 (F := Ideal) j = 0 := by
  pointwise [k0_pay1]

theorem pay2 (acc : Vec Ideal S1408x1024 .f32) (a : Vec Ideal S1024x1408 .bf16) (b : Vec Ideal S1024x1024 .f32) (j) : k0_pay2 acc a b j = acc j + part a b j := by
  pointwise [k0_pay2, part]

theorem pay3 (acc : Vec Ideal S1408x1024 .f32) (j) : k0_pay3 acc j = acc j * ((1 / 2 : ℝ) : EReal) := by
  pointwise [k0_pay3, Cert.Real.half]

/-- At the last point of a stretch the accumulator is the sum of the stretch's block products. -/
theorem acc_eq (c : Dev nD) (t : Fin cfg0.N) (hr : t.val % 4 = 4 - 1) (j) : (outsAt0 m c t.val t.isLt).2 j
    = 0 + ∑ s : Fin 4, part (iblk m c 0 ⟨4 * (t.val / 4) + s.val, Pipeline.run_point_lt_of_flush t hr s⟩) (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t j => part (iblk m c 0 t) (iblk m c 1 t) j) ?_ ?_ t hr j
  · intro t h j
    rw [outsAt0_A m c t h (by omega)]; frame_out; rw [pay2, pay1]
  · intro t h j
    by_cases h1 : t.val % 4 = 3
    · rw [outsAt0_C m c t h h1]; frame_out; rw [pay2, read_unread_whole]
    · rw [outsAt0_B m c t h h1]; frame_out; rw [pay2, read_unread_whole]

/-- What that point writes back. -/
theorem out_eq (c : Dev nD) (t : Fin cfg0.N) (hr : t.val % 4 = 3) (j) : (outsAt0 m c t.val t.isLt).1 j = (outsAt0 m c t.val t.isLt).2 j * ((1 / 2 : ℝ) : EReal) := by
  rw [outsAt0_C m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine congrArg (· * ((1 / 2 : ℝ) : EReal)) ?_
  refine ((acc_eq m c t hr y).trans (zero_add _)).trans ?_
  refine Fin.sum_mul_add_congr (S := 4) (n := 1024) (fun s k hl => ?_)
  have h4 : 4 * (t.val / 4) + s.val < cfg0.N := Pipeline.run_point_lt_of_flush t hr s
  have e1 : (4 * (t.val / 4) + s.val) / 4 = t.val / 4 := by omega
  have e2 : (4 * (t.val / 4) + s.val) % 4 = s.val := by omega
  congr 1
  · blk_ext [iblk, V, idx ⟨4 * (t.val / 4) + s.val, h4⟩, idx t, e1, e2]
  · blk_ext [iblk, V, idx ⟨4 * (t.val / 4) + s.val, h4⟩, idx t, e1, e2]

open Cert.Reference6Ideal.Read in
/-- The reference computes the same function. -/
theorem ref (x : FVec Ideal S4096x2816 .f32) (y : FVec Ideal S4096x1024 .f32) : val_main_v8 (F := Ideal) x y = G x y := by
  funext i
  rw [val_main_v8_apply, val_main_v7_apply]
  show val_main_v6 (F := Ideal) x y (idx_main_v7 i) = _
  rw [val_main_v6_apply]
  unfold G
  rw [Cert.Mm.sum_mul_half]
  refine Finset.sum_congr rfl fun l _ => ?_
  rw [val_main_v5_apply, val_main_v4_apply]
  show (Ideal.ofBits .f32 0x3F000000#32 : EReal) * y _ * x _ = _
  rw [Cert.Real.half, mul_comm, mul_comm ((1 / 2 : ℝ) : EReal), ← mul_assoc]
  congr 3 <;> (funext d; match d with | ⟨0, _⟩ => rfl | ⟨1, _⟩ => rfl)

local instance : Cert.Kernel6.Facts := Cert.Kernel6.Gen.facts
local instance : Cert.Kernel6Ideal.Facts := Cert.Kernel6Ideal.Gen.facts
local instance : Cert.Reference6Ideal.Facts := Cert.Reference6Ideal.Gen.facts

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two runs end with the same array. -/
theorem algebraic : Cert.algebraic_Kernel6Ideal_Reference6Ideal := by
  intro m ρ m' ρ' _ hm
  refine ⟨_, Cert.Kernel6Ideal.Value.run_blocks m ρ, (θ_run Cert.Reference6Ideal.defs _ _).mono (fun r h c => ?_) (Cert.Reference6Ideal.Value.run (F := Ideal) m' ρ')⟩
  obtain ⟨e0, e1⟩ := hm c
  refine ⟨(h c).1.trans ?_, (h c).2⟩
  rw [Cert.Reference6Ideal.Read.val_main_v8_eq, e0, e1]
  exact (ref _ _).trans (final m c).symm

end Cert.Mm6

end
-- ==== Proof.Mm7.lean ====
/- The gradient of the feed-forward unit's input through its gate: what the kernel writes, what the reference computes, and the claims about them. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm7

open Cert.Kernel7Ideal Cert.Kernel7Ideal.Gen

variable (m : (ℓ : Loc nD τ sig) → Buf (Elt Ideal) ℓ)

/-- The whole result: the gate's gradient times the transposed first half of the weights. -/
def G (x : FVec Ideal S4096x2816 .f32) (y : FVec Ideal S1024x5632 .f32) : FVec Ideal S4096x1024 .f32 :=
  fun i => ∑ l : Fin 2816, x (ix2 (i 0) l) * y (ix2 (i 1) (⟨l.val, by omega⟩ : Fin 5632))

/-- Which block of each array a grid point works on. -/
theorem idx : ∀ t : Fin cfg0.N, win0_0.index t = ![t.val / 2, t.val % 2] ∧ win0_1.index t = ![0, t.val % 2] ∧ win0_2.index t = ![t.val / 2, 0] ∧ t.val / 2 < 4 :=
  (by decide +kernel : ∀ t : Fin grid0.N, _)

/-- The product of one block of each operand. -/
def part (a : Vec Ideal S1024x1408 .bf16) (b : Vec Ideal S1024x1408 .bf16) (j : S1024x1024.Idx) : EReal :=
  ∑ k : Fin 1408, a (ix2 (j 0) k) * b (ix2 (j 1) k)

theorem pay1 (j) : k0_pay1 (F := Ideal) j = 0 := by
  pointwise [k0_pay1]

theorem pay2 (acc : Vec Ideal S1024x1024 .f32) (a : Vec Ideal S1024x1408 .bf16) (b : Vec Ideal S1024x1408 .bf16) (j) : k0_pay2 acc a b j = acc j + part a b j := by
  pointwise [k0_pay2, part]

theorem pay3 (acc : Vec Ideal S1024x1024 .f32) (j) : k0_pay3 acc j = acc j := by
  pointwise [k0_pay3]

/-- At the last point of a stretch the accumulator is the sum of the stretch's block products. -/
theorem acc_eq (c : Dev nD) (t : Fin cfg0.N) (hr : t.val % 2 = 2 - 1) (j) : (outsAt0 m c t.val t.isLt).2 j
    = 0 + ∑ s : Fin 2, part (iblk m c 0 ⟨2 * (t.val / 2) + s.val, Pipeline.run_point_lt_of_flush t hr s⟩) (iblk m c 1 ⟨2 * (t.val / 2) + s.val, Pipeline.run_point_lt_of_flush t hr s⟩) j := by
  refine Pipeline.eq_sum_fin_of_reset_step_apply_of_flush (fun n h => (outsAt0 m c n h).2) 2 (fun _ => 0)
    (fun t j => part (iblk m c 0 t) (iblk m c 1 t) j) ?_ ?_ t hr j
  · intro t h j
    rw [outsAt0_A m c t h (by omega)]; frame_out; rw [pay2, pay1]
  · intro t h j
    rw [outsAt0_B m c t h (by omega)]; frame_out; rw [pay2, read_unread_whole]

/-- What that point writes back. -/
theorem out_eq (c : Dev nD) (t : Fin cfg0.N) (hr : t.val % 2 = 1) (j) : (outsAt0 m c t.val t.isLt).1 j = (outsAt0 m c t.val t.isLt).2 j := by
  rw [outsAt0_B m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 2) (n := 1408) (fun s k hl => ?_)
  have h4 : 2 * (t.val / 2) + s.val < cfg0.N := Pipeline.run_point_lt_of_flush t hr s
  have e1 : (2 * (t.val / 2) + s.val) / 2 = t.val / 2 := by omega
  have e2 : (2 * (t.val / 2) + s.val) % 2 = s.val := by omega
  congr 1
  · blk_ext [iblk, V, idx ⟨2 * (t.val / 2) + s.val, h4⟩, idx t, e1, e2]
  · blk_ext [iblk, V, idx ⟨2 * (t.val / 2) + s.val, h4⟩, idx t, e1, e2]

open Cert.Reference7Ideal.Read in
/-- The reference computes the same function. -/
theorem ref (x : FVec Ideal S4096x2816 .f32) (y : FVec Ideal S1024x5632 .f32) : val_main_v6 (F := Ideal) x y = G x y := by
  funext i
  have first (l : Fin 2816) : val_main_v5 (F := Ideal) x (lidx_main_v6 i (Fin.castAdd 2816 l)) = x (ix2 (i 0) l) := by
    unfold val_main_v5
    exact concatenate_pair_apply_left (t := Cert.Reference7Ideal.S4096x5632) (s₁ := S4096x2816) (s₂ := S4096x2816) 1 _ _ _ _ rfl (ix2 (i 0) l : S4096x2816.Idx) (fun b => by match b with | ⟨0, _⟩ => rfl | ⟨1, _⟩ => rfl)
  have second (l : Fin 2816) : val_main_v5 (F := Ideal) x (lidx_main_v6 i (Fin.natAdd 2816 l)) = val_main_v4 (F := Ideal) (ix2 (i 0) l) := by
    unfold val_main_v5
    exact concatenate_pair_apply_right (t := Cert.Reference7Ideal.S4096x5632) (s₁ := S4096x2816) (s₂ := S4096x2816) 1 _ _ _ _ rfl rfl (ix2 (i 0) l : S4096x2816.Idx) (fun b hb => by match b with | ⟨0, _⟩ => rfl | ⟨1, _⟩ => exact absurd rfl hb) (Nat.add_comm l.val 2816)
  rw [val_main_v6_apply]
  unfold G
  refine (Cert.Mm.sum_left (n := 2816) (p := 2816) (fun l => val_main_v5 (F := Ideal) x (lidx_main_v6 i l)) (fun l => y (ridx_main_v6 i l)) (fun l => ?_)).trans (Finset.sum_congr rfl fun l _ => ?_)
  · exact (second l).trans (by rw [val_main_v4_apply]; exact Cert.Real.zero)
  · rw [first l]
    refine congrArg (x (ix2 (i 0) l) * ·) (congrArg y ?_)
    funext d; match d with | ⟨0, _⟩ => rfl | ⟨1, _⟩ => rfl

local instance : Cert.Kernel7.Facts := Cert.Kernel7.Gen.facts
local instance : Cert.Kernel7Ideal.Facts := Cert.Kernel7Ideal.Gen.facts
local instance : Cert.Reference7Ideal.Facts := Cert.Reference7Ideal.Gen.facts

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The two runs end with the same array. -/
theorem algebraic : Cert.algebraic_Kernel7Ideal_Reference7Ideal := by
  intro m ρ m' ρ' _ hm
  refine ⟨_, Cert.Kernel7Ideal.Value.run_blocks m ρ, (θ_run Cert.Reference7Ideal.defs _ _).mono (fun r h c => ?_) (Cert.Reference7Ideal.Value.run (F := Ideal) m' ρ')⟩
  obtain ⟨e0, e1⟩ := hm c
  refine ⟨(h c).1.trans ?_, (h c).2⟩
  rw [Cert.Reference7Ideal.Read.val_main_v6_eq, e0, e1]
  exact (ref _ _).trans (final m c).symm

end Cert.Mm7

end
-- ==== Proof.Mm8.lean ====
/- The gradient of the feed-forward unit's input through both halves: what the kernel writes, what the reference computes, and the claims about them. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm8

open Cert.Kernel8Ideal Cert.Kernel8Ideal.Gen

variable (m : (ℓ : Loc nD τ sig) → Buf (Elt Ideal) ℓ)

/-- The whole result: the other half's gradient times the transposed second half of the weights, added to what the gate gave. -/
def G (x : FVec Ideal S4096x2816 .f32) (y : FVec Ideal S1024x5632 .f32) (z : FVec Ideal S4096x1024 .f32) : FVec Ideal S4096x1024 .f32 :=
  fun i => (∑ l : Fin 2816, x (ix2 (i 0) l) * y (ix2 (i 1) (⟨l.val + 2816, by omega⟩ : Fin 5632))) + z i

/-- Which block of each array a grid point works on. -/
theorem idx : ∀ t : Fin cfg0.N, win0_0.index t = ![t.val / 2, t.val % 2] ∧ win0_1.index t = ![0, t.val % 2 + 2] ∧ win0_2.index t = ![t.val / 2, 0] ∧ win0_3.index t = ![t.val / 2, 0] ∧ t.val / 2 < 4 :=
  (by decide +kernel : ∀ t : Fin grid0.N, _)

/-- The product of one block of each operand. -/
def part (a : Vec Ideal S1024x1408 .bf16) (b : Vec Ideal S1024x1408 .bf16) (j : S1024x1024.Idx) : EReal :=
  ∑ k : Fin 1408, a (ix2 (j 0) k) * b (ix2 (j 1) k)

theorem pay1 (j) : k0_pay1 (F := Ideal) j = 0 := by
  pointwise [k0_pay1]

theorem pay2 (acc : Vec Ideal S1024x1024 .f32) (a : Vec Ideal S1024x1408 .bf16) (b : Vec Ideal S1024x1408 .bf16) (j) : k0_pay2 acc a b j = acc j + part a b j := by
  pointwise [k0_pay2, part]

theorem pay3 (acc : Vec Ideal S1024x1024 .f32) (z : Vec Ideal S1024x1024 .f32) (j) : k0_pay3 acc z j = acc j + z j := by
  pointwise [k0_pay3]

/-- At the last point of a stretch the accumulator is the sum of the stretch's block products. -/
theorem acc_eq (c : Dev nD) (t : Fin cfg0.N) (hr : t.val % 2 = 2 - 1) (j) : (outsAt0 m c t.val t.isLt).2 j
    = 0 + ∑ s : Fin 2, part (iblk m c 0 ⟨2 * (t.val / 2) + s.val, Pipeline.run_point_lt_of_flush t hr s⟩) (iblk m c 1 ⟨2 * (t.val / 2) + s.val, Pipeline.run_point_lt_of_flush t hr s⟩) j := by
  refine Pipeline.eq_sum_fin_of_reset_step_apply_of_flush (fun n h => (outsAt0 m c n h).2) 2 (fun _ => 0)
    (fun t j => part (iblk m c 0 t) (iblk m c 1 t) j) ?_ ?_ t hr j
  · intro t h j
    rw [outsAt0_A m c t h (by omega)]; frame_out; rw [pay2, pay1]
  · intro t h j
    rw [outsAt0_B m c t h (by omega)]; frame_out; rw [pay2, read_unread_whole]

/-- What that point writes back. -/
theorem out_eq (c : Dev nD) (t : Fin cfg0.N) (hr : t.val % 2 = 1) (j) : (outsAt0 m c t.val t.isLt).1 j = (outsAt0 m c t.val t.isLt).2 j + iblk m c 2 t j := by
  rw [outsAt0_B m c t (by omega) hr]; frame_out; rw [pay3]

/-- The result array after the run. -/
theorem final (c : Dev nD) : (dats m 0 c).arrAt 3 (cfgs 0).N = G (m (c.tc.loc main_arg0)) (m (c.tc.loc main_arg1)) (m (c.tc.loc main_arg2)) := by
  refine (dats m 0 c).arrAt_eq_of_covers 3 _ (by decide +kernel) fun t hf y => ?_
  have hr := (flush0_3 t).mp hf
  blk_simp
  rw [after0_3]
  refine (out_eq m c t hr y).trans ?_
  show _ = G _ _ _ _
  unfold G
  refine congrArg₂ (· + ·) ?_ (by blk_ext [iblk, V, idx t])
  refine ((acc_eq m c t hr y).trans (zero_add _)).trans ?_
  refine Fin.sum_mul_add_congr (S := 2) (n := 1408) (fun s k hl => ?_)
  have h4 : 2 * (t.val / 2) + s.val < cfg0.N := Pipeline.run_point_lt_of_flush t hr s
  have e1 : (2 * (t.val / 2) + s.val) / 2 = t.val / 2 := by omega
  have e2 : (2 * (t.val / 2) + s.val) % 2 = s.val := by omega
  congr 1
  · blk_ext [iblk, V, idx ⟨2 * (t.val / 2) + s.val, h4⟩, idx t, e1, e2]
  · blk_ext [iblk, V, idx ⟨2 * (t.val / 2) + s.val, h4⟩, idx t, e1, e2]

open Cert.Reference8Ideal.Read in
/-- The reference computes the same function. -/
theorem ref (x : FVec Ideal S4096x2816 .f32) (y : FVec Ideal S1024x5632 .f32) (z : FVec Ideal S4096x1024 .f32) : val_main_v7 (F := Ideal) x y z = G x y z := by
  funext i
  have first (l : Fin 2816) : val_main_v5 (F := Ideal) x (lidx_main_v6 i (Fin.castAdd 2816 l)) = val_main_v4 (F := Ideal) (ix2 (i 0) l) := by
    unfold val_main_v5
    exact concatenate_pair_apply_left (t := Cert.Reference8Ideal.S4096x5632) (s₁ := S4096x2816) (s₂ := S4096x2816) 1 _ _ _ _ rfl (ix2 (i 0) l : S4096x2816.Idx) (fun b => by match b with | ⟨0, _⟩ => rfl | ⟨1, _⟩ => rfl)
  have second (l : Fin 2816) : val_main_v5 (F := Ideal) x (lidx_main_v6 i (Fin.natAdd 2816 l)) = x (ix2 (i 0) l) := by
    unfold val_main_v5
    exact concatenate_pair_apply_right (t := Cert.Reference8Ideal.S4096x5632) (s₁ := S4096x2816) (s₂ := S4096x2816) 1 _ _ _ _ rfl rfl (ix2 (i 0) l : S4096x2816.Idx) (fun b hb => by match b with | ⟨0, _⟩ => rfl | ⟨1, _⟩ => exact absurd rfl hb) (Nat.add_comm l.val 2816)
  rw [val_main_v7_apply, val_main_v6_apply]
  unfold G
  refine (add_comm (z i) _).trans (congrArg (· + z i) ?_)
  refine (Cert.Mm.sum_right (n := 2816) (p := 2816) (fun l => val_main_v5 (F := Ideal) x (lidx_main_v6 i l)) (fun l => y (ridx_main_v6 i l)) (fun l => ?_)).trans (Finset.sum_congr rfl fun l _ => ?_)
  · exact (first l).trans (by rw [val_main_v4_apply]; exact Cert.Real.zero)
  · rw [second l]
    refine congrArg (x (ix2 (i 0) l) * ·) (congrArg y ?_)
    funext d; match d with | ⟨0, _⟩ => rfl | ⟨1, _⟩ => exact Fin.ext (Nat.add_comm _ _)

local instance : Cert.Kernel8.Facts := Cert.Kernel8.Gen.facts
local instance : Cert.Kernel8Ideal.Facts := Cert.Kernel8Ideal.Gen.facts
local instance : Cert.Reference8Ideal.Facts := Cert.Reference8Ideal.Gen.facts

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The two runs end with the same array. -/
theorem algebraic : Cert.algebraic_Kernel8Ideal_Reference8Ideal := by
  intro m ρ m' ρ' _ hm
  refine ⟨_, Cert.Kernel8Ideal.Value.run_blocks m ρ, (θ_run Cert.Reference8Ideal.defs _ _).mono (fun r h c => ?_) (Cert.Reference8Ideal.Value.run (F := Ideal) m' ρ')⟩
  obtain ⟨e0, e1, e2⟩ := hm c
  refine ⟨(h c).1.trans ?_, (h c).2⟩
  rw [Cert.Reference8Ideal.Read.val_main_v7_eq, e0, e1, e2]
  exact (ref _ _ _).trans (final m c).symm

end Cert.Mm8

end
-- ==== Proof.Mm9.lean ====
/- The joined input projection: what the kernel writes, what the reference computes, and the claims about them. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm9

open Cert.Kernel9Ideal Cert.Kernel9Ideal.Gen

variable (m : (ℓ : Loc nD τ sig) → Buf (Elt Ideal) ℓ)

/-- The whole result: the activations times the weights. -/
def G (x : FVec Ideal S4096x1024 .f32) (y : FVec Ideal S1024x8960 .f32) : FVec Ideal S4096x8960 .bf16 :=
  fun i => ∑ l : Fin 1024, x (ix2 (i 0) l) * y (ix2 l (i 1))

/-- Which block of each array a grid point works on. -/
theorem idx : ∀ t : Fin cfg0.N, win0_0.index t = ![t.val / 7, 0] ∧ win0_1.index t = ![0, t.val % 7] ∧ win0_2.index t = ![t.val / 7, t.val % 7] ∧ t.val / 7 < 4 ∧ t.val % 7 < 7 :=
  (by decide +kernel : ∀ t : Fin grid0.N, _)

/-- The product of one block of each operand. -/
def part (a : Vec Ideal S1024x1024 .bf16) (b : Vec Ideal S1024x1280 .bf16) (j : S1024x1280.Idx) : EReal :=
  ∑ k : Fin 1024, a (ix2 (j 0) k) * b (ix2 k (j 1))

theorem pay1 (j) : k0_pay1 (F := Ideal) j = 0 := by
  pointwise [k0_pay1]

theorem pay2 (acc : Vec Ideal S1024x1280 .f32) (a : Vec Ideal S1024x1024 .bf16) (b : Vec Ideal S1024x1280 .bf16) (j) : k0_pay2 acc a b j = acc j + part a b j := by
  pointwise [k0_pay2, part]

theorem pay3 (acc : Vec Ideal S1024x1280 .f32) (j) : k0_pay3 acc j = acc j := by
  pointwise [k0_pay3]

/-- What a grid point writes back. -/
theorem out_eq (c : Dev nD) (t : Fin cfg0.N) (j) : outsAt0 m c t j = part (iblk m c 0 t) (iblk m c 1 t) j := by
  unfold outsAt0
  frame_out; rw [pay3, pay2, pay1, zero_add]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  blk_simp
  rw [after0_2]
  refine (out_eq m c t y).trans ?_
  show _ = G _ _ _
  unfold G
  unfold part
  refine Finset.sum_congr rfl fun l _ => ?_
  congr 1
  · blk_ext [iblk, V, idx t]
  · blk_ext [iblk, V, idx t]

open Cert.Reference9Ideal.Read in
/-- The reference computes the same function. -/
theorem ref (x : FVec Ideal S4096x1024 .f32) (y : FVec Ideal S1024x8960 .f32) : val_main_v1 (F := Ideal) x y = G x y := by
  funext i
  rw [val_main_v1_apply]
  show val_main_v0 (F := Ideal) x y i = _
  rw [val_main_v0_apply]
  unfold G
  refine Finset.sum_congr rfl fun l _ => ?_
  congr 2 <;> (funext d; match d with | ⟨0, _⟩ => rfl | ⟨1, _⟩ => rfl)

local instance : Cert.Kernel9.Facts := Cert.Kernel9.Gen.facts
local instance : Cert.Kernel9Ideal.Facts := Cert.Kernel9Ideal.Gen.facts
local instance : Cert.Reference9Ideal.Facts := Cert.Reference9Ideal.Gen.facts

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The two runs end with the same array. -/
theorem algebraic : Cert.algebraic_Kernel9Ideal_Reference9Ideal := by
  intro m ρ m' ρ' _ hm
  refine ⟨_, Cert.Kernel9Ideal.Value.run_blocks m ρ, (θ_run Cert.Reference9Ideal.defs _ _).mono (fun r h c => ?_) (Cert.Reference9Ideal.Value.run (F := Ideal) m' ρ')⟩
  obtain ⟨e0, e1⟩ := hm c
  refine ⟨(h c).1.trans ?_, (h c).2⟩
  rw [Cert.Reference9Ideal.Read.val_main_v1_eq, e0, e1]
  exact (ref _ _).trans (final m c).symm

end Cert.Mm9

end
-- ==== Proof.Mm10.lean ====
/- The feed-forward unit's first products and its gate: what the kernel writes, what the reference computes, and the claims about them. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm10

open Cert.Kernel10Ideal Cert.Kernel10Ideal.Gen

variable (m : (ℓ : Loc nD τ sig) → Buf (Elt Ideal) ℓ)

/-- The gate: the input times the first half of the weights' columns. -/
def Gate (x : FVec Ideal S4096x1024 .f32) (y : FVec Ideal S1024x5632 .f32) : FVec Ideal S4096x2816 .bf16 :=
  fun i => ∑ l : Fin 1024, x (ix2 (i 0) l) * y (ix2 l (⟨(i 1).val, Nat.lt_trans (i 1).isLt (by decide)⟩ : Fin 5632))

/-- The input times the second half of the weights' columns. -/
def Up (x : FVec Ideal S4096x1024 .f32) (y : FVec Ideal S1024x5632 .f32) : FVec Ideal S4096x2816 .bf16 :=
  fun i => ∑ l : Fin 1024, x (ix2 (i 0) l) * y (ix2 l (⟨(i 1).val + 2816, Nat.add_lt_add_right (i 1).isLt 2816⟩ : Fin 5632))

/-- The logistic function, as the kernel spells it. -/
def sg (g : EReal) : EReal := Ideal.div 1 (1 + Ideal.exp (0 - g))

/-- The gated product. -/
def Act (x : FVec Ideal S4096x1024 .f32) (y : FVec Ideal S1024x5632 .f32) : FVec Ideal S4096x2816 .bf16 :=
  fun i => Gate x y i * sg (Gate x y i) * Up x y i

/-- Which block of each array a grid point works on. -/
theorem idx : ∀ t : Fin cfg0.N, win0_0.index t = ![t.val % 8, 0] ∧ win0_1.index t = ![0, t.val / 8] ∧ win0_2.index t = ![0, t.val / 8 + 2]
    ∧ win0_3.index t = ![t.val % 8, t.val / 8] ∧ win0_4.index t = ![t.val % 8, t.val / 8] ∧ win0_5.index t = ![t.val % 8, t.val / 8] ∧ t.val / 8 < 2 :=
  (by decide +kernel : ∀ t : Fin grid0.N, _)

/-- The product of one block of each operand. -/
def part (a : Vec Ideal S512x1024 .bf16) (b : Vec Ideal S1024x1408 .bf16) (j : S512x1408.Idx) : EReal :=
  ∑ k : Fin 1024, a (ix2 (j 0) k) * b (ix2 k (j 1))

theorem pay2 (a : Vec Ideal S512x1024 .bf16) (b : Vec Ideal S1024x1408 .bf16) (j) : k0_pay2 a b j = part a b j := by
  pointwise [k0_pay2, k0_pay1, part]

theorem pay3 (a : Vec Ideal S512x1024 .bf16) (b : Vec Ideal S1024x1408 .bf16) (j) : k0_pay3 a b j = part a b j := by
  pointwise [k0_pay3, k0_pay1, part]

theorem pay4 (a : Vec Ideal S512x1024 .bf16) (b : Vec Ideal S1024x1408 .bf16) (j) : k0_pay4 a b j = part a b j := pay2 a b j

theorem pay5 (a : Vec Ideal S512x1024 .bf16) (b : Vec Ideal S1024x1408 .bf16) (j) : k0_pay5 a b j = part a b j := pay3 a b j

theorem pay6 (a : Vec Ideal S512x1024 .bf16) (b d : Vec Ideal S1024x1408 .bf16) (j) : k0_pay6 a b d j = part a b j * sg (part a b j) * part a d j := by
  unfold k0_pay6
  show k0_pay2 a b j * Ideal.div (Ideal.ofBits .f32 0x3F800000#32) (Ideal.ofBits .f32 0x3F800000#32 + Ideal.exp (Ideal.ofBits .f32 0x00000000#32 - k0_pay2 a b j)) * k0_pay3 a d j = _
  rw [pay2, pay3, Cert.Real.one, Cert.Real.zero]
  rfl

/-- The block of the gate that a grid point computes. -/
theorem gate_block (c : Dev nD) (t : Fin cfg0.N) (y) : part (iblk m c 0 t) (iblk m c 1 t) y
    = Gate (m (c.tc.loc main_arg0)) (m (c.tc.loc main_arg1)) (((cfg0.win 3).blk t).view.emb y) := by
  unfold part Gate
  refine Finset.sum_congr rfl fun l _ => ?_
  congr 1
  · blk_ext [iblk, V, idx t]
  · blk_ext [iblk, V, idx t]

/-- The block of the other product that a grid point computes. -/
theorem up_block (c : Dev nD) (t : Fin cfg0.N) (y) : part (iblk m c 0 t) (iblk m c 2 t) y
    = Up (m (c.tc.loc main_arg0)) (m (c.tc.loc main_arg1)) (((cfg0.win 3).blk t).view.emb y) := by
  unfold part Up
  refine Finset.sum_congr rfl fun l _ => ?_
  congr 1
  · blk_ext [iblk, V, idx t]
  · blk_ext [iblk, V, idx t]

theorem final3 (c : Dev nD) : (dats m 0 c).arrAt 3 (cfgs 0).N = Gate (m (c.tc.loc main_arg0)) (m (c.tc.loc main_arg1)) := by
  refine (dats m 0 c).arrAt_eq_of_covers 3 _ (by decide +kernel) fun t hf y => ?_
  blk_simp
  rw [after0_3]; frame_out
  rw [pay4]
  exact gate_block m c t y

theorem final4 (c : Dev nD) : (dats m 0 c).arrAt 4 (cfgs 0).N = Up (m (c.tc.loc main_arg0)) (m (c.tc.loc main_arg1)) := by
  refine (dats m 0 c).arrAt_eq_of_covers 4 _ (by decide +kernel) fun t hf y => ?_
  blk_simp
  rw [after0_4]; frame_out
  rw [pay5]
  exact up_block m c t y

theorem final5 (c : Dev nD) : (dats m 0 c).arrAt 5 (cfgs 0).N = Act (m (c.tc.loc main_arg0)) (m (c.tc.loc main_arg1)) := by
  refine (dats m 0 c).arrAt_eq_of_covers 5 _ (by decide +kernel) fun t hf y => ?_
  blk_simp
  rw [after0_5]; frame_out
  rw [pay6, gate_block, up_block]
  rfl

open Cert.Reference10Ideal.Read in
/-- The reference's first half. -/
theorem ref_gate (x : FVec Ideal S4096x1024 .f32) (y : FVec Ideal S1024x5632 .f32) : val_main_v1 (F := Ideal) x y = Gate x y := by
  funext i
  rw [val_main_v1_apply, val_main_v0_apply]
  unfold Gate
  refine Finset.sum_congr rfl fun l _ => ?_
  congr 2 <;> (funext d; match d with | ⟨0, _⟩ => rfl | ⟨1, _⟩ => rfl)

open Cert.Reference10Ideal.Read in
/-- The reference's second half. -/
theorem ref_up (x : FVec Ideal S4096x1024 .f32) (y : FVec Ideal S1024x5632 .f32) : val_main_v2 (F := Ideal) x y = Up x y := by
  funext i
  rw [val_main_v2_apply, val_main_v0_apply]
  unfold Up
  refine Finset.sum_congr rfl fun l _ => ?_
  congr 2 <;> (funext d; match d with | ⟨0, _⟩ => rfl | ⟨1, _⟩ => first | rfl | exact Fin.ext (Nat.add_comm _ _))

open Cert.Reference10Ideal.Read in
/-- The reference's gated product. -/
theorem ref_act (x : FVec Ideal S4096x1024 .f32) (y : FVec Ideal S1024x5632 .f32) : val_main_v7 (F := Ideal) x y = Act x y := by
  funext i
  show val_main_v1 (F := Ideal) x y i * Ideal.div (Ideal.ofBits .f32 0x3F800000#32) (Ideal.ofBits .f32 0x3F800000#32 + Ideal.exp (-(val_main_v1 (F := Ideal) x y i))) * val_main_v2 (F := Ideal) x y i = _
  rw [ref_gate, ref_up, Cert.Real.one, ← zero_sub]
  rfl

local instance : Cert.Kernel10.Facts := Cert.Kernel10.Gen.facts
local instance : Cert.Kernel10Ideal.Facts := Cert.Kernel10Ideal.Gen.facts
local instance : Cert.Reference10Ideal.Facts := Cert.Reference10Ideal.Gen.facts

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The two runs end with the same three arrays. -/
theorem algebraic : Cert.algebraic_Kernel10Ideal_Reference10Ideal := by
  intro m ρ m' ρ' _ hm
  refine ⟨_, _, _, Cert.Kernel10Ideal.Value.run_blocks m ρ, (θ_run Cert.Reference10Ideal.defs _ _).mono (fun r h c => ?_) (Cert.Reference10Ideal.Value.run (F := Ideal) m' ρ')⟩
  obtain ⟨e0, e1⟩ := hm c
  refine ⟨(h c).1.trans ?_, (h c).2.1.trans ?_, (h c).2.2.1.trans ?_, (h c).2.2.2⟩
  · rw [Cert.Reference10Ideal.Read.val_main_v3_eq, e0, e1]
    exact (ref_gate _ _).trans (final3 m c).symm
  · rw [Cert.Reference10Ideal.Read.val_main_v4_eq, e0, e1]
    exact (ref_up _ _).trans (final4 m c).symm
  · rw [Cert.Reference10Ideal.Read.val_main_v7_eq, e0, e1]
    exact (ref_act _ _).trans (final5 m c).symm

end Cert.Mm10

end
-- ==== Proof.Mm11.lean ====
/- The feed-forward unit's last product: what the kernel writes, what the reference computes, and the claims about them. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm11

open Cert.Kernel11Ideal Cert.Kernel11Ideal.Gen

variable (m : (ℓ : Loc nD τ sig) → Buf (Elt Ideal) ℓ)

/-- The whole result: half of the activations times the weights, added to the residual. -/
def G (x : FVec Ideal S4096x2816 .f32) (y : FVec Ideal S2816x1024 .f32) (z : FVec Ideal S4096x1024 .f32) : FVec Ideal S4096x1024 .f32 :=
  fun i => ((∑ l : Fin 2816, x (ix2 (i 0) l) * y (ix2 l (i 1))) * ((1 / 2 : ℝ) : EReal)) + z i

/-- Which block of each array a grid point works on. -/
theorem idx : ∀ t : Fin cfg0.N, win0_0.index t = ![t.val / 2, t.val % 2] ∧ win0_1.index t = ![t.val % 2, 0] ∧ win0_2.index t = ![t.val / 2, 0] ∧ win0_3.index t = ![t.val / 2, 0] ∧ t.val / 2 < 4 :=
  (by decide +kernel : ∀ t : Fin grid0.N, _)

/-- The product of one block of each operand. -/
def part (a : Vec Ideal S1024x1408 .bf16) (b : Vec Ideal S1408x1024 .bf16) (j : S1024x1024.Idx) : EReal :=
  ∑ k : Fin 1408, a (ix2 (j 0) k) * b (ix2 k (j 1))

theorem pay1 (j) : k0_pay1 (F := Ideal) j = 0 := by
  pointwise [k0_pay1]

theorem pay2 (acc : Vec Ideal S1024x1024 .f32) (a : Vec Ideal S1024x1408 .bf16) (b : Vec Ideal S1408x1024 .bf16) (j) : k0_pay2 acc a b j = acc j + part a b j := by
  pointwise [k0_pay2, part]

theorem pay3 (acc : Vec Ideal S1024x1024 .f32) (z : Vec Ideal S1024x1024 .f32) (j) : k0_pay3 acc z j = acc j * ((1 / 2 : ℝ) : EReal) + z j := by
  pointwise [k0_pay3, Cert.Real.half]

/-- At the last point of a stretch the accumulator is the sum of the stretch's block products. -/
theorem acc_eq (c : Dev nD) (t : Fin cfg0.N) (hr : t.val % 2 = 2 - 1) (j) : (outsAt0 m c t.val t.isLt).2 j
    = 0 + ∑ s : Fin 2, part (iblk m c 0 ⟨2 * (t.val / 2) + s.val, Pipeline.run_point_lt_of_flush t hr s⟩) (iblk m c 1 ⟨2 * (t.val / 2) + s.val, Pipeline.run_point_lt_of_flush t hr s⟩) j := by
  refine Pipeline.eq_sum_fin_of_reset_step_apply_of_flush (fun n h => (outsAt0 m c n h).2) 2 (fun _ => 0)
    (fun t j => part (iblk m c 0 t) (iblk m c 1 t) j) ?_ ?_ t hr j
  · intro t h j
    rw [outsAt0_A m c t h (by omega)]; frame_out; rw [pay2, pay1]
  · intro t h j
    rw [outsAt0_B m c t h (by omega)]; frame_out; rw [pay2, read_unread_whole]

/-- What that point writes back. -/
theorem out_eq (c : Dev nD) (t : Fin cfg0.N) (hr : t.val % 2 = 1) (j) : (outsAt0 m c t.val t.isLt).1 j = (outsAt0 m c t.val t.isLt).2 j * ((1 / 2 : ℝ) : EReal) + iblk m c 2 t j := by
  rw [outsAt0_B m c t (by omega) hr]; frame_out; rw [pay3]

/-- The result array after the run. -/
theorem final (c : Dev nD) : (dats m 0 c).arrAt 3 (cfgs 0).N = G (m (c.tc.loc main_arg0)) (m (c.tc.loc main_arg1)) (m (c.tc.loc main_arg2)) := by
  refine (dats m 0 c).arrAt_eq_of_covers 3 _ (by decide +kernel) fun t hf y => ?_
  have hr := (flush0_3 t).mp hf
  blk_simp
  rw [after0_3]
  refine (out_eq m c t hr y).trans ?_
  show _ = G _ _ _ _
  unfold G
  refine congrArg₂ (· + ·) ?_ (by blk_ext [iblk, V, idx t])
  refine congrArg (· * ((1 / 2 : ℝ) : EReal)) ?_
  refine ((acc_eq m c t hr y).trans (zero_add _)).trans ?_
  refine Fin.sum_mul_add_congr (S := 2) (n := 1408) (fun s k hl => ?_)
  have h4 : 2 * (t.val / 2) + s.val < cfg0.N := Pipeline.run_point_lt_of_flush t hr s
  have e1 : (2 * (t.val / 2) + s.val) / 2 = t.val / 2 := by omega
  have e2 : (2 * (t.val / 2) + s.val) % 2 = s.val := by omega
  congr 1
  · blk_ext [iblk, V, idx ⟨2 * (t.val / 2) + s.val, h4⟩, idx t, e1, e2]
  · blk_ext [iblk, V, idx ⟨2 * (t.val / 2) + s.val, h4⟩, idx t, e1, e2]

open Cert.Reference11Ideal.Read in
/-- The reference computes the same function. -/
theorem ref (x : FVec Ideal S4096x2816 .f32) (y : FVec Ideal S2816x1024 .f32) (z : FVec Ideal S4096x1024 .f32) : val_main_v3 (F := Ideal) x y z = G x y z := by
  funext i
  rw [val_main_v3_apply, val_main_v2_apply, val_main_v1_apply, val_main_v0_apply]
  show z i + (Ideal.ofBits .f32 0x3F000000#32 : EReal) * _ = _
  rw [Cert.Real.half, add_comm, mul_comm]
  unfold G
  refine congrArg (· + z i) (congrArg (· * ((1 / 2 : ℝ) : EReal)) (Finset.sum_congr rfl fun l _ => ?_))
  congr 2 <;> (funext d; match d with | ⟨0, _⟩ => rfl | ⟨1, _⟩ => rfl)

local instance : Cert.Kernel11.Facts := Cert.Kernel11.Gen.facts
local instance : Cert.Kernel11Ideal.Facts := Cert.Kernel11Ideal.Gen.facts
local instance : Cert.Reference11Ideal.Facts := Cert.Reference11Ideal.Gen.facts

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The two runs end with the same array. -/
theorem algebraic : Cert.algebraic_Kernel11Ideal_Reference11Ideal := by
  intro m ρ m' ρ' _ hm
  refine ⟨_, Cert.Kernel11Ideal.Value.run_blocks m ρ, (θ_run Cert.Reference11Ideal.defs _ _).mono (fun r h c => ?_) (Cert.Reference11Ideal.Value.run (F := Ideal) m' ρ')⟩
  obtain ⟨e0, e1, e2⟩ := hm c
  refine ⟨(h c).1.trans ?_, (h c).2⟩
  rw [Cert.Reference11Ideal.Read.val_main_v3_eq, e0, e1, e2]
  exact (ref _ _ _).trans (final m c).symm

end Cert.Mm11

end
-- ==== Proof.Mm12.lean ====
/- The gradient of a square projection's weights: what the kernel writes, what the reference computes, and the claims about them. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm12

open Cert.Kernel12Ideal Cert.Kernel12Ideal.Gen

variable (m : (ℓ : Loc nD τ sig) → Buf (Elt Ideal) ℓ)

/-- The whole result: the transposed activations times the incoming gradient. -/
def G (x : FVec Ideal S4096x1024 .f32) (y : FVec Ideal S4096x1024 .f32) : FVec Ideal S1024x1024 .bf16 :=
  fun i => ∑ l : Fin 4096, x (ix2 l (i 0)) * y (ix2 l (i 1))

/-- Which block of each array a grid point works on. -/
theorem idx : ∀ t : Fin cfg0.N, win0_0.index t = ![t.val % 4, 0] ∧ win0_1.index t = ![t.val % 4, 0] ∧ win0_2.index t = ![0, 0] :=
  (by decide +kernel : ∀ t : Fin grid0.N, _)

/-- The product of one block of each operand. -/
def part (a : Vec Ideal S1024x1024 .bf16) (b : Vec Ideal S1024x1024 .bf16) (j : S1024x1024.Idx) : EReal :=
  ∑ k : Fin 1024, a (ix2 k (j 0)) * b (ix2 k (j 1))

theorem pay1 (j) : k0_pay1 (F := Ideal) j = 0 := by
  pointwise [k0_pay1]

theorem pay2 (acc : Vec Ideal S1024x1024 .f32) (a : Vec Ideal S1024x1024 .bf16) (b : Vec Ideal S1024x1024 .bf16) (j) : k0_pay2 acc a b j = acc j + part a b j := by
  pointwise [k0_pay2, part]

theorem pay3 (acc : Vec Ideal S1024x1024 .f32) (j) : k0_pay3 acc j = acc j := by
  pointwise [k0_pay3]

/-- At the last point of a stretch the accumulator is the sum of the stretch's block products. -/
theorem acc_eq (c : Dev nD) (t : Fin cfg0.N) (hr : t.val % 4 = 4 - 1) (j) : (outsAt0 m c t.val t.isLt).2 j
    = 0 + ∑ s : Fin 4, part (iblk m c 0 ⟨4 * (t.val / 4) + s.val, Pipeline.run_point_lt_of_flush t hr s⟩) (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t j => part (iblk m c 0 t) (iblk m c 1 t) j) ?_ ?_ t hr j
  · intro t h j
    rw [outsAt0_A m c t h (by omega)]; frame_out; rw [pay2, pay1]
  · intro t h j
    by_cases h1 : t.val % 4 = 3
    · rw [outsAt0_C m c t h h1]; frame_out; rw [pay2, read_unread_whole]
    · rw [outsAt0_B m c t h h1]; frame_out; rw [pay2, read_unread_whole]

/-- What that point writes back. -/
theorem out_eq (c : Dev nD) (t : Fin cfg0.N) (hr : t.val % 4 = 3) (j) : (outsAt0 m c t.val t.isLt).1 j = (outsAt0 m c t.val t.isLt).2 j := by
  rw [outsAt0_C m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 4) (n := 1024) (fun s k hl => ?_)
  have h4 : 4 * (t.val / 4) + s.val < cfg0.N := Pipeline.run_point_lt_of_flush t hr s
  have e1 : (4 * (t.val / 4) + s.val) / 4 = t.val / 4 := by omega
  have e2 : (4 * (t.val / 4) + s.val) % 4 = s.val := by omega
  congr 1
  · blk_ext [iblk, V, idx ⟨4 * (t.val / 4) + s.val, h4⟩, idx t, e1, e2]
  · blk_ext [iblk, V, idx ⟨4 * (t.val / 4) + s.val, h4⟩, idx t, e1, e2]

open Cert.Reference12Ideal.Read in
/-- The reference computes the same function. -/
theorem ref (x : FVec Ideal S4096x1024 .f32) (y : FVec Ideal S4096x1024 .f32) : val_main_v4 (F := Ideal) x y = G x y := by
  funext i
  rw [val_main_v4_apply, val_main_v3_apply]
  show val_main_v2 (F := Ideal) x y (idx_main_v3 i) = _
  rw [val_main_v2_apply]
  unfold G
  refine Finset.sum_congr rfl fun l _ => ?_
  rw [mul_comm]
  congr 2 <;> (funext d; match d with | ⟨0, _⟩ => rfl | ⟨1, _⟩ => rfl)

local instance : Cert.Kernel12.Facts := Cert.Kernel12.Gen.facts
local instance : Cert.Kernel12Ideal.Facts := Cert.Kernel12Ideal.Gen.facts
local instance : Cert.Reference12Ideal.Facts := Cert.Reference12Ideal.Gen.facts

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The two runs end with the same array. -/
theorem algebraic : Cert.algebraic_Kernel12Ideal_Reference12Ideal := by
  intro m ρ m' ρ' _ hm
  refine ⟨_, Cert.Kernel12Ideal.Value.run_blocks m ρ, (θ_run Cert.Reference12Ideal.defs _ _).mono (fun r h c => ?_) (Cert.Reference12Ideal.Value.run (F := Ideal) m' ρ')⟩
  obtain ⟨e0, e1⟩ := hm c
  refine ⟨(h c).1.trans ?_, (h c).2⟩
  rw [Cert.Reference12Ideal.Read.val_main_v4_eq, e0, e1]
  exact (ref _ _).trans (final m c).symm

end Cert.Mm12

end
-- ==== Proof.Mm13.lean ====
/- The gradient of the output projection's weights: what the kernel writes, what the reference computes, and the claims about them. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm13

open Cert.Kernel13Ideal Cert.Kernel13Ideal.Gen

variable (m : (ℓ : Loc nD τ sig) → Buf (Elt Ideal) ℓ)

/-- The whole result: the transposed activations times the incoming gradient, which the kernel itself rounds. -/
def G (x : FVec Ideal S4096x1024 .f32) (y : FVec Ideal S4096x1024 .f32) : FVec Ideal S1024x1024 .bf16 :=
  fun i => ∑ l : Fin 4096, x (ix2 l (i 0)) * y (ix2 l (i 1))

/-- Which block of each array a grid point works on. -/
theorem idx : ∀ t : Fin cfg0.N, win0_0.index t = ![t.val % 4, 0] ∧ win0_1.index t = ![t.val % 4, 0] ∧ win0_2.index t = ![0, 0] :=
  (by decide +kernel : ∀ t : Fin grid0.N, _)

/-- The product of one block of each operand. -/
def part (a : Vec Ideal S1024x1024 .bf16) (b : Vec Ideal S1024x1024 .f32) (j : S1024x1024.Idx) : EReal :=
  ∑ k : Fin 1024, a (ix2 k (j 0)) * b (ix2 k (j 1))

theorem pay1 (j) : k0_pay1 (F := Ideal) j = 0 := by
  pointwise [k0_pay1]

theorem pay2 (acc : Vec Ideal S1024x1024 .f32) (a : Vec Ideal S1024x1024 .bf16) (b : Vec Ideal S1024x1024 .f32) (j) : k0_pay2 acc a b j = acc j + part a b j := by
  pointwise [k0_pay2, part]

theorem pay3 (acc : Vec Ideal S1024x1024 .f32) (j) : k0_pay3 acc j = acc j := by
  pointwise [k0_pay3]

/-- At the last point of a stretch the accumulator is the sum of the stretch's block products. -/
theorem acc_eq (c : Dev nD) (t : Fin cfg0.N) (hr : t.val % 4 = 4 - 1) (j) : (outsAt0 m c t.val t.isLt).2 j
    = 0 + ∑ s : Fin 4, part (iblk m c 0 ⟨4 * (t.val / 4) + s.val, Pipeline.run_point_lt_of_flush t hr s⟩) (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t j => part (iblk m c 0 t) (iblk m c 1 t) j) ?_ ?_ t hr j
  · intro t h j
    rw [outsAt0_A m c t h (by omega)]; frame_out; rw [pay2, pay1]
  · intro t h j
    by_cases h1 : t.val % 4 = 3
    · rw [outsAt0_C m c t h h1]; frame_out; rw [pay2, read_unread_whole]
    · rw [outsAt0_B m c t h h1]; frame_out; rw [pay2, read_unread_whole]

/-- What that point writes back. -/
theorem out_eq (c : Dev nD) (t : Fin cfg0.N) (hr : t.val % 4 = 3) (j) : (outsAt0 m c t.val t.isLt).1 j = (outsAt0 m c t.val t.isLt).2 j := by
  rw [outsAt0_C m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 4) (n := 1024) (fun s k hl => ?_)
  have h4 : 4 * (t.val / 4) + s.val < cfg0.N := Pipeline.run_point_lt_of_flush t hr s
  have e1 : (4 * (t.val / 4) + s.val) / 4 = t.val / 4 := by omega
  have e2 : (4 * (t.val / 4) + s.val) % 4 = s.val := by omega
  congr 1
  · blk_ext [iblk, V, idx ⟨4 * (t.val / 4) + s.val, h4⟩, idx t, e1, e2]
  · blk_ext [iblk, V, idx ⟨4 * (t.val / 4) + s.val, h4⟩, idx t, e1, e2]

open Cert.Reference13Ideal.Read in
/-- The reference computes the same function. -/
theorem ref (x : FVec Ideal S4096x1024 .f32) (y : FVec Ideal S4096x1024 .f32) : val_main_v4 (F := Ideal) x y = G x y := by
  funext i
  rw [val_main_v4_apply, val_main_v3_apply]
  show val_main_v2 (F := Ideal) x y (idx_main_v3 i) = _
  rw [val_main_v2_apply]
  unfold G
  refine Finset.sum_congr rfl fun l _ => ?_
  rw [mul_comm]
  congr 2 <;> (funext d; match d with | ⟨0, _⟩ => rfl | ⟨1, _⟩ => rfl)

local instance : Cert.Kernel13.Facts := Cert.Kernel13.Gen.facts
local instance : Cert.Kernel13Ideal.Facts := Cert.Kernel13Ideal.Gen.facts
local instance : Cert.Reference13Ideal.Facts := Cert.Reference13Ideal.Gen.facts

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The two runs end with the same array. -/
theorem algebraic : Cert.algebraic_Kernel13Ideal_Reference13Ideal := by
  intro m ρ m' ρ' _ hm
  refine ⟨_, Cert.Kernel13Ideal.Value.run_blocks m ρ, (θ_run Cert.Reference13Ideal.defs _ _).mono (fun r h c => ?_) (Cert.Reference13Ideal.Value.run (F := Ideal) m' ρ')⟩
  obtain ⟨e0, e1⟩ := hm c
  refine ⟨(h c).1.trans ?_, (h c).2⟩
  rw [Cert.Reference13Ideal.Read.val_main_v4_eq, e0, e1]
  exact (ref _ _).trans (final m c).symm

end Cert.Mm13

end
-- ==== Proof.Mm14.lean ====
/- The gradient of a square projection's input: what the kernel writes, what the reference computes, and the claims about them. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm14

open Cert.Kernel14Ideal Cert.Kernel14Ideal.Gen

variable (m : (ℓ : Loc nD τ sig) → Buf (Elt Ideal) ℓ)

/-- The whole result: the incoming gradient times the transposed weights. -/
def G (x : FVec Ideal S4096x1024 .f32) (y : FVec Ideal S1024x1024 .f32) : FVec Ideal S4096x1024 .bf16 :=
  fun i => ∑ l : Fin 1024, x (ix2 (i 0) l) * y (ix2 (i 1) l)

/-- Which block of each array a grid point works on. -/
theorem idx : ∀ t : Fin cfg0.N, win0_0.index t = ![t.val, 0] ∧ win0_1.index t = ![0, 0] ∧ win0_2.index t = ![t.val, 0] ∧ t.val < 4 :=
  (by decide +kernel : ∀ t : Fin grid0.N, _)

/-- The product of one block of each operand. -/
def part (a : Vec Ideal S1024x1024 .bf16) (b : Vec Ideal S1024x1024 .bf16) (j : S1024x1024.Idx) : EReal :=
  ∑ k : Fin 1024, a (ix2 (j 0) k) * b (ix2 (j 1) k)

theorem pay1 (j) : k0_pay1 (F := Ideal) j = 0 := by
  pointwise [k0_pay1]

theorem pay2 (acc : Vec Ideal S1024x1024 .f32) (a : Vec Ideal S1024x1024 .bf16) (b : Vec Ideal S1024x1024 .bf16) (j) : k0_pay2 acc a b j = acc j + part a b j := by
  pointwise [k0_pay2, part]

theorem pay3 (acc : Vec Ideal S1024x1024 .f32) (j) : k0_pay3 acc j = acc j := by
  pointwise [k0_pay3]

/-- What a grid point writes back. -/
theorem out_eq (c : Dev nD) (t : Fin cfg0.N) (j) : outsAt0 m c t j = part (iblk m c 0 t) (iblk m c 1 t) j := by
  unfold outsAt0
  frame_out; rw [pay3, pay2, pay1, zero_add]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  blk_simp
  rw [after0_2]
  refine (out_eq m c t y).trans ?_
  show _ = G _ _ _
  unfold G
  unfold part
  refine Finset.sum_congr rfl fun l _ => ?_
  congr 1
  · blk_ext [iblk, V, idx t]
  · blk_ext [iblk, V, idx t]

open Cert.Reference14Ideal.Read in
/-- The reference computes the same function. -/
theorem ref (x : FVec Ideal S4096x1024 .f32) (y : FVec Ideal S1024x1024 .f32) : val_main_v3 (F := Ideal) x y = G x y := by
  funext i
  rw [val_main_v3_apply]
  show val_main_v2 (F := Ideal) x y i = _
  rw [val_main_v2_apply]
  unfold G
  refine Finset.sum_congr rfl fun l _ => ?_
  congr 2 <;> (funext d; match d with | ⟨0, _⟩ => rfl | ⟨1, _⟩ => rfl)

local instance : Cert.Kernel14.Facts := Cert.Kernel14.Gen.facts
local instance : Cert.Kernel14Ideal.Facts := Cert.Kernel14Ideal.Gen.facts
local instance : Cert.Reference14Ideal.Facts := Cert.Reference14Ideal.Gen.facts

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The two runs end with the same array. -/
theorem algebraic : Cert.algebraic_Kernel14Ideal_Reference14Ideal := by
  intro m ρ m' ρ' _ hm
  refine ⟨_, Cert.Kernel14Ideal.Value.run_blocks m ρ, (θ_run Cert.Reference14Ideal.defs _ _).mono (fun r h c => ?_) (Cert.Reference14Ideal.Value.run (F := Ideal) m' ρ')⟩
  obtain ⟨e0, e1⟩ := hm c
  refine ⟨(h c).1.trans ?_, (h c).2⟩
  rw [Cert.Reference14Ideal.Read.val_main_v3_eq, e0, e1]
  exact (ref _ _).trans (final m c).symm

end Cert.Mm14

end
-- ==== Proof.Mm15.lean ====
/- The gradient of the output projection's input: what the kernel writes, what the reference computes, and the claims about them. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm15

open Cert.Kernel15Ideal Cert.Kernel15Ideal.Gen

variable (m : (ℓ : Loc nD τ sig) → Buf (Elt Ideal) ℓ)

/-- The whole result: the incoming gradient, which the kernel itself rounds, times the transposed weights. -/
def G (x : FVec Ideal S4096x1024 .f32) (y : FVec Ideal S1024x1024 .f32) : FVec Ideal S4096x1024 .bf16 :=
  fun i => ∑ l : Fin 1024, x (ix2 (i 0) l) * y (ix2 (i 1) l)

/-- Which block of each array a grid point works on. -/
theorem idx : ∀ t : Fin cfg0.N, win0_0.index t = ![t.val, 0] ∧ win0_1.index t = ![0, 0] ∧ win0_2.index t = ![t.val, 0] ∧ t.val < 4 :=
  (by decide +kernel : ∀ t : Fin grid0.N, _)

/-- The product of one block of each operand. -/
def part (a : Vec Ideal S1024x1024 .f32) (b : Vec Ideal S1024x1024 .bf16) (j : S1024x1024.Idx) : EReal :=
  ∑ k : Fin 1024, a (ix2 (j 0) k) * b (ix2 (j 1) k)

theorem pay1 (j) : k0_pay1 (F := Ideal) j = 0 := by
  pointwise [k0_pay1]

theorem pay2 (acc : Vec Ideal S1024x1024 .f32) (a : Vec Ideal S1024x1024 .f32) (b : Vec Ideal S1024x1024 .bf16) (j) : k0_pay2 acc a b j = acc j + part a b j := by
  pointwise [k0_pay2, part]

theorem pay3 (acc : Vec Ideal S1024x1024 .f32) (j) : k0_pay3 acc j = acc j := by
  pointwise [k0_pay3]

/-- What a grid point writes back. -/
theorem out_eq (c : Dev nD) (t : Fin cfg0.N) (j) : outsAt0 m c t j = part (iblk m c 0 t) (iblk m c 1 t) j := by
  unfold outsAt0
  frame_out; rw [pay3, pay2, pay1, zero_add]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  blk_simp
  rw [after0_2]
  refine (out_eq m c t y).trans ?_
  show _ = G _ _ _
  unfold G
  unfold part
  refine Finset.sum_congr rfl fun l _ => ?_
  congr 1
  · blk_ext [iblk, V, idx t]
  · blk_ext [iblk, V, idx t]

open Cert.Reference15Ideal.Read in
/-- The reference computes the same function. -/
theorem ref (x : FVec Ideal S4096x1024 .f32) (y : FVec Ideal S1024x1024 .f32) : val_main_v3 (F := Ideal) x y = G x y := by
  funext i
  rw [val_main_v3_apply]
  show val_main_v2 (F := Ideal) x y i = _
  rw [val_main_v2_apply]
  unfold G
  refine Finset.sum_congr rfl fun l _ => ?_
  congr 2 <;> (funext d; match d with | ⟨0, _⟩ => rfl | ⟨1, _⟩ => rfl)

local instance : Cert.Kernel15.Facts := Cert.Kernel15.Gen.facts
local instance : Cert.Kernel15Ideal.Facts := Cert.Kernel15Ideal.Gen.facts
local instance : Cert.Reference15Ideal.Facts := Cert.Reference15Ideal.Gen.facts

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The two runs end with the same array. -/
theorem algebraic : Cert.algebraic_Kernel15Ideal_Reference15Ideal := by
  intro m ρ m' ρ' _ hm
  refine ⟨_, Cert.Kernel15Ideal.Value.run_blocks m ρ, (θ_run Cert.Reference15Ideal.defs _ _).mono (fun r h c => ?_) (Cert.Reference15Ideal.Value.run (F := Ideal) m' ρ')⟩
  obtain ⟨e0, e1⟩ := hm c
  refine ⟨(h c).1.trans ?_, (h c).2⟩
  rw [Cert.Reference15Ideal.Read.val_main_v3_eq, e0, e1]
  exact (ref _ _).trans (final m c).symm

end Cert.Mm15

end
-- ==== Proof.Mm16.lean ====
/- A square projection: what the kernel writes, what the reference computes, and the claims about them. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm16

open Cert.Kernel16Ideal Cert.Kernel16Ideal.Gen

variable (m : (ℓ : Loc nD τ sig) → Buf (Elt Ideal) ℓ)

/-- The whole result: the activations times the weights. -/
def G (x : FVec Ideal S4096x1024 .f32) (y : FVec Ideal S1024x1024 .f32) : FVec Ideal S4096x1024 .bf16 :=
  fun i => ∑ l : Fin 1024, x (ix2 (i 0) l) * y (ix2 l (i 1))

/-- Which block of each array a grid point works on. -/
theorem idx : ∀ t : Fin cfg0.N, win0_0.index t = ![t.val, 0] ∧ win0_1.index t = ![0, 0] ∧ win0_2.index t = ![t.val, 0] ∧ t.val < 4 :=
  (by decide +kernel : ∀ t : Fin grid0.N, _)

/-- The product of one block of each operand. -/
def part (a : Vec Ideal S1024x1024 .bf16) (b : Vec Ideal S1024x1024 .bf16) (j : S1024x1024.Idx) : EReal :=
  ∑ k : Fin 1024, a (ix2 (j 0) k) * b (ix2 k (j 1))

theorem pay1 (j) : k0_pay1 (F := Ideal) j = 0 := by
  pointwise [k0_pay1]

theorem pay2 (acc : Vec Ideal S1024x1024 .f32) (a : Vec Ideal S1024x1024 .bf16) (b : Vec Ideal S1024x1024 .bf16) (j) : k0_pay2 acc a b j = acc j + part a b j := by
  pointwise [k0_pay2, part]

theorem pay3 (acc : Vec Ideal S1024x1024 .f32) (j) : k0_pay3 acc j = acc j := by
  pointwise [k0_pay3]

/-- What a grid point writes back. -/
theorem out_eq (c : Dev nD) (t : Fin cfg0.N) (j) : outsAt0 m c t j = part (iblk m c 0 t) (iblk m c 1 t) j := by
  unfold outsAt0
  frame_out; rw [pay3, pay2, pay1, zero_add]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  blk_simp
  rw [after0_2]
  refine (out_eq m c t y).trans ?_
  show _ = G _ _ _
  unfold G
  unfold part
  refine Finset.sum_congr rfl fun l _ => ?_
  congr 1
  · blk_ext [iblk, V, idx t]
  · blk_ext [iblk, V, idx t]

open Cert.Reference16Ideal.Read in
/-- The reference computes the same function. -/
theorem ref (x : FVec Ideal S4096x1024 .f32) (y : FVec Ideal S1024x1024 .f32) : val_main_v1 (F := Ideal) x y = G x y := by
  funext i
  rw [val_main_v1_apply]
  show val_main_v0 (F := Ideal) x y i = _
  rw [val_main_v0_apply]
  unfold G
  refine Finset.sum_congr rfl fun l _ => ?_
  congr 2 <;> (funext d; match d with | ⟨0, _⟩ => rfl | ⟨1, _⟩ => rfl)

local instance : Cert.Kernel16.Facts := Cert.Kernel16.Gen.facts
local instance : Cert.Kernel16Ideal.Facts := Cert.Kernel16Ideal.Gen.facts
local instance : Cert.Reference16Ideal.Facts := Cert.Reference16Ideal.Gen.facts

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The two runs end with the same array. -/
theorem algebraic : Cert.algebraic_Kernel16Ideal_Reference16Ideal := by
  intro m ρ m' ρ' _ hm
  refine ⟨_, Cert.Kernel16Ideal.Value.run_blocks m ρ, (θ_run Cert.Reference16Ideal.defs _ _).mono (fun r h c => ?_) (Cert.Reference16Ideal.Value.run (F := Ideal) m' ρ')⟩
  obtain ⟨e0, e1⟩ := hm c
  refine ⟨(h c).1.trans ?_, (h c).2⟩
  rw [Cert.Reference16Ideal.Read.val_main_v1_eq, e0, e1]
  exact (ref _ _).trans (final m c).symm

end Cert.Mm16

end
-- ==== Proof.Mm17.lean ====
/- The output projection: what the kernel writes, what the reference computes, and the claims about them. -/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm17

open Cert.Kernel17Ideal Cert.Kernel17Ideal.Gen

variable (m : (ℓ : Loc nD τ sig) → Buf (Elt Ideal) ℓ)

/-- The whole result: the activations times the weights, added to the residual. -/
def G (x : FVec Ideal S4096x1024 .f32) (y : FVec Ideal S1024x1024 .f32) (z : FVec Ideal S4096x1024 .f32) : FVec Ideal S4096x1024 .f32 :=
  fun i => (∑ l : Fin 1024, x (ix2 (i 0) l) * y (ix2 l (i 1))) + z i

/-- Which block of each array a grid point works on. -/
theorem idx : ∀ t : Fin cfg0.N, win0_0.index t = ![t.val, 0] ∧ win0_1.index t = ![0, 0] ∧ win0_2.index t = ![t.val, 0] ∧ win0_3.index t = ![t.val, 0] ∧ t.val < 4 :=
  (by decide +kernel : ∀ t : Fin grid0.N, _)

/-- The product of one block of each operand. -/
def part (a : Vec Ideal S1024x1024 .bf16) (b : Vec Ideal S1024x1024 .bf16) (j : S1024x1024.Idx) : EReal :=
  ∑ k : Fin 1024, a (ix2 (j 0) k) * b (ix2 k (j 1))

theorem pay1 (j) : k0_pay1 (F := Ideal) j = 0 := by
  pointwise [k0_pay1]

theorem pay2 (acc : Vec Ideal S1024x1024 .f32) (a : Vec Ideal S1024x1024 .bf16) (b : Vec Ideal S1024x1024 .bf16) (j) : k0_pay2 acc a b j = acc j + part a b j := by
  pointwise [k0_pay2, part]

theorem pay3 (acc : Vec Ideal S1024x1024 .f32) (z : Vec Ideal S1024x1024 .f32) (j) : k0_pay3 acc z j = acc j + z j := by
  pointwise [k0_pay3]

/-- What a grid point writes back. -/
theorem out_eq (c : Dev nD) (t : Fin cfg0.N) (j) : outsAt0 m c t j = part (iblk m c 0 t) (iblk m c 1 t) j + iblk m c 2 t j := by
  unfold outsAt0
  frame_out; rw [pay3, pay2, pay1, zero_add]

/-- The result array after the run. -/
theorem final (c : Dev nD) : (dats m 0 c).arrAt 3 (cfgs 0).N = G (m (c.tc.loc main_arg0)) (m (c.tc.loc main_arg1)) (m (c.tc.loc main_arg2)) := by
  refine (dats m 0 c).arrAt_eq_of_covers 3 _ (by decide +kernel) fun t hf y => ?_
  blk_simp
  rw [after0_3]
  refine (out_eq m c t y).trans ?_
  show _ = G _ _ _ _
  unfold G
  refine congrArg₂ (· + ·) ?_ (by blk_ext [iblk, V, idx t])
  unfold part
  refine Finset.sum_congr rfl fun l _ => ?_
  congr 1
  · blk_ext [iblk, V, idx t]
  · blk_ext [iblk, V, idx t]

open Cert.Reference17Ideal.Read in
/-- The reference computes the same function. -/
theorem ref (x : FVec Ideal S4096x1024 .f32) (y : FVec Ideal S1024x1024 .f32) (z : FVec Ideal S4096x1024 .f32) : val_main_v1 (F := Ideal) x y z = G x y z := by
  funext i
  rw [val_main_v1_apply, val_main_v0_apply]
  show z i + _ = _
  rw [add_comm]
  unfold G
  refine congrArg (· + z i) (Finset.sum_congr rfl fun l _ => ?_)
  congr 2 <;> (funext d; match d with | ⟨0, _⟩ => rfl | ⟨1, _⟩ => rfl)

local instance : Cert.Kernel17.Facts := Cert.Kernel17.Gen.facts
local instance : Cert.Kernel17Ideal.Facts := Cert.Kernel17Ideal.Gen.facts
local instance : Cert.Reference17Ideal.Facts := Cert.Reference17Ideal.Gen.facts

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The two runs end with the same array. -/
theorem algebraic : Cert.algebraic_Kernel17Ideal_Reference17Ideal := by
  intro m ρ m' ρ' _ hm
  refine ⟨_, Cert.Kernel17Ideal.Value.run_blocks m ρ, (θ_run Cert.Reference17Ideal.defs _ _).mono (fun r h c => ?_) (Cert.Reference17Ideal.Value.run (F := Ideal) m' ρ')⟩
  obtain ⟨e0, e1, e2⟩ := hm c
  refine ⟨(h c).1.trans ?_, (h c).2⟩
  rw [Cert.Reference17Ideal.Read.val_main_v1_eq, e0, e1, e2]
  exact (ref _ _ _).trans (final m c).symm

end Cert.Mm17

end
-- ==== Proof.Mm18.lean ====
/- The keys' and values' up projection: what the kernel writes, what the reference computes, and the claims about them. -/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm18

open Cert.Kernel18Ideal Cert.Kernel18Ideal.Gen

variable (m : (ℓ : Loc nD τ sig) → Buf (Elt Ideal) ℓ)

/-- The whole result: the activations times the weights. -/
def G (x : FVec Ideal S4096x256 .f32) (y : FVec Ideal S256x2048 .f32) : FVec Ideal S4096x2048 .bf16 :=
  fun i => ∑ l : Fin 256, x (ix2 (i 0) l) * y (ix2 l (i 1))

/-- Which block of each array a grid point works on. -/
theorem idx : ∀ t : Fin cfg0.N, win0_0.index t = ![t.val / 2, 0] ∧ win0_1.index t = ![0, t.val % 2] ∧ win0_2.index t = ![t.val / 2, t.val % 2] ∧ t.val / 2 < 4 ∧ t.val % 2 < 2 :=
  (by decide +kernel : ∀ t : Fin grid0.N, _)

/-- The product of one block of each operand. -/
def part (a : Vec Ideal S1024x256 .bf16) (b : Vec Ideal S256x1024 .bf16) (j : S1024x1024.Idx) : EReal :=
  ∑ k : Fin 256, a (ix2 (j 0) k) * b (ix2 k (j 1))

theorem pay1 (j) : k0_pay1 (F := Ideal) j = 0 := by
  pointwise [k0_pay1]

theorem pay2 (acc : Vec Ideal S1024x1024 .f32) (a : Vec Ideal S1024x256 .bf16) (b : Vec Ideal S256x1024 .bf16) (j) : k0_pay2 acc a b j = acc j + part a b j := by
  pointwise [k0_pay2, part]

theorem pay3 (acc : Vec Ideal S1024x1024 .f32) (j) : k0_pay3 acc j = acc j := by
  pointwise [k0_pay3]

/-- What a grid point writes back. -/
theorem out_eq (c : Dev nD) (t : Fin cfg0.N) (j) : outsAt0 m c t j = part (iblk m c 0 t) (iblk m c 1 t) j := by
  unfold outsAt0
  frame_out; rw [pay3, pay2, pay1, zero_add]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  blk_simp
  rw [after0_2]
  refine (out_eq m c t y).trans ?_
  show _ = G _ _ _
  unfold G
  unfold part
  refine Finset.sum_congr rfl fun l _ => ?_
  congr 1
  · blk_ext [iblk, V, idx t]
  · blk_ext [iblk, V, idx t]

open Cert.Reference18Ideal.Read in
/-- The reference computes the same function. -/
theorem ref (x : FVec Ideal S4096x256 .f32) (y : FVec Ideal S256x2048 .f32) : val_main_v1 (F := Ideal) x y = G x y := by
  funext i
  rw [val_main_v1_apply]
  show val_main_v0 (F := Ideal) x y i = _
  rw [val_main_v0_apply]
  unfold G
  refine Finset.sum_congr rfl fun l _ => ?_
  congr 2 <;> (funext d; match d with | ⟨0, _⟩ => rfl | ⟨1, _⟩ => rfl)

local instance : Cert.Kernel18.Facts := Cert.Kernel18.Gen.facts
local instance : Cert.Kernel18Ideal.Facts := Cert.Kernel18Ideal.Gen.facts
local instance : Cert.Reference18Ideal.Facts := Cert.Reference18Ideal.Gen.facts

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The two runs end with the same array. -/
theorem algebraic : Cert.algebraic_Kernel18Ideal_Reference18Ideal := by
  intro m ρ m' ρ' _ hm
  refine ⟨_, Cert.Kernel18Ideal.Value.run_blocks m ρ, (θ_run Cert.Reference18Ideal.defs _ _).mono (fun r h c => ?_) (Cert.Reference18Ideal.Value.run (F := Ideal) m' ρ')⟩
  obtain ⟨e0, e1⟩ := hm c
  refine ⟨(h c).1.trans ?_, (h c).2⟩
  rw [Cert.Reference18Ideal.Read.val_main_v1_eq, e0, e1]
  exact (ref _ _).trans (final m c).symm

end Cert.Mm18

end
-- ==== Proof.Mm19.lean ====
/- The gradient of the queries' up projection's weights: what the kernel writes, what the reference computes, and the claims about them. -/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm19

open Cert.Kernel19Ideal Cert.Kernel19Ideal.Gen

variable (m : (ℓ : Loc nD τ sig) → Buf (Elt Ideal) ℓ)

/-- The whole result: the transposed activations times the incoming gradient. -/
def G (x : FVec Ideal S4096x256 .f32) (y : FVec Ideal S4096x2048 .f32) : FVec Ideal S256x2048 .bf16 :=
  fun i => ∑ l : Fin 4096, x (ix2 l (i 0)) * y (ix2 l (i 1))

/-- Which block of each array a grid point works on. -/
theorem idx : ∀ t : Fin cfg0.N, win0_0.index t = ![t.val % 4, 0] ∧ win0_1.index t = ![t.val % 4, t.val / 4] ∧ win0_2.index t = ![0, t.val / 4] ∧ t.val / 4 < 2 :=
  (by decide +kernel : ∀ t : Fin grid0.N, _)

/-- The product of one block of each operand. -/
def part (a : Vec Ideal S1024x256 .bf16) (b : Vec Ideal S1024x1024 .bf16) (j : S256x1024.Idx) : EReal :=
  ∑ k : Fin 1024, a (ix2 k (j 0)) * b (ix2 k (j 1))

theorem pay1 (j) : k0_pay1 (F := Ideal) j = 0 := by
  pointwise [k0_pay1]

theorem pay2 (acc : Vec Ideal S256x1024 .f32) (a : Vec Ideal S1024x256 .bf16) (b : Vec Ideal S1024x1024 .bf16) (j) : k0_pay2 acc a b j = acc j + part a b j := by
  pointwise [k0_pay2, part]

theorem pay3 (acc : Vec Ideal S256x1024 .f32) (j) : k0_pay3 acc j = acc j := by
  pointwise [k0_pay3]

/-- At the last point of a stretch the accumulator is the sum of the stretch's block products. -/
theorem acc_eq (c : Dev nD) (t : Fin cfg0.N) (hr : t.val % 4 = 4 - 1) (j) : (outsAt0 m c t.val t.isLt).2 j
    = 0 + ∑ s : Fin 4, part (iblk m c 0 ⟨4 * (t.val / 4) + s.val, Pipeline.run_point_lt_of_flush t hr s⟩) (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t j => part (iblk m c 0 t) (iblk m c 1 t) j) ?_ ?_ t hr j
  · intro t h j
    rw [outsAt0_A m c t h (by omega)]; frame_out; rw [pay2, pay1]
  · intro t h j
    by_cases h1 : t.val % 4 = 3
    · rw [outsAt0_C m c t h h1]; frame_out; rw [pay2, read_unread_whole]
    · rw [outsAt0_B m c t h h1]; frame_out; rw [pay2, read_unread_whole]

/-- What that point writes back. -/
theorem out_eq (c : Dev nD) (t : Fin cfg0.N) (hr : t.val % 4 = 3) (j) : (outsAt0 m c t.val t.isLt).1 j = (outsAt0 m c t.val t.isLt).2 j := by
  rw [outsAt0_C m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 4) (n := 1024) (fun s k hl => ?_)
  have h4 : 4 * (t.val / 4) + s.val < cfg0.N := Pipeline.run_point_lt_of_flush t hr s
  have e1 : (4 * (t.val / 4) + s.val) / 4 = t.val / 4 := by omega
  have e2 : (4 * (t.val / 4) + s.val) % 4 = s.val := by omega
  congr 1
  · blk_ext [iblk, V, idx ⟨4 * (t.val / 4) + s.val, h4⟩, idx t, e1, e2]
  · blk_ext [iblk, V, idx ⟨4 * (t.val / 4) + s.val, h4⟩, idx t, e1, e2]

open Cert.Reference19Ideal.Read in
/-- The reference computes the same function. -/
theorem ref (x : FVec Ideal S4096x256 .f32) (y : FVec Ideal S4096x2048 .f32) : val_main_v4 (F := Ideal) x y = G x y := by
  funext i
  rw [val_main_v4_apply, val_main_v3_apply]
  show val_main_v2 (F := Ideal) x y (idx_main_v3 i) = _
  rw [val_main_v2_apply]
  unfold G
  refine Finset.sum_congr rfl fun l _ => ?_
  rw [mul_comm]
  congr 2 <;> (funext d; match d with | ⟨0, _⟩ => rfl | ⟨1, _⟩ => rfl)

local instance : Cert.Kernel19.Facts := Cert.Kernel19.Gen.facts
local instance : Cert.Kernel19Ideal.Facts := Cert.Kernel19Ideal.Gen.facts
local instance : Cert.Reference19Ideal.Facts := Cert.Reference19Ideal.Gen.facts

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The two runs end with the same array. -/
theorem algebraic : Cert.algebraic_Kernel19Ideal_Reference19Ideal := by
  intro m ρ m' ρ' _ hm
  refine ⟨_, Cert.Kernel19Ideal.Value.run_blocks m ρ, (θ_run Cert.Reference19Ideal.defs _ _).mono (fun r h c => ?_) (Cert.Reference19Ideal.Value.run (F := Ideal) m' ρ')⟩
  obtain ⟨e0, e1⟩ := hm c
  refine ⟨(h c).1.trans ?_, (h c).2⟩
  rw [Cert.Reference19Ideal.Read.val_main_v4_eq, e0, e1]
  exact (ref _ _).trans (final m c).symm

end Cert.Mm19

end
-- ==== Proof.Mm20.lean ====
/- The gradient of the keys' and values' up projection's weights: what the kernel writes, what the reference computes, and the claims about them. -/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm20

open Cert.Kernel20Ideal Cert.Kernel20Ideal.Gen

variable (m : (ℓ : Loc nD τ sig) → Buf (Elt Ideal) ℓ)

/-- The whole result: the transposed activations times the incoming gradient, which the kernel itself rounds. -/
def G (x : FVec Ideal S4096x256 .f32) (y : FVec Ideal S4096x2048 .f32) : FVec Ideal S256x2048 .bf16 :=
  fun i => ∑ l : Fin 4096, x (ix2 l (i 0)) * y (ix2 l (i 1))

/-- Which block of each array a grid point works on. -/
theorem idx : ∀ t : Fin cfg0.N, win0_0.index t = ![t.val % 4, 0] ∧ win0_1.index t = ![t.val % 4, t.val / 4] ∧ win0_2.index t = ![0, t.val / 4] ∧ t.val / 4 < 2 :=
  (by decide +kernel : ∀ t : Fin grid0.N, _)

/-- The product of one block of each operand. -/
def part (a : Vec Ideal S1024x256 .bf16) (b : Vec Ideal S1024x1024 .f32) (j : S256x1024.Idx) : EReal :=
  ∑ k : Fin 1024, a (ix2 k (j 0)) * b (ix2 k (j 1))

theorem pay1 (j) : k0_pay1 (F := Ideal) j = 0 := by
  pointwise [k0_pay1]

theorem pay2 (acc : Vec Ideal S256x1024 .f32) (a : Vec Ideal S1024x256 .bf16) (b : Vec Ideal S1024x1024 .f32) (j) : k0_pay2 acc a b j = acc j + part a b j := by
  pointwise [k0_pay2, part]

theorem pay3 (acc : Vec Ideal S256x1024 .f32) (j) : k0_pay3 acc j = acc j := by
  pointwise [k0_pay3]

/-- At the last point of a stretch the accumulator is the sum of the stretch's block products. -/
theorem acc_eq (c : Dev nD) (t : Fin cfg0.N) (hr : t.val % 4 = 4 - 1) (j) : (outsAt0 m c t.val t.isLt).2 j
    = 0 + ∑ s : Fin 4, part (iblk m c 0 ⟨4 * (t.val / 4) + s.val, Pipeline.run_point_lt_of_flush t hr s⟩) (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t j => part (iblk m c 0 t) (iblk m c 1 t) j) ?_ ?_ t hr j
  · intro t h j
    rw [outsAt0_A m c t h (by omega)]; frame_out; rw [pay2, pay1]
  · intro t h j
    by_cases h1 : t.val % 4 = 3
    · rw [outsAt0_C m c t h h1]; frame_out; rw [pay2, read_unread_whole]
    · rw [outsAt0_B m c t h h1]; frame_out; rw [pay2, read_unread_whole]

/-- What that point writes back. -/
theorem out_eq (c : Dev nD) (t : Fin cfg0.N) (hr : t.val % 4 = 3) (j) : (outsAt0 m c t.val t.isLt).1 j = (outsAt0 m c t.val t.isLt).2 j := by
  rw [outsAt0_C m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 4) (n := 1024) (fun s k hl => ?_)
  have h4 : 4 * (t.val / 4) + s.val < cfg0.N := Pipeline.run_point_lt_of_flush t hr s
  have e1 : (4 * (t.val / 4) + s.val) / 4 = t.val / 4 := by omega
  have e2 : (4 * (t.val / 4) + s.val) % 4 = s.val := by omega
  congr 1
  · blk_ext [iblk, V, idx ⟨4 * (t.val / 4) + s.val, h4⟩, idx t, e1, e2]
  · blk_ext [iblk, V, idx ⟨4 * (t.val / 4) + s.val, h4⟩, idx t, e1, e2]

open Cert.Reference20Ideal.Read in
/-- The reference computes the same function. -/
theorem ref (x : FVec Ideal S4096x256 .f32) (y : FVec Ideal S4096x2048 .f32) : val_main_v4 (F := Ideal) x y = G x y := by
  funext i
  rw [val_main_v4_apply, val_main_v3_apply]
  show val_main_v2 (F := Ideal) x y (idx_main_v3 i) = _
  rw [val_main_v2_apply]
  unfold G
  refine Finset.sum_congr rfl fun l _ => ?_
  rw [mul_comm]
  congr 2 <;> (funext d; match d with | ⟨0, _⟩ => rfl | ⟨1, _⟩ => rfl)

local instance : Cert.Kernel20.Facts := Cert.Kernel20.Gen.facts
local instance : Cert.Kernel20Ideal.Facts := Cert.Kernel20Ideal.Gen.facts
local instance : Cert.Reference20Ideal.Facts := Cert.Reference20Ideal.Gen.facts

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- The two runs end with the same array. -/
theorem algebraic : Cert.algebraic_Kernel20Ideal_Reference20Ideal := by
  intro m ρ m' ρ' _ hm
  refine ⟨_, Cert.Kernel20Ideal.Value.run_blocks m ρ, (θ_run Cert.Reference20Ideal.defs _ _).mono (fun r h c => ?_) (Cert.Reference20Ideal.Value.run (F := Ideal) m' ρ')⟩
  obtain ⟨e0, e1⟩ := hm c
  refine ⟨(h c).1.trans ?_, (h c).2⟩
  rw [Cert.Reference20Ideal.Read.val_main_v4_eq, e0, e1]
  exact (ref _ _).trans (final m c).symm

end Cert.Mm20

end
-- ==== Proof.Mm21.lean ====
/- The gradient of the queries' up projection's input: what the kernel writes, what the reference computes, and the claims about them. -/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm21

open Cert.Kernel21Ideal Cert.Kernel21Ideal.Gen

variable (m : (ℓ : Loc nD τ sig) → Buf (Elt Ideal) ℓ)

/-- The whole result: the incoming gradient times the transposed weights. -/
def G (x : FVec Ideal S4096x2048 .f32) (y : FVec Ideal S256x2048 .f32) : FVec Ideal S4096x256 .f32 :=
  fun i => ∑ l : Fin 2048, x (ix2 (i 0) l) * y (ix2 (i 1) l)

/-- Which block of each array a grid point works on. -/
theorem idx : ∀ t : Fin cfg0.N, win0_0.index t = ![t.val / 2, t.val % 2] ∧ win0_1.index t = ![0, t.val % 2] ∧ win0_2.index t = ![t.val / 2, 0] ∧ t.val / 2 < 4 :=
  (by decide +kernel : ∀ t : Fin grid0.N, _)

/-- The product of one block of each operand. -/
def part (a : Vec Ideal S1024x1024 .bf16) (b : Vec Ideal S256x1024 .bf16) (j : S1024x256.Idx) : EReal :=
  ∑ k : Fin 1024, a (ix2 (j 0) k) * b (ix2 (j 1) k)

theorem pay1 (j) : k0_pay1 (F := Ideal) j = 0 := by
  pointwise [k0_pay1]

theorem pay2 (acc : Vec Ideal S1024x256 .f32) (a : Vec Ideal S1024x1024 .bf16) (b : Vec Ideal S256x1024 .bf16) (j) : k0_pay2 acc a b j = acc j + part a b j := by
  pointwise [k0_pay2, part]

theorem pay3 (acc : Vec Ideal S1024x256 .f32) (j) : k0_pay3 acc j = acc j := by
  pointwise [k0_pay3]

/-- At the last point of a stretch the accumulator is the sum of the stretch's block products. -/
theorem acc_eq (c : Dev nD) (t : Fin cfg0.N) (hr : t.val % 2 = 2 - 1) (j) : (outsAt0 m c t.val t.isLt).2 j
    = 0 + ∑ s : Fin 2, part (iblk m c 0 ⟨2 * (t.val / 2) + s.val, Pipeline.run_point_lt_of_flush t hr s⟩) (iblk m c 1 ⟨2 * (t.val / 2) + s.val, Pipeline.run_point_lt_of_flush t hr s⟩) j := by
  refine Pipeline.eq_sum_fin_of_reset_step_apply_of_flush (fun n h => (outsAt0 m c n h).2) 2 (fun _ => 0)
    (fun t j => part (iblk m c 0 t) (iblk m c 1 t) j) ?_ ?_ t hr j
  · intro t h j
    rw [outsAt0_A m c t h (by omega)]; frame_out; rw [pay2, pay1]
  · intro t h j
    rw [outsAt0_B m c t h (by omega)]; frame_out; rw [pay2, read_unread_whole]

/-- What that point writes back. -/
theorem out_eq (c : Dev nD) (t : Fin cfg0.N) (hr : t.val % 2 = 1) (j) : (outsAt0 m c t.val t.isLt).1 j = (outsAt0 m c t.val t.isLt).2 j := by
  rw [outsAt0_B m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 2) (n := 1024) (fun s k hl => ?_)
  have h4 : 2 * (t.val / 2) + s.val < cfg0.N := Pipeline.run_point_lt_of_flush t hr s
  have e1 : (2 * (t.val / 2) + s.val) / 2 = t.val / 2 := by omega
  have e2 : (2 * (t.val / 2) + s.val) % 2 = s.val := by omega
  congr 1
  · blk_ext [iblk, V, idx ⟨2 * (t.val / 2) + s.val, h4⟩, idx t, e1, e2]
  · blk_ext [iblk, V, idx ⟨2 * (t.val / 2) + s.val, h4⟩, idx t, e1, e2]

open Cert.Reference21Ideal.Read in
/-- The reference computes the same function. -/
theorem ref (x : FVec Ideal S4096x2048 .f32) (y : FVec Ideal S256x2048 .f32) : val_main_v2 (F := Ideal) x y = G x y := by
  funext i
  rw [val_main_v2_apply]
  unfold G
  refine Finset.sum_congr rfl fun l _ => ?_
  congr 2 <;> (funext d; match d with | ⟨0, _⟩ => rfl | ⟨1, _⟩ => rfl)

local instance : Cert.Kernel21.Facts := Cert.Kernel21.Gen.facts
local instance : Cert.Kernel21Ideal.Facts := Cert.Kernel21Ideal.Gen.facts
local instance : Cert.Reference21Ideal.Facts := Cert.Reference21Ideal.Gen.facts

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

/-- The two runs end with the same array. -/
theorem algebraic : Cert.algebraic_Kernel21Ideal_Reference21Ideal := by
  intro m ρ m' ρ' _ hm
  refine ⟨_, Cert.Kernel21Ideal.Value.run_blocks m ρ, (θ_run Cert.Reference21Ideal.defs _ _).mono (fun r h c => ?_) (Cert.Reference21Ideal.Value.run (F := Ideal) m' ρ')⟩
  obtain ⟨e0, e1⟩ := hm c
  refine ⟨(h c).1.trans ?_, (h c).2⟩
  rw [Cert.Reference21Ideal.Read.val_main_v2_eq, e0, e1]
  exact (ref _ _).trans (final m c).symm

end Cert.Mm21

end
-- ==== Proof.Mm22.lean ====
/- The gradient of the keys' and values' up projection's input: what the kernel writes, what the reference computes, and the claims about them. -/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Mm22

open Cert.Kernel22Ideal Cert.Kernel22Ideal.Gen

variable (m : (ℓ : Loc nD τ sig) → Buf (Elt Ideal) ℓ)

/-- The whole result: the incoming gradient, which the kernel itself rounds, times the transposed weights. -/
def G (x : FVec Ideal S4096x2048 .f32) (y : FVec Ideal S256x2048 .f32) : FVec Ideal S4096x256 .f32 :=
  fun i => ∑ l : Fin 2048, x (ix2 (i 0) l) * y (ix2 (i 1) l)

/-- Which block of each array a grid point works on. -/
theorem idx : ∀ t : Fin cfg0.N, win0_0.index t = ![t.val / 2, t.val % 2] ∧ win0_1.index t = ![0, t.val % 2] ∧ win0_2.index t = ![t.val / 2, 0] ∧ t.val / 2 < 4 :=
  (by decide +kernel : ∀ t : Fin grid0.N, _)

/-- The product of one block of each operand. -/
def part (a : Vec Ideal S1024x1024 .f32) (b : Vec Ideal S256x1024 .bf16) (j : S1024x256.Idx) : EReal :=
  ∑ k : Fin 1024, a (ix2 (j 0) k) * b (ix2 (j 1) k)

theorem pay1 (j) : k0_pay1 (F := Ideal) j = 0 := by
  pointwise [k0_pay1]

theorem pay2 (acc : Vec Ideal S1024x256 .f32) (a : Vec Ideal S1024x1024 .f32) (b : Vec Ideal S256x1024 .bf16) (j) : k0_pay2 acc a b j = acc j + part a b j := by
  pointwise [k0_pay2, part]

theorem pay3 (acc : Vec Ideal S1024x256 .f32) (j) : k0_pay3 acc j = acc j := by
  pointwise [k0_pay3]

/-- At the last point of a stretch the accumulator is the sum of the stretch's block products. -/
theorem acc_eq (c : Dev nD) (t : Fin cfg0.N) (hr : t.val % 2 = 2 - 1) (j) : (outsAt0 m c t.val t.isLt).2 j
    = 0 + ∑ s : Fin 2, part (iblk m c 0 ⟨2 * (t.val / 2) + s.val, Pipeline.run_point_lt_of_flush t hr s⟩) (iblk m c 1 ⟨2 * (t.val / 2) + s.val, Pipeline.run_point_lt_of_flush t hr s⟩) j := by
  refine Pipeline.eq_sum_fin_of_reset_step_apply_of_flush (fun n h => (outsAt0 m c n h).2) 2 (fun _ => 0)
    (fun t j => part (iblk m c 0 t) (iblk m c 1 t) j) ?_ ?_ t hr j
  · intro t h j
    rw [outsAt0_A m c t h (by omega)]; frame_out; rw [pay2, pay1]
  · intro t h j
    rw [outsAt0_B m c t h (by omega)]; frame_out; rw [pay2, read_unread_whole]

/-- What that point writes back. -/
theorem out_eq (c : Dev nD) (t : Fin cfg0.N) (hr : t.val % 2 = 1) (j) : (outsAt0 m c t.val t.isLt).1 j = (outsAt0 m c t.val t.isLt).2 j := by
  rw [outsAt0_B m c t (by omega) hr]; frame_out; rw [pay3]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  have hr := (flush0_2 t).mp hf
  blk_simp
  rw [after0_2]
  refine (out_eq m c t hr y).trans ?_
  show _ = G _ _ _
  unfold G
  refine ((acc_eq m c t hr y).trans (zero_add _)).trans ?_
  refine Fin.sum_mul_add_congr (S := 2) (n := 1024) (fun s k hl => ?_)
  have h4 : 2 * (t.val / 2) + s.val < cfg0.N := Pipeline.run_point_lt_of_flush t hr s
  have e1 : (2 * (t.val / 2) + s.val) / 2 = t.val / 2 := by omega
  have e2 : (2 * (t.val / 2) + s.val) % 2 = s.val := by omega
  congr 1
  · blk_ext [iblk, V, idx ⟨2 * (t.val / 2) + s.val, h4⟩, idx t, e1, e2]
  · blk_ext [iblk, V, idx ⟨2 * (t.val / 2) + s.val, h4⟩, idx t, e1, e2]

open Cert.Reference22Ideal.Read in
/-- The reference computes the same function. -/
theorem ref (x : FVec Ideal S4096x2048 .f32) (y : FVec Ideal S256x2048 .f32) : val_main_v2 (F := Ideal) x y = G x y := by
  funext i
  rw [val_main_v2_apply]
  unfold G
  refine Finset.sum_congr rfl fun l _ => ?_
  congr 2 <;> (funext d; match d with | ⟨0, _⟩ => rfl | ⟨1, _⟩ => rfl)

local instance : Cert.Kernel22.Facts := Cert.Kernel22.Gen.facts
local instance : Cert.Kernel22Ideal.Facts := Cert.Kernel22Ideal.Gen.facts
local instance : Cert.Reference22Ideal.Facts := Cert.Reference22Ideal.Gen.facts

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- The two runs end with the same array. -/
theorem algebraic : Cert.algebraic_Kernel22Ideal_Reference22Ideal := by
  intro m ρ m' ρ' _ hm
  refine ⟨_, Cert.Kernel22Ideal.Value.run_blocks m ρ, (θ_run Cert.Reference22Ideal.defs _ _).mono (fun r h c => ?_) (Cert.Reference22Ideal.Value.run (F := Ideal) m' ρ')⟩
  obtain ⟨e0, e1⟩ := hm c
  refine ⟨(h c).1.trans ?_, (h c).2⟩
  rw [Cert.Reference22Ideal.Read.val_main_v2_eq, e0, e1]
  exact (ref _ _).trans (final m c).symm

end Cert.Mm22

end
-- ==== Proof.Gate.lean ====
/- The logistic function, as the kernels and the references spell it. -/
module

public import Idealize.ShloMosaic.PureOps.Ideal
public import proofs.«01_k».proof.Proof.Real

@[expose] public section

noncomputable section

namespace Cert.Gate

open Idealize.ShloMosaic

/-- The logistic function, as the kernel spells it. -/
def sg (g : EReal) : EReal := Ideal.div 1 (1 + Ideal.exp (0 - g))

/-- As the references spell it, with a negation and the constants as words. -/
theorem sg_reference (g : EReal) : Ideal.div (Ideal.ofBits .f32 0x3F800000#32) (Ideal.ofBits .f32 0x3F800000#32 + Ideal.exp (-g)) = sg g := by
  rw [Cert.Real.one, ← zero_sub]; rfl

end Cert.Gate

end
-- ==== Proof.Merge23.lean ====
/- The gated sum of the three branches: what the kernel writes, what the reference computes, and the claims about them. -/
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gate
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Merge23

open Cert.Kernel23Ideal Cert.Kernel23Ideal.Gen Cert.Gate

variable (m : (ℓ : Loc nD τ sig) → Buf (Elt Ideal) ℓ)

/-- The logistic gate read from column `o` on of the joined projection. -/
def gate (z : FVec Ideal S4096x8960 .f32) (o : ℕ) (h : o ≤ 7936) (i : S4096x1024.Idx) : EReal :=
  sg (z (ix2 (i 0) (⟨(i 1).val + o, Nat.lt_of_lt_of_le (Nat.add_lt_add_right (i 1).isLt o) (Nat.add_le_add_left h 1024)⟩ : Fin 8960)))

/-- The whole result: each branch times its gate, summed. -/
def G (z : FVec Ideal S4096x8960 .f32) (a b d : FVec Ideal S4096x1024 .f32) : FVec Ideal S4096x1024 .bf16 :=
  fun i => gate z 5632 (by decide) i * a i + gate z 6656 (by decide) i * b i + gate z 7680 (by decide) i * d i

/-- Which block of each array a grid point works on. -/
theorem idx : ∀ t : Fin cfg0.N, win0_0.index t = ![t.val / 2, t.val % 2 + 11] ∧ win0_1.index t = ![t.val / 2, t.val % 2 + 13] ∧ win0_2.index t = ![t.val / 2, t.val % 2 + 15]
    ∧ win0_3.index t = ![t.val / 2, t.val % 2] ∧ win0_4.index t = ![t.val / 2, t.val % 2] ∧ win0_5.index t = ![t.val / 2, t.val % 2] ∧ win0_6.index t = ![t.val / 2, t.val % 2] ∧ t.val / 2 < 8 :=
  (by decide +kernel : ∀ t : Fin grid0.N, _)

theorem pay (a x b y d z : Vec Ideal S512x512 .bf16) (j) : k0_pay1 (k0_pay2 a x b y) (k0_pay3 d) z j = sg (a j) * x j + sg (b j) * y j + sg (d j) * z j := by
  pointwise [k0_pay1, k0_pay2, k0_pay3]
  rfl

/-- The result array after the run. -/
theorem final (c : Dev nD) : (dats m 0 c).arrAt 6 (cfgs 0).N = G (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp
  rw [after0_6]; unfold outsAt0; frame_out
  rw [pay]
  show _ = G _ _ _ _ _
  unfold G gate
  refine congrArg₂ (· + ·) (congrArg₂ (· + ·) ?_ ?_) ?_
  · refine congrArg₂ (· * ·) (congrArg sg ?_) (by blk_ext [iblk, V, idx t])
    unfold X0_0 Pipeline.Window.fill; rw [dif_pos (moved0_0 t y)]; blk_ext [iblk, V, idx t]
  · refine congrArg₂ (· * ·) (congrArg sg ?_) (by blk_ext [iblk, V, idx t])
    unfold X0_1 Pipeline.Window.fill; rw [dif_pos (moved0_1 t y)]; blk_ext [iblk, V, idx t]
  · refine congrArg₂ (· * ·) (congrArg sg ?_) (by blk_ext [iblk, V, idx t])
    unfold X0_2 Pipeline.Window.fill; rw [dif_pos (moved0_2 t y)]; blk_ext [iblk, V, idx t]

open Cert.Reference23Ideal.Read

/-- The reference's three gates. -/
theorem ref_a (z : FVec Ideal S4096x8960 .f32) (i) : val_main_v9 (F := Ideal) z i = gate z 5632 (by decide) i := by
  refine (sg_reference (val_main_v1 (F := Ideal) z i)).trans (congrArg sg ?_)
  rw [val_main_v1_apply, val_main_v0_apply]
  congr 1; funext d; match d with | ⟨0, _⟩ => rfl | ⟨1, _⟩ => exact Fin.ext (show 5632 + (i 1).val = (i 1).val + 5632 by omega)

theorem ref_b (z : FVec Ideal S4096x8960 .f32) (i) : val_main_v16 (F := Ideal) z i = gate z 6656 (by decide) i := by
  refine (sg_reference (val_main_v2 (F := Ideal) z i)).trans (congrArg sg ?_)
  rw [val_main_v2_apply, val_main_v0_apply]
  congr 1; funext d; match d with | ⟨0, _⟩ => rfl | ⟨1, _⟩ => exact Fin.ext (show 5632 + (1024 + (i 1).val) = (i 1).val + 6656 by omega)

theorem ref_c (z : FVec Ideal S4096x8960 .f32) (i) : val_main_v24 (F := Ideal) z i = gate z 7680 (by decide) i := by
  refine (sg_reference (val_main_v3 (F := Ideal) z i)).trans (congrArg sg ?_)
  rw [val_main_v3_apply, val_main_v0_apply]
  congr 1; funext d; match d with | ⟨0, _⟩ => rfl | ⟨1, _⟩ => exact Fin.ext (show 5632 + (2048 + (i 1).val) = (i 1).val + 7680 by omega)

/-- The reference computes the same function. -/
theorem ref (z : FVec Ideal S4096x8960 .f32) (a b d : FVec Ideal S4096x1024 .f32) : val_main_v27 (F := Ideal) z a b d = G z a b d := by
  funext i
  show val_main_v9 (F := Ideal) z i * a i + val_main_v16 (F := Ideal) z i * b i + val_main_v24 (F := Ideal) z i * d i = _
  rw [ref_a, ref_b, ref_c]
  rfl

local instance : Cert.Kernel23.Facts := Cert.Kernel23.Gen.facts
local instance : Cert.Kernel23Ideal.Facts := Cert.Kernel23Ideal.Gen.facts
local instance : Cert.Reference23Ideal.Facts := Cert.Reference23Ideal.Gen.facts

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- The two runs end with the same array. -/
theorem algebraic : Cert.algebraic_Kernel23Ideal_Reference23Ideal := by
  intro m ρ m' ρ' _ hm
  refine ⟨_, Cert.Kernel23Ideal.Value.run_blocks m ρ, (θ_run Cert.Reference23Ideal.defs _ _).mono (fun r h c => ?_) (Cert.Reference23Ideal.Value.run (F := Ideal) m' ρ')⟩
  obtain ⟨e0, e1, e2, e3⟩ := hm c
  refine ⟨(h c).1.trans ?_, (h c).2⟩
  rw [Cert.Reference23Ideal.Read.val_main_v27_eq, e0, e1, e2, e3]
  exact (ref _ _ _ _).trans (final m c).symm

end Cert.Merge23

end
-- ==== Proof.Merge24.lean ====
/- The gradient of the gated sum of the three branches: what the kernel writes, what the reference computes, and the claims about them. -/
module

public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gate
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Merge24

open Cert.Kernel24Ideal Cert.Kernel24Ideal.Gen Cert.Gate

variable (m : (ℓ : Loc nD τ sig) → Buf (Elt Ideal) ℓ)

/-- The logistic gate read from column `o` on of the joined projection. -/
def gate (z : FVec Ideal S4096x8960 .f32) (o : ℕ) (h : o ≤ 7936) (i : S4096x1024.Idx) : EReal :=
  sg (z (ix2 (i 0) (⟨(i 1).val + o, Nat.lt_of_lt_of_le (Nat.add_lt_add_right (i 1).isLt o) (Nat.add_le_add_left h 1024)⟩ : Fin 8960)))

/-- The gradient in a branch: the incoming gradient times the branch's gate. -/
def DY (z : FVec Ideal S4096x8960 .f32) (o : ℕ) (h : o ≤ 7936) (dm : FVec Ideal S4096x1024 .f32) : FVec Ideal S4096x1024 .bf16 :=
  fun i => dm i * gate z o h i

/-- The gradient in a branch's gate before the logistic function. -/
def DL (z : FVec Ideal S4096x8960 .f32) (o : ℕ) (h : o ≤ 7936) (y dm : FVec Ideal S4096x1024 .f32) : FVec Ideal S4096x1024 .bf16 :=
  fun i => dm i * y i * gate z o h i * (1 - gate z o h i)

/-- Which block of each array a grid point works on. -/
theorem idx : ∀ t : Fin cfg0.N, win0_0.index t = ![t.val / 2, t.val % 2 + 11] ∧ win0_1.index t = ![t.val / 2, t.val % 2 + 13] ∧ win0_2.index t = ![t.val / 2, t.val % 2 + 15]
    ∧ win0_3.index t = ![t.val / 2, t.val % 2] ∧ win0_4.index t = ![t.val / 2, t.val % 2] ∧ win0_5.index t = ![t.val / 2, t.val % 2] ∧ win0_6.index t = ![t.val / 2, t.val % 2]
    ∧ win0_7.index t = ![t.val / 2, t.val % 2] ∧ t.val / 2 < 8 :=
  (by decide +kernel : ∀ t : Fin grid0.N, _)

theorem pay8 (d g : Vec Ideal S512x512 .bf16) (j) : k0_pay8 d g j = d j * sg (g j) := by
  pointwise [k0_pay8, k0_pay6, k0_pay7]; rfl

theorem pay11 (d g : Vec Ideal S512x512 .bf16) (j) : k0_pay1 (k0_pay11 d g) j = d j * sg (g j) := by
  pointwise [k0_pay1, k0_pay11, k0_pay6, k0_pay10]; rfl

theorem pay4 (d g : Vec Ideal S512x512 .bf16) (j) : k0_pay4 (k0_pay6 d) g j = d j * sg (g j) := by
  pointwise [k0_pay4, k0_pay6, k0_pay3]; rfl

theorem pay9 (d g y : Vec Ideal S512x512 .bf16) (j) : k0_pay9 d g y j = d j * y j * sg (g j) * (1 - sg (g j)) := by
  pointwise [k0_pay9, k0_pay6, k0_pay7]; rfl

theorem pay2 (d g y : Vec Ideal S512x512 .bf16) (j) : k0_pay2 (k0_pay6 d) (k0_pay10 g) y j = d j * y j * sg (g j) * (1 - sg (g j)) := by
  pointwise [k0_pay2, k0_pay6, k0_pay10]; rfl

theorem pay5 (d g y : Vec Ideal S512x512 .bf16) (j) : k0_pay5 (k0_pay6 d) g y j = d j * y j * sg (g j) * (1 - sg (g j)) := by
  pointwise [k0_pay5, k0_pay6, k0_pay3]; rfl

/-! The blocks a grid point reads, at the place of the results it writes. -/

theorem gate_a (c : Dev nD) (t : Fin cfg0.N) (y) : sg (X0_0 m c t y) = gate (m (c.tc.loc main_arg0)) 5632 (by decide) (((cfg0.win 7).blk t).view.emb y) := by
  unfold gate X0_0 Pipeline.Window.fill
  rw [dif_pos (moved0_0 t y)]
  exact congrArg sg (by blk_ext [iblk, V, idx t])

theorem gate_b (c : Dev nD) (t : Fin cfg0.N) (y) : sg (X0_1 m c t y) = gate (m (c.tc.loc main_arg0)) 6656 (by decide) (((cfg0.win 7).blk t).view.emb y) := by
  unfold gate X0_1 Pipeline.Window.fill
  rw [dif_pos (moved0_1 t y)]
  exact congrArg sg (by blk_ext [iblk, V, idx t])

theorem gate_d (c : Dev nD) (t : Fin cfg0.N) (y) : sg (X0_2 m c t y) = gate (m (c.tc.loc main_arg0)) 7680 (by decide) (((cfg0.win 7).blk t).view.emb y) := by
  unfold gate X0_2 Pipeline.Window.fill
  rw [dif_pos (moved0_2 t y)]
  exact congrArg sg (by blk_ext [iblk, V, idx t])

theorem read_y_a (c : Dev nD) (t : Fin cfg0.N) (y) : (iblk m c 3 t : Vec Ideal S512x512 .bf16) y = m (c.tc.loc main_arg1) (((cfg0.win 7).blk t).view.emb y) := by
  blk_ext [iblk, V, idx t]

theorem read_y_b (c : Dev nD) (t : Fin cfg0.N) (y) : (iblk m c 4 t : Vec Ideal S512x512 .bf16) y = m (c.tc.loc main_arg2) (((cfg0.win 7).blk t).view.emb y) := by
  blk_ext [iblk, V, idx t]

theorem read_y_d (c : Dev nD) (t : Fin cfg0.N) (y) : (iblk m c 5 t : Vec Ideal S512x512 .bf16) y = m (c.tc.loc main_arg3) (((cfg0.win 7).blk t).view.emb y) := by
  blk_ext [iblk, V, idx t]

theorem read_dm (c : Dev nD) (t : Fin cfg0.N) (y) : (iblk m c 6 t : Vec Ideal S512x512 .bf16) y = m (c.tc.loc main_arg4) (((cfg0.win 7).blk t).view.emb y) := by
  blk_ext [iblk, V, idx t]

/-! The result arrays after the run. -/

theorem final7 (c : Dev nD) : (dats m 0 c).arrAt 7 (cfgs 0).N = DY (m (c.tc.loc main_arg0)) 5632 (by decide) (m (c.tc.loc main_arg4)) := by
  refine (dats m 0 c).arrAt_eq_of_covers 7 _ (by decide +kernel) fun t hf y => ?_
  blk_simp
  rw [after0_7]; unfold outsAt0; frame_out
  rw [pay8, gate_a, read_dm]
  rfl

theorem final8 (c : Dev nD) : (dats m 0 c).arrAt 8 (cfgs 0).N = DY (m (c.tc.loc main_arg0)) 6656 (by decide) (m (c.tc.loc main_arg4)) := by
  refine (dats m 0 c).arrAt_eq_of_covers 8 _ (by decide +kernel) fun t hf y => ?_
  blk_simp
  rw [after0_8]; unfold outsAt0; frame_out
  rw [pay11, gate_b, read_dm]
  rfl

theorem final9 (c : Dev nD) : (dats m 0 c).arrAt 9 (cfgs 0).N = DY (m (c.tc.loc main_arg0)) 7680 (by decide) (m (c.tc.loc main_arg4)) := by
  refine (dats m 0 c).arrAt_eq_of_covers 9 _ (by decide +kernel) fun t hf y => ?_
  blk_simp
  rw [after0_9]; unfold outsAt0; frame_out
  rw [pay4, gate_d, read_dm]
  rfl

theorem final10 (c : Dev nD) : (dats m 0 c).arrAt 10 (cfgs 0).N = DL (m (c.tc.loc main_arg0)) 5632 (by decide) (m (c.tc.loc main_arg1)) (m (c.tc.loc main_arg4)) := by
  refine (dats m 0 c).arrAt_eq_of_covers 10 _ (by decide +kernel) fun t hf y => ?_
  blk_simp
  rw [after0_10]; unfold outsAt0; frame_out
  rw [pay9, gate_a, read_dm, read_y_a]
  rfl

theorem final11 (c : Dev nD) : (dats m 0 c).arrAt 11 (cfgs 0).N = DL (m (c.tc.loc main_arg0)) 6656 (by decide) (m (c.tc.loc main_arg2)) (m (c.tc.loc main_arg4)) := by
  refine (dats m 0 c).arrAt_eq_of_covers 11 _ (by decide +kernel) fun t hf y => ?_
  blk_simp
  rw [after0_11]; unfold outsAt0; frame_out
  rw [pay2, gate_b, read_dm, read_y_b]
  rfl

theorem final12 (c : Dev nD) : (dats m 0 c).arrAt 12 (cfgs 0).N = DL (m (c.tc.loc main_arg0)) 7680 (by decide) (m (c.tc.loc main_arg3)) (m (c.tc.loc main_arg4)) := by
  refine (dats m 0 c).arrAt_eq_of_covers 12 _ (by decide +kernel) fun t hf y => ?_
  blk_simp
  rw [after0_12]; unfold outsAt0; frame_out
  rw [pay5, gate_d, read_dm, read_y_d]
  rfl

open Cert.Reference24Ideal.Read

/-! The reference's three gates. -/

theorem ref_gate_a (z : FVec Ideal S4096x8960 .f32) (i) : val_main_v9 (F := Ideal) z i = gate z 5632 (by decide) i := by
  refine (sg_reference (val_main_v1 (F := Ideal) z i)).trans (congrArg sg ?_)
  rw [val_main_v1_apply, val_main_v0_apply]
  congr 1; funext d; match d with | ⟨0, _⟩ => rfl | ⟨1, _⟩ => exact Fin.ext (show 5632 + (i 1).val = (i 1).val + 5632 by omega)

theorem ref_gate_b (z : FVec Ideal S4096x8960 .f32) (i) : val_main_v19 (F := Ideal) z i = gate z 6656 (by decide) i := by
  refine (sg_reference (val_main_v2 (F := Ideal) z i)).trans (congrArg sg ?_)
  rw [val_main_v2_apply, val_main_v0_apply]
  congr 1; funext d; match d with | ⟨0, _⟩ => rfl | ⟨1, _⟩ => exact Fin.ext (show 5632 + (1024 + (i 1).val) = (i 1).val + 6656 by omega)

theorem ref_gate_d (z : FVec Ideal S4096x8960 .f32) (i) : val_main_v30 (F := Ideal) z i = gate z 7680 (by decide) i := by
  refine (sg_reference (val_main_v3 (F := Ideal) z i)).trans (congrArg sg ?_)
  rw [val_main_v3_apply, val_main_v0_apply]
  congr 1; funext d; match d with | ⟨0, _⟩ => rfl | ⟨1, _⟩ => exact Fin.ext (show 5632 + (2048 + (i 1).val) = (i 1).val + 7680 by omega)

/-- The incoming gradient as the reference reads it is the argument. -/
theorem whole_36 (dm : FVec Ideal S4096x1024 .f32) (i) : val_main_v36 (F := Ideal) dm i = dm i := shapeCast_apply _ _ i i rfl

theorem whole_37 (dm : FVec Ideal S4096x1024 .f32) (i) : val_main_v37 (F := Ideal) dm i = dm i := shapeCast_apply _ _ i i rfl

/-- The reference's product, brought to the kernel's order. -/
theorem order_l (g y d : EReal) : d * y * (g * (Ideal.ofBits .f32 0x3F800000#32 - g)) = d * y * g * (1 - g) := by
  rw [Cert.Real.one, ← mul_assoc]; rfl

theorem ref_dy_a (z : FVec Ideal S4096x8960 .f32) (dm : FVec Ideal S4096x1024 .f32) : val_main_v47 (F := Ideal) z dm = DY z 5632 (by decide) dm := by
  funext i
  show val_main_v9 (F := Ideal) z i * val_main_v36 (F := Ideal) dm i = _
  rw [ref_gate_a, whole_36]
  exact mul_comm (_ : EReal) _

theorem ref_dy_b (z : FVec Ideal S4096x8960 .f32) (dm : FVec Ideal S4096x1024 .f32) : val_main_v48 (F := Ideal) z dm = DY z 6656 (by decide) dm := by
  funext i
  show val_main_v19 (F := Ideal) z i * val_main_v36 (F := Ideal) dm i = _
  rw [ref_gate_b, whole_36]
  exact mul_comm (_ : EReal) _

theorem ref_dy_d (z : FVec Ideal S4096x8960 .f32) (dm : FVec Ideal S4096x1024 .f32) : val_main_v49 (F := Ideal) z dm = DY z 7680 (by decide) dm := by
  funext i
  show val_main_v30 (F := Ideal) z i * val_main_v37 (F := Ideal) dm i = _
  rw [ref_gate_d, whole_37]
  exact mul_comm (_ : EReal) _

theorem ref_dl_a (z : FVec Ideal S4096x8960 .f32) (y dm : FVec Ideal S4096x1024 .f32) : val_main_v50 (F := Ideal) z y dm = DL z 5632 (by decide) y dm := by
  funext i
  show val_main_v36 (F := Ideal) dm i * y i * (val_main_v9 (F := Ideal) z i * (Ideal.ofBits .f32 0x3F800000#32 - val_main_v9 (F := Ideal) z i)) = _
  rw [ref_gate_a, whole_36]
  exact order_l _ _ _

theorem ref_dl_b (z : FVec Ideal S4096x8960 .f32) (y dm : FVec Ideal S4096x1024 .f32) : val_main_v51 (F := Ideal) z y dm = DL z 6656 (by decide) y dm := by
  funext i
  show val_main_v36 (F := Ideal) dm i * y i * (val_main_v19 (F := Ideal) z i * (Ideal.ofBits .f32 0x3F800000#32 - val_main_v19 (F := Ideal) z i)) = _
  rw [ref_gate_b, whole_36]
  exact order_l _ _ _

theorem ref_dl_d (z : FVec Ideal S4096x8960 .f32) (y dm : FVec Ideal S4096x1024 .f32) : val_main_v52 (F := Ideal) z y dm = DL z 7680 (by decide) y dm := by
  funext i
  show val_main_v37 (F := Ideal) dm i * y i * (val_main_v30 (F := Ideal) z i * (Ideal.ofBits .f32 0x3F800000#32 - val_main_v30 (F := Ideal) z i)) = _
  rw [ref_gate_d, whole_37]
  exact order_l _ _ _

local instance : Cert.Kernel24.Facts := Cert.Kernel24.Gen.facts
local instance : Cert.Kernel24Ideal.Facts := Cert.Kernel24Ideal.Gen.facts
local instance : Cert.Reference24Ideal.Facts := Cert.Reference24Ideal.Gen.facts

theorem frame_kernel : Cert.quiescent_Kernel24 := fun m ρ _ => Cert.Kernel24.Gen.frame m ρ

theorem frame_ideal : Cert.quiescent_Kernel24Ideal := fun m ρ _ => Cert.Kernel24Ideal.Gen.frame m ρ

theorem frame_reference : Cert.quiescent_Reference24Ideal := fun m ρ _ =>
  (θ_run Cert.Reference24Ideal.defs _ _).mono (fun r h => ⟨fun c => (h c).2.2.2.2.2.2, sem_eq_zero_of_no_sems (by decide) r.2⟩)
    (Cert.Reference24Ideal.Value.run (F := Ideal) m ρ)

/-- The two runs end with the same six arrays. -/
theorem algebraic : Cert.algebraic_Kernel24Ideal_Reference24Ideal := by
  intro m ρ m' ρ' _ hm
  refine ⟨_, _, _, _, _, _, Cert.Kernel24Ideal.Value.run_blocks m ρ, (θ_run Cert.Reference24Ideal.defs _ _).mono (fun r h c => ?_) (Cert.Reference24Ideal.Value.run (F := Ideal) m' ρ')⟩
  obtain ⟨e0, e1, e2, e3, e4⟩ := hm c
  obtain ⟨h0, h1, h2, h3, h4, h5, hr⟩ := h c
  refine ⟨h0.trans ?_, h1.trans ?_, h2.trans ?_, h3.trans ?_, h4.trans ?_, h5.trans ?_, hr⟩
  · rw [Cert.Reference24Ideal.Read.val_main_v47_eq, e0, e4]
    exact (ref_dy_a _ _).trans (final7 m c).symm
  · rw [Cert.Reference24Ideal.Read.val_main_v48_eq, e0, e4]
    exact (ref_dy_b _ _).trans (final8 m c).symm
  · rw [Cert.Reference24Ideal.Read.val_main_v49_eq, e0, e4]
    exact (ref_dy_d _ _).trans (final9 m c).symm
  · rw [Cert.Reference24Ideal.Read.val_main_v50_eq, e0, e1, e4]
    exact (ref_dl_a _ _ _).trans (final10 m c).symm
  · rw [Cert.Reference24Ideal.Read.val_main_v51_eq, e0, e2, e4]
    exact (ref_dl_b _ _ _).trans (final11 m c).symm
  · rw [Cert.Reference24Ideal.Read.val_main_v52_eq, e0, e3, e4]
    exact (ref_dl_d _ _ _).trans (final12 m c).symm

end Cert.Merge24

end
-- ==== Proof.Norm25.lean ====
/- The norm of a row by its mean square: what the kernel writes, what the reference computes, and the claims about them. -/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Mm

@[expose] public section

set_option maxRecDepth 16384

noncomputable section

open Idealize.ShloMosaic Idealize.ShloMosaic.TcCoe Idealize.SL.Sem
open Idealize.ShloMosaic.Pipeline (Dat)

namespace Cert.Norm25

open Cert.Kernel25Ideal Cert.Kernel25Ideal.Gen

variable (m : (ℓ : Loc nD τ sig) → Buf (Elt Ideal) ℓ)

/-- One over the root of a row's mean square, the small constant added to the mean. -/
def scale {n : ℕ} (x : FVec Ideal (⟨2, ![n, 1024]⟩ : Shape) .f32) (r : Fin n) : EReal :=
  Ideal.rsqrt (Ideal.div (∑ l : Fin 1024, x (ix2 r l) * x (ix2 r l)) (Ideal.ofBits .f32 0x44800000#32) + Ideal.ofBits .f32 0x358637BD#32)

/-- The whole result: each row times its scale and the gains. -/
def G (x : FVec Ideal S4096x1024 .f32) (g : FVec Ideal S1024 .f32) : FVec Ideal S4096x1024 .bf16 :=
  fun i => x i * scale x (i 0) * g (ix1 (i 1))

/-- Which block of each array a grid point works on. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

theorem pay (x : Vec Ideal S512x1024 .f32) (g : Vec Ideal S1x1024 .f32) (j) : k0_pay1 x g j = x j * scale x (j 0) * g (ix2 0 (j 1)) := by
  pointwise [k0_pay1, scale]

/-- The result array after the run. -/
theorem final (c : Dev nD) : (dats m 0 c).arrAt 2 (cfgs 0).N = G (m (c.tc.loc main_arg0)) (m (c.tc.loc main_arg1)) := by
  refine (dats m 0 c).arrAt_eq_of_covers 2 _ (by decide +kernel) fun t hf y => ?_
  blk_simp
  rw [after0_2]; frame_out
  rw [pay]
  show _ = G _ _ _
  unfold G scale
  refine congrArg₂ (· * ·) (congrArg₂ (· * ·) (by blk_ext [iblk, V, idx t]) ?_) ?_
  · refine congrArg (fun s => Ideal.rsqrt (Ideal.div s _ + _)) (Finset.sum_congr rfl fun l _ => ?_)
    exact congrArg₂ (· * ·) (by blk_ext [iblk, V, idx t]) (by blk_ext [iblk, V, idx t])
  · blk_ext! [iblk, V, idx t]

open Cert.Reference25Ideal.Read in
/-- The reference computes the same function. -/
theorem ref (x : FVec Ideal S4096x1024 .f32) (g : FVec Ideal S1024 .f32) : val_main_v13 (F := Ideal) x g = G x g := by
  funext i
  show x i * val_main_v8 (F := Ideal) x i * val_main_v11 (F := Ideal) g i = _
  rw [val_main_v8_apply, val_main_v11_apply, val_main_v10_apply]
  unfold G
  refine congrArg₂ (· * ·) (congrArg (x i * ·) ?_) (congrArg g (funext fun d => by match d with | ⟨0, _⟩ => rfl))
  show Ideal.rsqrt (Ideal.div (val_main_v2 (F := Ideal) x _) (Ideal.ofBits .f32 0x44800000#32) + Ideal.ofBits .f32 0x358637BD#32) = _
  rw [val_main_v2_apply, val_main_v1_apply]
  unfold scale
  refine congrArg (fun s => Ideal.rsqrt (Ideal.div s _ + _)) ?_
  show Ideal.ofBits .f32 0x00000000#32 + _ = _
  rw [Cert.Real.zero]
  refine (zero_add _).trans (Finset.sum_congr rfl fun l _ => ?_)
  show x _ * x _ = _
  congr 2 <;> (funext d; match d with | ⟨0, _⟩ => rfl | ⟨1, _⟩ => rfl)

local instance : Cert.Kernel25.Facts := Cert.Kernel25.Gen.facts
local instance : Cert.Kernel25Ideal.Facts := Cert.Kernel25Ideal.Gen.facts
local instance : Cert.Reference25Ideal.Facts := Cert.Reference25Ideal.Gen.facts

theorem frame_kernel : Cert.quiescent_Kernel25 := fun m ρ _ => Cert.Kernel25.Gen.frame m ρ

theorem frame_ideal : Cert.quiescent_Kernel25Ideal := fun m ρ _ => Cert.Kernel25Ideal.Gen.frame m ρ

theorem frame_reference : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- The two runs end with the same array. -/
theorem algebraic : Cert.algebraic_Kernel25Ideal_Reference25Ideal := by
  intro m ρ m' ρ' _ hm
  refine ⟨_, Cert.Kernel25Ideal.Value.run_blocks m ρ, (θ_run Cert.Reference25Ideal.defs _ _).mono (fun r h c => ?_) (Cert.Reference25Ideal.Value.run (F := Ideal) m' ρ')⟩
  obtain ⟨e0, e1⟩ := hm c
  refine ⟨(h c).1.trans ?_, (h c).2⟩
  rw [Cert.Reference25Ideal.Read.val_main_v13_eq, e0, e1]
  exact (ref _ _).trans (final m c).symm

end Cert.Norm25

end
-- ==== Proof.lean ====
/- Every claim, program by program: the gradient of the latent attention (`MlaClaim`), the gradient of the gated unit (`DactClaim`), the products
(`Mm3` to `Mm22`), the gated sum of the branches (`Merge23`, `Merge24`) and the norm (`Norm25`). -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Kernel2Ideal.Value
public import proofs.«01_k».proof.Proof.Gen.Reference2Ideal.Run
public import proofs.«01_k».proof.Proof.Gen.Reference2Ideal.Read
public import proofs.«01_k».proof.Proof.DactClaim
public import proofs.«01_k».proof.Proof.MlaClaim
public import proofs.«01_k».proof.Proof.Gen.Kernel.Frame
public import proofs.«01_k».proof.Proof.Gen.KernelIdeal.Frame
public import proofs.«01_k».proof.Proof.Gen.Pre_finite1
public import proofs.«01_k».proof.Proof.Gen.KernelIdeal.Skeleton
public import proofs.«01_k».proof.Proof.Gen.KernelIdeal.Loops
public import proofs.«01_k».proof.Proof.Gen.Kernel.Skeleton
public import proofs.«01_k».proof.Proof.Gen.Kernel.Loops
public import proofs.«01_k».proof.Proof.Gen.ReferenceIdeal.Run
public import proofs.«01_k».proof.Proof.Gen.ReferenceIdeal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Mm17
public import proofs.«01_k».proof.Proof.Mm18
public import proofs.«01_k».proof.Proof.Mm19
public import proofs.«01_k».proof.Proof.Mm20
public import proofs.«01_k».proof.Proof.Mm21
public import proofs.«01_k».proof.Proof.Mm22
public import proofs.«01_k».proof.Proof.Merge23
public import proofs.«01_k».proof.Proof.Merge24
public import proofs.«01_k».proof.Proof.Norm25
public import Idealize.ShloMosaic.Adequacy
public import Idealize.ShloMosaic.Init

@[expose] public section

noncomputable section

namespace Cert.Proof

open Idealize.ShloMosaic Idealize.SL.Sem

/-- Everything that is claimed, program by program. -/
theorem claim : Cert.Claim := ⟨
  Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts, Cert.Kernel14Ideal.Gen.facts, Cert.Reference14Ideal.Gen.facts,
  Cert.Kernel15.Gen.facts, Cert.Kernel15Ideal.Gen.facts, Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts, Cert.Kernel18Ideal.Gen.facts, Cert.Reference18Ideal.Gen.facts,
  Cert.Kernel19.Gen.facts, Cert.Kernel19Ideal.Gen.facts, Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts, Cert.Kernel22Ideal.Gen.facts, Cert.Reference22Ideal.Gen.facts,
  Cert.Kernel23.Gen.facts, Cert.Kernel23Ideal.Gen.facts, Cert.Reference23Ideal.Gen.facts, Cert.Kernel24.Gen.facts, Cert.Kernel24Ideal.Gen.facts, Cert.Reference24Ideal.Gen.facts,
  Cert.Kernel25.Gen.facts, Cert.Kernel25Ideal.Gen.facts, Cert.Reference25Ideal.Gen.facts, Cert.Pre_finite1.Gen.facts, Cert.Pre_finite2.Gen.facts,
  MlaClaim.frame_kernel, MlaClaim.frame_ideal, fun m ρ _ => MlaClaim.frame_ideal m ρ trivial, MlaClaim.frame_reference,
  fun m ρ _ => MlaClaim.frame_reference m ρ trivial,
  DactClaim.frame_kernel, DactClaim.frame_ideal, fun m ρ _ => DactClaim.frame_ideal m ρ trivial, DactClaim.frame_reference,
  fun m ρ _ => DactClaim.frame_reference m ρ trivial,
  Mm3.frame_kernel, Mm3.frame_ideal, Mm3.frame_reference, Mm4.frame_kernel, Mm4.frame_ideal, Mm4.frame_reference,
  Mm5.frame_kernel, Mm5.frame_ideal, Mm5.frame_reference, Mm6.frame_kernel, Mm6.frame_ideal, Mm6.frame_reference,
  Mm7.frame_kernel, Mm7.frame_ideal, Mm7.frame_reference, Mm8.frame_kernel, Mm8.frame_ideal, Mm8.frame_reference,
  Mm9.frame_kernel, Mm9.frame_ideal, Mm9.frame_reference, Mm10.frame_kernel, Mm10.frame_ideal, Mm10.frame_reference,
  Mm11.frame_kernel, Mm11.frame_ideal, Mm11.frame_reference, Mm12.frame_kernel, Mm12.frame_ideal, Mm12.frame_reference,
  Mm13.frame_kernel, Mm13.frame_ideal, Mm13.frame_reference, Mm14.frame_kernel, Mm14.frame_ideal, Mm14.frame_reference,
  Mm15.frame_kernel, Mm15.frame_ideal, Mm15.frame_reference, Mm16.frame_kernel, Mm16.frame_ideal, Mm16.frame_reference,
  Mm17.frame_kernel, Mm17.frame_ideal, Mm17.frame_reference, Mm18.frame_kernel, Mm18.frame_ideal, Mm18.frame_reference,
  Mm19.frame_kernel, Mm19.frame_ideal, Mm19.frame_reference, Mm20.frame_kernel, Mm20.frame_ideal, Mm20.frame_reference,
  Mm21.frame_kernel, Mm21.frame_ideal, Mm21.frame_reference, Mm22.frame_kernel, Mm22.frame_ideal, Mm22.frame_reference,
  Merge23.frame_kernel, Merge23.frame_ideal, Merge23.frame_reference, Merge24.frame_kernel, Merge24.frame_ideal, Merge24.frame_reference,
  Norm25.frame_kernel, Norm25.frame_ideal, Norm25.frame_reference,
  trivial, MlaClaim.algebraic, trivial, DactClaim.algebraic,
  trivial, Mm3.algebraic, trivial, Mm4.algebraic, trivial, Mm5.algebraic, trivial, Mm6.algebraic,
  trivial, Mm7.algebraic, trivial, Mm8.algebraic, trivial, Mm9.algebraic, trivial, Mm10.algebraic,
  trivial, Mm11.algebraic, trivial, Mm12.algebraic, trivial, Mm13.algebraic, trivial, Mm14.algebraic,
  trivial, Mm15.algebraic, trivial, Mm16.algebraic, trivial, Mm17.algebraic, trivial, Mm18.algebraic,
  trivial, Mm19.algebraic, trivial, Mm20.algebraic, trivial, Mm21.algebraic, trivial, Mm22.algebraic,
  trivial, Merge23.algebraic, trivial, Merge24.algebraic, trivial, Norm25.algebraic⟩

end Cert.Proof

end
